-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  IdealRules.named_const.Statement Cert.KernelIdeal.κ "q_scale" .f32 0x3E38AA3B#32 ((8⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v29)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v29) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v113) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x4096x7168 : Shape := ⟨3, ![8, 4096, 7168]⟩
abbrev S8x256x2048 : Shape := ⟨3, ![8, 256, 2048]⟩
abbrev S1x64 : Shape := ⟨2, ![1, 64]⟩
abbrev S1x128 : Shape := ⟨2, ![1, 128]⟩
abbrev S8x4096x3072 : Shape := ⟨3, ![8, 4096, 3072]⟩
abbrev S_ : Shape := ⟨0, ![]⟩

class Facts : Prop where
  slices_S8x4096x7168_S8x4096x3072_0_0_2048 : S8x4096x7168.Slices ![0, 0, 2048] S8x4096x3072
  bcast_S_S8x4096x3072 : S_.BroadcastsInDim S8x4096x3072 (![] : Fin 0 → Fin S8x4096x3072.rank)
  bcast_S_S8x256x2048 : S_.BroadcastsInDim S8x256x2048 (![] : Fin 0 → Fin S8x256x2048.rank)
  bcast_S_S1x64 : S_.BroadcastsInDim S1x64 (![] : Fin 0 → Fin S1x64.rank)

variable [Facts]

def fn_part1 {F : FTy → Type} [FloatOps F] (main_v3 : IVec S8x4096x3072 1) (main_v6 : IVec S8x256x2048 1) (main_v9 : IVec S1x64 1) (main_v12 : IVec S1x64 1) (main_v15 : IVec S1x64 1) (main_v16 : FVec F S1x64 .f32) (main_v17 : FVec F S1x64 .f32) : IVec S8x4096x3072 1 × IVec S8x256x2048 1 × IVec S1x64 1 × IVec S1x64 1 × IVec S1x64 1 × IVec S1x64 1 :=
  let main_v18 : IVec S1x64 1 := cmpf .olt main_v16 main_v17
  (main_v3, main_v6, main_v9, main_v12, main_v15, main_v18)

def fn {F : FTy → Type} [FloatOps F] (main_arg0 : FVec F S8x4096x7168 .bf16) (main_arg1 : FVec F S8x256x2048 .bf16) (main_arg2 : FVec F S1x64 .f32) (main_arg3 : FVec F S1x64 .f32) (main_arg4 : FVec F S1x64 .f32) (main_arg5 : FVec F S1x64 .f32) (main_arg6 : FVec F S1x128 .f32) : IVec S8x4096x3072 1 × IVec S8x256x2048 1 × IVec S1x64 1 × IVec S1x64 1 × IVec S1x64 1 × IVec S1x64 1 :=
  let main_v0 : FVec F S8x4096x3072 .bf16 := (extractStridedSlice S8x4096x3072 ![0, 0, 2048] · slices_S8x4096x7168_S8x4096x3072_0_0_2048) main_arg0
  let main_v1 : FVec F S8x4096x3072 .bf16 := Host.absf main_v0
  let main_cst : FVec F S_ .bf16 := constant S_ .bf16 0x7F80#16
  let main_v2 : FVec F S8x4096x3072 .bf16 := broadcastInDim S8x4096x3072 ![] bcast_S_S8x4096x3072 main_cst
  let main_v3 : IVec S8x4096x3072 1 := cmpf .olt main_v1 main_v2
  let main_v4 : FVec F S8x256x2048 .bf16 := Host.absf main_arg1
  let main_cst_0 : FVec F S_ .bf16 := constant S_ .bf16 0x7F80#16
  let main_v5 : FVec F S8x256x2048 .bf16 := broadcastInDim S8x256x2048 ![] bcast_S_S8x256x2048 main_cst_0
  let main_v6 : IVec S8x256x2048 1 := cmpf .olt main_v4 main_v5
  let main_v7 : FVec F S1x64 .f32 := Host.absf main_arg2
  let main_cst_1 : FVec F S_ .f32 := constant S_ .f32 0x7F800000#32
  let main_v8 : FVec F S1x64 .f32 := broadcastInDim S1x64 ![] bcast_S_S1x64 main_cst_1
  let main_v9 : IVec S1x64 1 := cmpf .olt main_v7 main_v8
  let main_v10 : FVec F S1x64 .f32 := Host.absf main_arg3
  let main_cst_2 : FVec F S_ .f32 := constant S_ .f32 0x7F800000#32
  let main_v11 : FVec F S1x64 .f32 := broadcastInDim S1x64 ![] bcast_S_S1x64 main_cst_2
  let main_v12 : IVec S1x64 1 := cmpf .olt main_v10 main_v11
  let main_v13 : FVec F S1x64 .f32 := Host.absf main_arg4
  let main_cst_3 : FVec F S_ .f32 := constant S_ .f32 0x7F800000#32
  let main_v14 : FVec F S1x64 .f32 := broadcastInDim S1x64 ![] bcast_S_S1x64 main_cst_3
  let main_v15 : IVec S1x64 1 := cmpf .olt main_v13 main_v14
  let main_v16 : FVec F S1x64 .f32 := Host.absf main_arg5
  let main_cst_4 : FVec F S_ .f32 := constant S_ .f32 0x7F800000#32
  let main_v17 : FVec F S1x64 .f32 := broadcastInDim S1x64 ![] bcast_S_S1x64 main_cst_4
  fn_part1 (F := F) main_v3 main_v6 main_v9 main_v12 main_v15 main_v16 main_v17
-- ==== Kernel.lean ====
abbrev S8x4096x7168 : Shape := ⟨3, ![8, 4096, 7168]⟩
abbrev S8x256x2048 : Shape := ⟨3, ![8, 256, 2048]⟩
abbrev S1x64 : Shape := ⟨2, ![1, 64]⟩
abbrev S1x128 : Shape := ⟨2, ![1, 128]⟩
abbrev S64 : Shape := ⟨1, ![64]⟩
abbrev S4x64 : Shape := ⟨2, ![4, 64]⟩
abbrev S128 : Shape := ⟨1, ![128]⟩
abbrev S8x4096x1024 : Shape := ⟨3, ![8, 4096, 1024]⟩
abbrev S1x4096x128 : Shape := ⟨3, ![1, 4096, 128]⟩
abbrev S1x256x128 : Shape := ⟨3, ![1, 256, 128]⟩
abbrev S4352x256 : Shape := ⟨2, ![4352, 256]⟩
abbrev S4096x128 : Shape := ⟨2, ![4096, 128]⟩
abbrev S256x128 : Shape := ⟨2, ![256, 128]⟩
abbrev S4352x128 : Shape := ⟨2, ![4352, 128]⟩
abbrev S1 : Shape := ⟨1, ![1]⟩
abbrev S1x1 : Shape := ⟨2, ![1, 1]⟩
abbrev S512x128 : Shape := ⟨2, ![512, 128]⟩
abbrev S1x1536x128 : Shape := ⟨3, ![1, 1536, 128]⟩
abbrev S1536x128 : Shape := ⟨2, ![1536, 128]⟩
abbrev S512x1536 : Shape := ⟨2, ![512, 1536]⟩
abbrev S512 : Shape := ⟨1, ![512]⟩
abbrev S512x1 : Shape := ⟨2, ![512, 1]⟩
abbrev S1536x256 : Shape := ⟨2, ![1536, 256]⟩
abbrev S512x256 : Shape := ⟨2, ![512, 256]⟩
abbrev S1x1024x128 : Shape := ⟨3, ![1, 1024, 128]⟩
abbrev S1024x128 : Shape := ⟨2, ![1024, 128]⟩
abbrev S512x1024 : Shape := ⟨2, ![512, 1024]⟩
abbrev S512x1280 : Shape := ⟨2, ![512, 1280]⟩
abbrev S1280x256 : Shape := ⟨2, ![1280, 256]⟩
abbrev S256 : Shape := ⟨1, ![256]⟩
abbrev S256x1 : Shape := ⟨2, ![256, 1]⟩

abbrev nBuf : Space → Nat
  | .hbm => 19
  | .vmem => 15
  | .smem => 0
  | _ => 0

abbrev bufTy : (tb : Table) → Fin (tcTables nBuf tb) → BufTy
  | .hbm, ⟨0, _⟩ => ⟨S8x4096x7168, .bf16⟩
  | .hbm, ⟨1, _⟩ => ⟨S8x256x2048, .bf16⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x128, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S4x64, .f32⟩
  | .hbm, ⟨16, _⟩ => ⟨S128, .f32⟩
  | .hbm, ⟨17, _⟩ => ⟨S1x128, .f32⟩
  | .hbm, ⟨18, _⟩ => ⟨S8x4096x1024, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S4x64, .f32⟩
  | .local _ .vmem, ⟨11, _⟩ => ⟨S1x128, .f32⟩
  | .local _ .vmem, ⟨12, _⟩ => ⟨S1x4096x128, .bf16⟩
  | .local _ .vmem, ⟨13, _⟩ => ⟨S1x4096x128, .bf16⟩
  | .local _ .vmem, ⟨14, _⟩ => ⟨S4352x256, .bf16⟩
  | _, _ => ⟨S8x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32 : BitVec 32 := 0#32
  let c16_i32 : BitVec 32 := 16#32
  let v31 : BitVec 32 := Scalar.addi c0_i32 c16_i32
  let c1_i32 : BitVec 32 := 1#32
  ⟨c0_i32, v31, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32 : BitVec 32 := 256#32
  let v32 : BitVec 32 := Scalar.muli arg11 c256_i32
  v32
def k0_off1 (k0_t1 : Fin k0_t1_loop.trips) : Fin 3 → Nat :=
  let c0_15 : Index := 0#32
  let c0_i32 : BitVec 32 := 0#32
  let c1_i32 : BitVec 32 := 1#32
  let arg11 : BitVec 32 := Scf.iv c0_i32 c1_i32 k0_t1
  let c256_i32 : BitVec 32 := 256#32
  let v32 : BitVec 32 := Scalar.muli arg11 c256_i32
  let v33 : BitVec 32 := v32
  let v34 : Index := Scalar.indexCast v33
  let c0_16 : Index := 0#32
  ![0, v34.toNat, 0]
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "q_scale" => some ((8⁻¹ * (Real.log 2)⁻¹ : ℝ) : EReal)
  | _ => none
-- ==== ReferenceIdeal.lean ====
abbrev S8x4096x7168 : Shape := ⟨3, ![8, 4096, 7168]⟩
abbrev S8x256x2048 : Shape := ⟨3, ![8, 256, 2048]⟩
abbrev S1x64 : Shape := ⟨2, ![1, 64]⟩
abbrev S1x128 : Shape := ⟨2, ![1, 128]⟩
abbrev S64 : Shape := ⟨1, ![64]⟩
abbrev S_ : Shape := ⟨0, ![]⟩
abbrev S8x4096x1024 : Shape := ⟨3, ![8, 4096, 1024]⟩
abbrev S8x256x1024 : Shape := ⟨3, ![8, 256, 1024]⟩
abbrev S8x4096x8x2x64 : Shape := ⟨5, ![8, 4096, 8, 2, 64]⟩
abbrev S8x4352x1024 : Shape := ⟨3, ![8, 4352, 1024]⟩
abbrev S8x4352x8x2x64 : Shape := ⟨5, ![8, 4352, 8, 2, 64]⟩
abbrev S8x4352x8x128 : Shape := ⟨4, ![8, 4352, 8, 128]⟩
abbrev S8x8x2x4096x4352 : Shape := ⟨5, ![8, 8, 2, 4096, 4352]⟩
abbrev S8x8x2x4096 : Shape := ⟨4, ![8, 8, 2, 4096]⟩
abbrev S8x8x2x4096x1 : Shape := ⟨5, ![8, 8, 2, 4096, 1]⟩
abbrev S8x8x1x4096x4352 : Shape := ⟨5, ![8, 8, 1, 4096, 4352]⟩
abbrev S8x8x4096x4352 : Shape := ⟨4, ![8, 8, 4096, 4352]⟩
abbrev S8x8x128x4096 : Shape := ⟨4, ![8, 8, 128, 4096]⟩
abbrev S8x4096x8x128 : Shape := ⟨4, ![8, 4096, 8, 128]⟩
abbrev S128 : Shape := ⟨1, ![128]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩

abbrev nBuf : Space → Nat
  | .hbm => 86
  | .vmem => 0
  | .smem => 0
  | _ => 0

abbrev bufTy : (tb : Table) → Fin (tcTables nBuf tb) → BufTy
  | .hbm, ⟨0, _⟩ => ⟨S8x4096x7168, .bf16⟩
  | .hbm, ⟨1, _⟩ => ⟨S8x256x2048, .bf16⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x128, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8x4096x1024, .bf16⟩
  | .hbm, ⟨23, _⟩ => ⟨S8x4096x1024, .f32⟩
  | .hbm, ⟨24, _⟩ => ⟨S8x4096x1024, .bf16⟩
  | .hbm, ⟨25, _⟩ => ⟨S8x4096x1024, .f32⟩
  | .hbm, ⟨26, _⟩ => ⟨S8x4096x1024, .bf16⟩
  | .hbm, ⟨27, _⟩ => ⟨S8x4096x1024, .f32⟩
  | .hbm, ⟨28, _⟩ => ⟨S8x256x1024, .bf16⟩
  | .hbm, ⟨29, _⟩ => ⟨S8x256x1024, .f32⟩
  | .hbm, ⟨30, _⟩ => ⟨S8x256x1024, .bf16⟩
  | .hbm, ⟨31, _⟩ => ⟨S8x256x1024, .f32⟩
  | .hbm, ⟨32, _⟩ => ⟨S8x4096x8x2x64, .f32⟩
  | .hbm, ⟨33, _⟩ => ⟨S8x4352x1024, .f32⟩
  | .hbm, ⟨34, _⟩ => ⟨S8x4352x8x2x64, .f32⟩
  | .hbm, ⟨35, _⟩ => ⟨S8x4352x1024, .f32⟩
  | .hbm, ⟨36, _⟩ => ⟨S8x4352x8x128, .f32⟩
  | .hbm, ⟨37, _⟩ => ⟨S8x8x2x4096x4352, .f32⟩
  | .hbm, ⟨38, _⟩ => ⟨S_, .f32⟩
  | .hbm, ⟨39, _⟩ => ⟨S8x8x2x4096x4352, .f32⟩
  | .hbm, ⟨40, _⟩ => ⟨S8x8x2x4096x4352, .f32⟩
  | .hbm, ⟨41, _⟩ => ⟨S_, .f32⟩
  | .hbm, ⟨42, _⟩ => ⟨S8x8x2x4096, .f32⟩
  | .hbm, ⟨43, _⟩ => ⟨S_, .f32⟩
  | .hbm, ⟨44, _⟩ => ⟨S8x8x2x4096, .f32⟩
  | .hbm, ⟨45, _⟩ => ⟨S8x8x2x4096, .f32⟩
  | .hbm, ⟨46, _⟩ => ⟨S8x8x2x4096x1, .f32⟩
  | .hbm, ⟨47, _⟩ => ⟨S8x8x2x4096x4352, .f32⟩
  | .hbm, ⟨48, _⟩ => ⟨S8x8x2x4096x4352, .f32⟩
  | .hbm, ⟨49, _⟩ => ⟨S8x8x2x4096x4352, .f32⟩
  | .hbm, ⟨50, _⟩ => ⟨S_, .f32⟩
  | .hbm, ⟨51, _⟩ => ⟨S8x8x2x4096, .f32⟩
  | .hbm, ⟨52, _⟩ => ⟨S8x8x2x4096x1, .f32⟩
  | .hbm, ⟨53, _⟩ => ⟨S8x8x2x4096x4352, .f32⟩
  | .hbm, ⟨54, _⟩ => ⟨S8x8x2x4096x4352, .f32⟩
  | .hbm, ⟨55, _⟩ => ⟨S8x8x1x4096x4352, .f32⟩
  | .hbm, ⟨56, _⟩ => ⟨S8x8x4096x4352, .f32⟩
  | .hbm, ⟨57, _⟩ => ⟨S8x8x1x4096x4352, .f32⟩
  | .hbm, ⟨58, _⟩ => ⟨S8x8x4096x4352, .f32⟩
  | .hbm, ⟨59, _⟩ => ⟨S8x8x4096x4352, .f32⟩
  | .hbm, ⟨60, _⟩ => ⟨S8x8x4096x4352, .f32⟩
  | .hbm, ⟨61, _⟩ => ⟨S8x8x4096x4352, .f32⟩
  | .hbm, ⟨62, _⟩ => ⟨S8x8x128x4096, .f32⟩
  | .hbm, ⟨63, _⟩ => ⟨S8x4096x8x128, .f32⟩
  | .hbm, ⟨64, _⟩ => ⟨S128, .f32⟩
  | .hbm, ⟨65, _⟩ => ⟨S8x4096x8x128, .f32⟩
  | .hbm, ⟨66, _⟩ => ⟨S_, .f32⟩
  | .hbm, ⟨67, _⟩ => ⟨S8x4096x8, .f32⟩
  | .hbm, ⟨68, _⟩ => ⟨S8x4096x8x1, .f32⟩
  | .hbm, ⟨69, _⟩ => ⟨S_, .f32⟩
  | .hbm, ⟨70, _⟩ => ⟨S8x4096x8x1, .f32⟩
  | .hbm, ⟨71, _⟩ => ⟨S8x4096x8x1, .f32⟩
  | .hbm, ⟨72, _⟩ => ⟨S_, .f32⟩
  | .hbm, ⟨73, _⟩ => ⟨S8x4096x8x1, .f32⟩
  | .hbm, ⟨74, _⟩ => ⟨S8x4096x8x1, .f32⟩
  | .hbm, ⟨75, _⟩ => ⟨S8x4096x8x1, .f32⟩
  | .hbm, ⟨76, _⟩ => ⟨S8x4096x8x128, .f32⟩
  | .hbm, ⟨77, _⟩ => ⟨S8x4096x8x128, .f32⟩
  | .hbm, ⟨78, _⟩ => ⟨S1x1x1x128, .f32⟩
  | .hbm, ⟨79, _⟩ => ⟨S8x4096x8x128, .f32⟩
  | .hbm, ⟨80, _⟩ => ⟨S8x4096x8x128, .f32⟩
  | .hbm, ⟨81, _⟩ => ⟨S_, .f32⟩
  | .hbm, ⟨82, _⟩ => ⟨S8x4096x8x128, .f32⟩
  | .hbm, ⟨83, _⟩ => ⟨S8x4096x8x128, .f32⟩
  | .hbm, ⟨84, _⟩ => ⟨S8x4096x1024, .f32⟩
  | .hbm, ⟨85, _⟩ => ⟨S8x4096x1024, .bf16⟩
  | _, _ => ⟨S8x4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_9 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== Kernel2.lean ====
abbrev S8x4096x1024 : Shape := ⟨3, ![8, 4096, 1024]⟩
abbrev S16x9x1024 : Shape := ⟨3, ![16, 9, 1024]⟩
abbrev S1x6x1024 : Shape := ⟨3, ![1, 6, 1024]⟩
abbrev S1x2x1024x5632 : Shape := ⟨4, ![1, 2, 1024, 5632]⟩
abbrev S1x2x2816x1024 : Shape := ⟨4, ![1, 2, 2816, 1024]⟩
abbrev S6x1024 : Shape := ⟨2, ![6, 1024]⟩
abbrev S2x1024x5632 : Shape := ⟨3, ![2, 1024, 5632]⟩
abbrev S2x2816x1024 : Shape := ⟨3, ![2, 2816, 1024]⟩
abbrev S1x512x1024 : Shape := ⟨3, ![1, 512, 1024]⟩
abbrev S1x9x1024 : Shape := ⟨3, ![1, 9, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1024x1536 : Shape := ⟨3, ![1, 1024, 1536]⟩
abbrev S1024x1536 : Shape := ⟨2, ![1024, 1536]⟩
abbrev S512x1536 : Shape := ⟨2, ![512, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S512x1280 : Shape := ⟨2, ![512, 1280]⟩
abbrev S1x1280x1024 : Shape := ⟨3, ![1, 1280, 1024]⟩
abbrev S1280x1024 : Shape := ⟨2, ![1280, 1024]⟩

abbrev nBuf : Space → Nat
  | .hbm => 11
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S16x9x1024, .f32⟩
  | .hbm, ⟨2, _⟩ => ⟨S1x6x1024, .f32⟩
  | .hbm, ⟨3, _⟩ => ⟨S1x2x1024x5632, .f32⟩
  | .hbm, ⟨4, _⟩ => ⟨S1x2x2816x1024, .f32⟩
  | .hbm, ⟨5, _⟩ => ⟨S6x1024, .f32⟩
  | .hbm, ⟨6, _⟩ => ⟨S2x1024x5632, .f32⟩
  | .hbm, ⟨7, _⟩ => ⟨S2x1024x5632, .bf16⟩
  | .hbm, ⟨8, _⟩ => ⟨S2x2816x1024, .f32⟩
  | .hbm, ⟨9, _⟩ => ⟨S2x2816x1024, .bf16⟩
  | .hbm, ⟨10, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S6x1024, .f32⟩
  | .local _ .vmem, ⟨5, _⟩ => ⟨S1x1024x5632, .bf16⟩
  | .local _ .vmem, ⟨6, _⟩ => ⟨S1x2816x1024, .bf16⟩
  | .local _ .vmem, ⟨7, _⟩ => ⟨S1x512x1024, .f32⟩
  | .local _ .vmem, ⟨8, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8x4096x1024 : Shape := ⟨3, ![8, 4096, 1024]⟩
abbrev S16x9x1024 : Shape := ⟨3, ![16, 9, 1024]⟩
abbrev S1x6x1024 : Shape := ⟨3, ![1, 6, 1024]⟩
abbrev S1x2x1024x5632 : Shape := ⟨4, ![1, 2, 1024, 5632]⟩
abbrev S1x2x2816x1024 : Shape := ⟨4, ![1, 2, 2816, 1024]⟩
abbrev S8x1x1024 : Shape := ⟨3, ![8, 1, 1024]⟩
abbrev S8x1024 : Shape := ⟨2, ![8, 1024]⟩
abbrev S1x1x1024 : Shape := ⟨3, ![1, 1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S8x4096x5632 : Shape := ⟨3, ![8, 4096, 5632]⟩
abbrev S8x4096x2816 : Shape := ⟨3, ![8, 4096, 2816]⟩

abbrev nBuf : Space → Nat
  | .hbm => 81
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S16x9x1024, .f32⟩
  | .hbm, ⟨2, _⟩ => ⟨S1x6x1024, .f32⟩
  | .hbm, ⟨3, _⟩ => ⟨S1x2x1024x5632, .f32⟩
  | .hbm, ⟨4, _⟩ => ⟨S1x2x2816x1024, .f32⟩
  | .hbm, ⟨5, _⟩ => ⟨S8x1x1024, .f32⟩
  | .hbm, ⟨6, _⟩ => ⟨S8x1024, .f32⟩
  | .hbm, ⟨7, _⟩ => ⟨S8x1x1024, .f32⟩
  | .hbm, ⟨8, _⟩ => ⟨S8x1x1024, .f32⟩
  | .hbm, ⟨9, _⟩ => ⟨S8x1024, .f32⟩
  | .hbm, ⟨10, _⟩ => ⟨S8x1x1024, .f32⟩
  | .hbm, ⟨11, _⟩ => ⟨S8x1x1024, .f32⟩
  | .hbm, ⟨12, _⟩ => ⟨S8x1024, .f32⟩
  | .hbm, ⟨13, _⟩ => ⟨S8x1x1024, .f32⟩
  | .hbm, ⟨14, _⟩ => ⟨S1x1x1024, .f32⟩
  | .hbm, ⟨15, _⟩ => ⟨S1024, .f32⟩
  | .hbm, ⟨16, _⟩ => ⟨S8x4096x1024, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S8x4096x1, .f32⟩
  | .hbm, ⟨27, _⟩ => ⟨S8x4096x1024, .f32⟩
  | .hbm, ⟨28, _⟩ => ⟨S8x4096x1024, .f32⟩
  | .hbm, ⟨29, _⟩ => ⟨S1x1x1024, .f32⟩
  | .hbm, ⟨30, _⟩ => ⟨S8x4096x1024, .f32⟩
  | .hbm, ⟨31, _⟩ => ⟨S8x4096x1024, .f32⟩
  | .hbm, ⟨32, _⟩ => ⟨S_, .f32⟩
  | .hbm, ⟨33, _⟩ => ⟨S8x1x1024, .f32⟩
  | .hbm, ⟨34, _⟩ => ⟨S8x1x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S1x1x1024x5632, .f32⟩
  | .hbm, ⟨40, _⟩ => ⟨S1024x5632, .f32⟩
  | .hbm, ⟨41, _⟩ => ⟨S1x1x2816x1024, .f32⟩
  | .hbm, ⟨42, _⟩ => ⟨S2816x1024, .f32⟩
  | .hbm, ⟨43, _⟩ => ⟨S8x4096x5632, .f32⟩
  | .hbm, ⟨44, _⟩ => ⟨S8x4096x2816, .f32⟩
  | .hbm, ⟨45, _⟩ => ⟨S8x4096x2816, .f32⟩
  | .hbm, ⟨46, _⟩ => ⟨S8x4096x2816, .f32⟩
  | .hbm, ⟨47, _⟩ => ⟨S8x4096x2816, .f32⟩
  | .hbm, ⟨48, _⟩ => ⟨S_, .f32⟩
  | .hbm, ⟨49, _⟩ => ⟨S8x4096x2816, .f32⟩
  | .hbm, ⟨50, _⟩ => ⟨S8x4096x2816, .f32⟩
  | .hbm, ⟨51, _⟩ => ⟨S_, .f32⟩
  | .hbm, ⟨52, _⟩ => ⟨S8x4096x2816, .f32⟩
  | .hbm, ⟨53, _⟩ => ⟨S8x4096x2816, .f32⟩
  | .hbm, ⟨54, _⟩ => ⟨S8x4096x2816, .f32⟩
  | .hbm, ⟨55, _⟩ => ⟨S8x4096x2816, .f32⟩
  | .hbm, ⟨56, _⟩ => ⟨S8x4096x1024, .f32⟩
  | .hbm, ⟨57, _⟩ => ⟨S_, .f32⟩
  | .hbm, ⟨58, _⟩ => ⟨S8x1x1024, .f32⟩
  | .hbm, ⟨59, _⟩ => ⟨S8x1x1024, .f32⟩
  | .hbm, ⟨60, _⟩ => ⟨S1x1x1024, .f32⟩
  | .hbm, ⟨61, _⟩ => ⟨S1024, .f32⟩
  | .hbm, ⟨62, _⟩ => ⟨S8x4096x1024, .f32⟩
  | .hbm, ⟨63, _⟩ => ⟨S_, .f32⟩
  | .hbm, ⟨64, _⟩ => ⟨S8x4096, .f32⟩
  | .hbm, ⟨65, _⟩ => ⟨S8x4096x1, .f32⟩
  | .hbm, ⟨66, _⟩ => ⟨S_, .f32⟩
  | .hbm, ⟨67, _⟩ => ⟨S8x4096x1, .f32⟩
  | .hbm, ⟨68, _⟩ => ⟨S8x4096x1, .f32⟩
  | .hbm, ⟨69, _⟩ => ⟨S_, .f32⟩
  | .hbm, ⟨70, _⟩ => ⟨S8x4096x1, .f32⟩
  | .hbm, ⟨71, _⟩ => ⟨S8x4096x1, .f32⟩
  | .hbm, ⟨72, _⟩ => ⟨S8x4096x1, .f32⟩
  | .hbm, ⟨73, _⟩ => ⟨S8x4096x1024, .f32⟩
  | .hbm, ⟨74, _⟩ => ⟨S8x4096x1024, .f32⟩
  | .hbm, ⟨75, _⟩ => ⟨S1x1x1024, .f32⟩
  | .hbm, ⟨76, _⟩ => ⟨S8x4096x1024, .f32⟩
  | .hbm, ⟨77, _⟩ => ⟨S8x4096x1024, .f32⟩
  | .hbm, ⟨78, _⟩ => ⟨S8x4096x1024, .f32⟩
  | .hbm, ⟨79, _⟩ => ⟨S8x4096x1024, .f32⟩
  | .hbm, ⟨80, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_3 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_4 : Ref sig .tc := ⟨.hbm, 63, rfl⟩
abbrev main_v45 : Ref sig .tc := ⟨.hbm, 64, rfl⟩
abbrev main_v46 : Ref sig .tc := ⟨.hbm, 65, rfl⟩
abbrev main_cst_5 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x4096x7168 : Shape := ⟨3, ![8, 4096, 7168]⟩
abbrev S16x9x1024 : Shape := ⟨3, ![16, 9, 1024]⟩
abbrev S1x6x1024 : Shape := ⟨3, ![1, 6, 1024]⟩
abbrev S1x1024x1024 : Shape := ⟨3, ![1, 1024, 1024]⟩
abbrev S6x1024 : Shape := ⟨2, ![6, 1024]⟩
abbrev S1024x1024 : Shape := ⟨2, ![1024, 1024]⟩
abbrev S1x512x1024 : Shape := ⟨3, ![1, 512, 1024]⟩
abbrev S1x9x1024 : Shape := ⟨3, ![1, 9, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 17
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S8x4096x1024, .bf16⟩
  | .hbm, ⟨3, _⟩ => ⟨S8x4096x7168, .bf16⟩
  | .hbm, ⟨4, _⟩ => ⟨S16x9x1024, .f32⟩
  | .hbm, ⟨5, _⟩ => ⟨S1x6x1024, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S6x1024, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x9x1024, .f32⟩
  | .local _ .vmem, ⟨11, _⟩ => ⟨S1x9x1024, .f32⟩
  | .local _ .vmem, ⟨12, _⟩ => ⟨S6x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1x512x1024, .f32⟩
  | .local _ .vmem, ⟨17, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_4 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x9x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S6x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S8x4096x1024 : Shape := ⟨3, ![8, 4096, 1024]⟩
abbrev S8x4096x7168 : Shape := ⟨3, ![8, 4096, 7168]⟩
abbrev S16x9x1024 : Shape := ⟨3, ![16, 9, 1024]⟩
abbrev S1x6x1024 : Shape := ⟨3, ![1, 6, 1024]⟩
abbrev S1x1024x1024 : Shape := ⟨3, ![1, 1024, 1024]⟩
abbrev S1024x1024 : Shape := ⟨2, ![1024, 1024]⟩
abbrev S8x4096x2048 : Shape := ⟨3, ![8, 4096, 2048]⟩
abbrev S8x1x1024 : Shape := ⟨3, ![8, 1, 1024]⟩
abbrev S8x1024 : Shape := ⟨2, ![8, 1024]⟩
abbrev S1x1x1024 : Shape := ⟨3, ![1, 1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩

abbrev nBuf : Space → Nat
  | .hbm => 48
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S8x4096x1024, .bf16⟩
  | .hbm, ⟨3, _⟩ => ⟨S8x4096x7168, .bf16⟩
  | .hbm, ⟨4, _⟩ => ⟨S16x9x1024, .f32⟩
  | .hbm, ⟨5, _⟩ => ⟨S1x6x1024, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S8x4096x1024, .f32⟩
  | .hbm, ⟨10, _⟩ => ⟨S1024x1024, .f32⟩
  | .hbm, ⟨11, _⟩ => ⟨S8x4096x1024, .f32⟩
  | .hbm, ⟨12, _⟩ => ⟨S8x4096x1024, .f32⟩
  | .hbm, ⟨13, _⟩ => ⟨S1024x1024, .f32⟩
  | .hbm, ⟨14, _⟩ => ⟨S8x4096x1024, .f32⟩
  | .hbm, ⟨15, _⟩ => ⟨S8x4096x2048, .bf16⟩
  | .hbm, ⟨16, _⟩ => ⟨S8x4096x2048, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S1024x1024, .f32⟩
  | .hbm, ⟨23, _⟩ => ⟨S8x4096x1024, .f32⟩
  | .hbm, ⟨24, _⟩ => ⟨S8x1x1024, .f32⟩
  | .hbm, ⟨25, _⟩ => ⟨S8x1024, .f32⟩
  | .hbm, ⟨26, _⟩ => ⟨S8x1x1024, .f32⟩
  | .hbm, ⟨27, _⟩ => ⟨S1x1x1024, .f32⟩
  | .hbm, ⟨28, _⟩ => ⟨S1024, .f32⟩
  | .hbm, ⟨29, _⟩ => ⟨S8x4096x1024, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S8x4096x1, .f32⟩
  | .hbm, ⟨40, _⟩ => ⟨S8x4096x1024, .f32⟩
  | .hbm, ⟨41, _⟩ => ⟨S8x4096x1024, .f32⟩
  | .hbm, ⟨42, _⟩ => ⟨S1x1x1024, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel4.lean ====
abbrev S8x4096x1024 : Shape := ⟨3, ![8, 4096, 1024]⟩
abbrev S16x9x1024 : Shape := ⟨3, ![16, 9, 1024]⟩
abbrev S1x6x1024 : Shape := ⟨3, ![1, 6, 1024]⟩
abbrev S1x1024x8192 : Shape := ⟨3, ![1, 1024, 8192]⟩
abbrev S1x3x3072 : Shape := ⟨3, ![1, 3, 3072]⟩
abbrev S1x3072 : Shape := ⟨2, ![1, 3072]⟩
abbrev S4096x2x16 : Shape := ⟨3, ![4096, 2, 16]⟩
abbrev S4096x1x16 : Shape := ⟨3, ![4096, 1, 16]⟩
abbrev S4096x16 : Shape := ⟨2, ![4096, 16]⟩
abbrev S_ : Shape := ⟨0, ![]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S6x1024 : Shape := ⟨2, ![6, 1024]⟩
abbrev S1024x8192 : Shape := ⟨2, ![1024, 8192]⟩
abbrev S3x3072 : Shape := ⟨2, ![3, 3072]⟩
abbrev S3072 : Shape := ⟨1, ![3072]⟩
abbrev S8x4096x7168 : Shape := ⟨3, ![8, 4096, 7168]⟩
abbrev S1x512x1024 : Shape := ⟨3, ![1, 512, 1024]⟩
abbrev S1x9x1024 : Shape := ⟨3, ![1, 9, 1024]⟩
abbrev S1x16x1024 : Shape := ⟨3, ![1, 16, 1024]⟩
abbrev S512x128 : Shape := ⟨2, ![512, 128]⟩
abbrev S1x512x7168 : Shape := ⟨3, ![1, 512, 7168]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S16x1024 : Shape := ⟨2, ![16, 1024]⟩
abbrev S16 : Shape := ⟨1, ![16]⟩
abbrev S16x1 : Shape := ⟨2, ![16, 1]⟩
abbrev S544x1024 : Shape := ⟨2, ![544, 1024]⟩
abbrev S1024x256 : Shape := ⟨2, ![1024, 256]⟩
abbrev S544x256 : Shape := ⟨2, ![544, 256]⟩
abbrev S1024x1024 : Shape := ⟨2, ![1024, 1024]⟩
abbrev S3x256 : Shape := ⟨2, ![3, 256]⟩
abbrev S1x256 : Shape := ⟨2, ![1, 256]⟩
abbrev S512x256 : Shape := ⟨2, ![512, 256]⟩
abbrev S1x512x256 : Shape := ⟨3, ![1, 512, 256]⟩

abbrev nBuf : Space → Nat
  | .hbm => 39
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S16x9x1024, .f32⟩
  | .hbm, ⟨2, _⟩ => ⟨S1x6x1024, .f32⟩
  | .hbm, ⟨3, _⟩ => ⟨S1x1024x8192, .f32⟩
  | .hbm, ⟨4, _⟩ => ⟨S1x3x3072, .f32⟩
  | .hbm, ⟨5, _⟩ => ⟨S1x3072, .f32⟩
  | .hbm, ⟨6, _⟩ => ⟨S4096x2x16, .f32⟩
  | .hbm, ⟨7, _⟩ => ⟨S4096x2x16, .f32⟩
  | .hbm, ⟨8, _⟩ => ⟨S4096x1x16, .f32⟩
  | .hbm, ⟨9, _⟩ => ⟨S4096x16, .f32⟩
  | .hbm, ⟨10, _⟩ => ⟨S4096x1x16, .f32⟩
  | .hbm, ⟨11, _⟩ => ⟨S4096x16, .f32⟩
  | .hbm, ⟨12, _⟩ => ⟨S4096x1x16, .f32⟩
  | .hbm, ⟨13, _⟩ => ⟨S4096x16, .f32⟩
  | .hbm, ⟨14, _⟩ => ⟨S4096x1x16, .f32⟩
  | .hbm, ⟨15, _⟩ => ⟨S4096x16, .f32⟩
  | .hbm, ⟨16, _⟩ => ⟨S_, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S4096x64, .f32⟩
  | .hbm, ⟨21, _⟩ => ⟨S1x4096x1x64, .f32⟩
  | .hbm, ⟨22, _⟩ => ⟨S1x4096x2x64, .f32⟩
  | .hbm, ⟨23, _⟩ => ⟨S4096x128, .f32⟩
  | .hbm, ⟨24, _⟩ => ⟨S4096x64, .f32⟩
  | .hbm, ⟨25, _⟩ => ⟨S1x4096x1x64, .f32⟩
  | .hbm, ⟨26, _⟩ => ⟨S1x4096x2x64, .f32⟩
  | .hbm, ⟨27, _⟩ => ⟨S4096x128, .f32⟩
  | .hbm, ⟨28, _⟩ => ⟨S4096x64, .f32⟩
  | .hbm, ⟨29, _⟩ => ⟨S1x4096x1x64, .f32⟩
  | .hbm, ⟨30, _⟩ => ⟨S1x4096x2x64, .f32⟩
  | .hbm, ⟨31, _⟩ => ⟨S4096x128, .f32⟩
  | .hbm, ⟨32, _⟩ => ⟨S6x1024, .f32⟩
  | .hbm, ⟨33, _⟩ => ⟨S1024x8192, .f32⟩
  | .hbm, ⟨34, _⟩ => ⟨S1024x8192, .bf16⟩
  | .hbm, ⟨35, _⟩ => ⟨S3x3072, .f32⟩
  | .hbm, ⟨36, _⟩ => ⟨S3072, .f32⟩
  | .hbm, ⟨37, _⟩ => ⟨S1x3072, .f32⟩
  | .hbm, ⟨38, _⟩ => ⟨S8x4096x7168, .bf16⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S6x1024, .f32⟩
  | .local _ .vmem, ⟨5, _⟩ => ⟨S1024x8192, .bf16⟩
  | .local _ .vmem, ⟨6, _⟩ => ⟨S1x16x1024, .f32⟩
  | .local _ .vmem, ⟨7, _⟩ => ⟨S1x16x1024, .f32⟩
  | .local _ .vmem, ⟨8, _⟩ => ⟨S1x16x1024, .f32⟩
  | .local _ .vmem, ⟨9, _⟩ => ⟨S1x16x1024, .f32⟩
  | .local _ .vmem, ⟨10, _⟩ => ⟨S3x3072, .f32⟩
  | .local _ .vmem, ⟨11, _⟩ => ⟨S1x3072, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S1x512x7168, .bf16⟩
  | .local _ .vmem, ⟨19, _⟩ => ⟨S1x512x7168, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S3x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512x7168 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference4Ideal.lean ====
abbrev S8x4096x1024 : Shape := ⟨3, ![8, 4096, 1024]⟩
abbrev S16x9x1024 : Shape := ⟨3, ![16, 9, 1024]⟩
abbrev S1x6x1024 : Shape := ⟨3, ![1, 6, 1024]⟩
abbrev S1x1024x8192 : Shape := ⟨3, ![1, 1024, 8192]⟩
abbrev S1x3x3072 : Shape := ⟨3, ![1, 3, 3072]⟩
abbrev S1x3072 : Shape := ⟨2, ![1, 3072]⟩
abbrev S4096x2x16 : Shape := ⟨3, ![4096, 2, 16]⟩
abbrev S8x1x1024 : Shape := ⟨3, ![8, 1, 1024]⟩
abbrev S8x1024 : Shape := ⟨2, ![8, 1024]⟩
abbrev S1x1x1024 : Shape := ⟨3, ![1, 1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1024x8192 : Shape := ⟨2, ![1024, 8192]⟩
abbrev S8x4096x8192 : Shape := ⟨3, ![8, 4096, 8192]⟩
abbrev S8x4096x3072 : Shape := ⟨3, ![8, 4096, 3072]⟩
abbrev S8x4096x2048 : Shape := ⟨3, ![8, 4096, 2048]⟩
abbrev S3x3072 : Shape := ⟨2, ![3, 3072]⟩
abbrev S3072 : Shape := ⟨1, ![3072]⟩
abbrev S8x4098x3072 : Shape := ⟨3, ![8, 4098, 3072]⟩
abbrev S1x1x3072 : Shape := ⟨3, ![1, 1, 3072]⟩
abbrev S8x4096x8x2x2x2x16 : Shape := ⟨7, ![8, 4096, 8, 2, 2, 2, 16]⟩
abbrev S8x4096x8x2x2x1x16 : Shape := ⟨7, ![8, 4096, 8, 2, 2, 1, 16]⟩
abbrev S8x4096x8x2x2x16 : Shape := ⟨6, ![8, 4096, 8, 2, 2, 16]⟩
abbrev S1x4096x1x1x2x16 : Shape := ⟨6, ![1, 4096, 1, 1, 2, 16]⟩
abbrev S8x4096x7168 : Shape := ⟨3, ![8, 4096, 7168]⟩

abbrev nBuf : Space → Nat
  | .hbm => 130
  | .vmem => 0
  | .smem => 0
  | _ => 0

abbrev hbmTy0_0 (i : Nat) : BufTy := match i % 128 with
  | 0 => ⟨S8x4096x1024, .f32⟩
  | 1 => ⟨S16x9x1024, .f32⟩
  | 2 => ⟨S1x6x1024, .f32⟩
  | 3 => ⟨S1x1024x8192, .f32⟩
  | 4 => ⟨S1x3x3072, .f32⟩
  | 5 => ⟨S1x3072, .f32⟩
  | 6 => ⟨S4096x2x16, .f32⟩
  | 7 => ⟨S4096x2x16, .f32⟩
  | 8 => ⟨S8x1x1024, .f32⟩
  | 9 => ⟨S8x1024, .f32⟩
  | 10 => ⟨S8x1x1024, .f32⟩
  | 11 => ⟨S8x1x1024, .f32⟩
  | 12 => ⟨S8x1024, .f32⟩
  | 13 => ⟨S8x1x1024, .f32⟩
  | 14 => ⟨S1x1x1024, .f32⟩
  | 15 => ⟨S1024, .f32⟩
  | 16 => ⟨S8x4096x1024, .f32⟩
  | 17 => ⟨S_, .f32⟩
  | 18 => ⟨S8x4096, .f32⟩
  | 19 => ⟨S8x4096x1, .f32⟩
  | 20 => ⟨S_, .f32⟩
  | 21 => ⟨S8x4096x1, .f32⟩
  | 22 => ⟨S8x4096x1, .f32⟩
  | 23 => ⟨S_, .f32⟩
  | 24 => ⟨S8x4096x1, .f32⟩
  | 25 => ⟨S8x4096x1, .f32⟩
  | 26 => ⟨S8x4096x1, .f32⟩
  | 27 => ⟨S8x4096x1024, .f32⟩
  | 28 => ⟨S8x4096x1024, .f32⟩
  | 29 => ⟨S1x1x1024, .f32⟩
  | 30 => ⟨S8x4096x1024, .f32⟩
  | 31 => ⟨S8x4096x1024, .f32⟩
  | 32 => ⟨S_, .f32⟩
  | 33 => ⟨S8x1x1024, .f32⟩
  | 34 => ⟨S8x1x1024, .f32⟩
  | 35 => ⟨S8x4096x1024, .f32⟩
  | 36 => ⟨S8x4096x1024, .f32⟩
  | 37 => ⟨S8x4096x1024, .f32⟩
  | 38 => ⟨S8x4096x1024, .f32⟩
  | 39 => ⟨S1024x8192, .f32⟩
  | 40 => ⟨S8x4096x8192, .f32⟩
  | 41 => ⟨S8x4096x3072, .f32⟩
  | 42 => ⟨S8x4096x1024, .f32⟩
  | 43 => ⟨S8x4096x1024, .f32⟩
  | 44 => ⟨S8x4096x1024, .f32⟩
  | 45 => ⟨S8x4096x2048, .f32⟩
  | 46 => ⟨S3x3072, .f32⟩
  | 47 => ⟨S3072, .f32⟩
  | 48 => ⟨S_, .i32⟩
  | 49 => ⟨S_, .f32⟩
  | 50 => ⟨S8x4098x3072, .f32⟩
  | 51 => ⟨S8x4096x3072, .f32⟩
  | 52 => ⟨S1x3072, .f32⟩
  | 53 => ⟨S3072, .f32⟩
  | 54 => ⟨S1x1x3072, .f32⟩
  | 55 => ⟨S8x4096x3072, .f32⟩
  | 56 => ⟨S8x4096x3072, .f32⟩
  | 57 => ⟨S8x4096x3072, .f32⟩
  | 58 => ⟨S1x3072, .f32⟩
  | 59 => ⟨S3072, .f32⟩
  | 60 => ⟨S1x1x3072, .f32⟩
  | 61 => ⟨S8x4096x3072, .f32⟩
  | 62 => ⟨S8x4096x3072, .f32⟩
  | 63 => ⟨S8x4096x3072, .f32⟩
  | 64 => ⟨S8x4096x3072, .f32⟩
  | 65 => ⟨S1x3072, .f32⟩
  | 66 => ⟨S3072, .f32⟩
  | 67 => ⟨S1x1x3072, .f32⟩
  | 68 => ⟨S8x4096x3072, .f32⟩
  | 69 => ⟨S8x4096x3072, .f32⟩
  | 70 => ⟨S8x4096x3072, .f32⟩
  | 71 => ⟨S1x1x3072, .f32⟩
  | 72 => ⟨S8x4096x3072, .f32⟩
  | 73 => ⟨S8x4096x3072, .f32⟩
  | 74 => ⟨S8x4096x1024, .f32⟩
  | 75 => ⟨S8x4096x1024, .f32⟩
  | 76 => ⟨S8x4096x1024, .f32⟩
  | 77 => ⟨S8x4096x1024, .f32⟩
  | 78 => ⟨S8x4096x8x2x2x2x16, .f32⟩
  | 79 => ⟨S8x4096x8x2x2x1x16, .f32⟩
  | 80 => ⟨S8x4096x8x2x2x16, .f32⟩
  | 81 => ⟨S8x4096x8x2x2x1x16, .f32⟩
  | 82 => ⟨S8x4096x8x2x2x16, .f32⟩
  | 83 => ⟨S1x4096x1x1x2x16, .f32⟩
  | 84 => ⟨S1x4096x1x1x2x16, .f32⟩
  | 85 => ⟨S8x4096x8x2x2x16, .f32⟩
  | 86 => ⟨S8x4096x8x2x2x16, .f32⟩
  | 87 => ⟨S8x4096x8x2x2x16, .f32⟩
  | 88 => ⟨S8x4096x8x2x2x16, .f32⟩
  | 89 => ⟨S8x4096x8x2x2x16, .f32⟩
  | 90 => ⟨S8x4096x8x2x2x16, .f32⟩
  | 91 => ⟨S8x4096x8x2x2x16, .f32⟩
  | 92 => ⟨S8x4096x8x2x2x16, .f32⟩
  | 93 => ⟨S8x4096x8x2x2x16, .f32⟩
  | 94 => ⟨S8x4096x8x2x2x16, .f32⟩
  | 95 => ⟨S8x4096x8x2x2x1x16, .f32⟩
  | 96 => ⟨S8x4096x8x2x2x1x16, .f32⟩
  | 97 => ⟨S8x4096x8x2x2x2x16, .f32⟩
  | 98 => ⟨S8x4096x1024, .f32⟩
  | 99 => ⟨S8x4096x8x2x2x2x16, .f32⟩
  | 100 => ⟨S8x4096x8x2x2x1x16, .f32⟩
  | 101 => ⟨S8x4096x8x2x2x16, .f32⟩
  | 102 => ⟨S8x4096x8x2x2x1x16, .f32⟩
  | 103 => ⟨S8x4096x8x2x2x16, .f32⟩
  | 104 => ⟨S1x4096x1x1x2x16, .f32⟩
  | 105 => ⟨S1x4096x1x1x2x16, .f32⟩
  | 106 => ⟨S8x4096x8x2x2x16, .f32⟩
  | 107 => ⟨S8x4096x8x2x2x16, .f32⟩
  | 108 => ⟨S8x4096x8x2x2x16, .f32⟩
  | 109 => ⟨S8x4096x8x2x2x16, .f32⟩
  | 110 => ⟨S8x4096x8x2x2x16, .f32⟩
  | 111 => ⟨S8x4096x8x2x2x16, .f32⟩
  | 112 => ⟨S8x4096x8x2x2x16, .f32⟩
  | 113 => ⟨S8x4096x8x2x2x16, .f32⟩
  | 114 => ⟨S8x4096x8x2x2x16, .f32⟩
  | 115 => ⟨S8x4096x8x2x2x16, .f32⟩
  | 116 => ⟨S8x4096x8x2x2x1x16, .f32⟩
  | 117 => ⟨S8x4096x8x2x2x1x16, .f32⟩
  | 118 => ⟨S8x4096x8x2x2x2x16, .f32⟩
  | 119 => ⟨S8x4096x1024, .f32⟩
  | 120 => ⟨S8x4096x2048, .f32⟩
  | 121 => ⟨S8x4096x2048, .f32⟩
  | 122 => ⟨S_, .f32⟩
  | 123 => ⟨S8x4096x2048, .f32⟩
  | 124 => ⟨S8x4096x2048, .f32⟩
  | 125 => ⟨S_, .f32⟩
  | 126 => ⟨S8x4096x2048, .f32⟩
  | 127 => ⟨S8x4096x2048, .f32⟩
  | _ => ⟨S8x4096x1024, .f32⟩

abbrev hbmTy0_1 (i : Nat) : BufTy := match i % 128 with
  | 0 => ⟨S8x4096x7168, .f32⟩
  | 1 => ⟨S8x4096x7168, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c : Ref sig .tc := ⟨.hbm, 48, rfl⟩
abbrev main_call0_v0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_cst_3 : Ref sig .tc := ⟨.hbm, 122, rfl⟩
abbrev main_v108 : Ref sig .tc := ⟨.hbm, 123, rfl⟩
abbrev main_v109 : Ref sig .tc := ⟨.hbm, 124, rfl⟩
abbrev main_cst_4 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩

abbrev nD : Nat := 1
abbrev τ : Topo := Topo.v7x

variable {F : FTy → Type} [FloatOps F]
-- ==== Proof.AttnMath.lean ====
/- Real-number facts about softmax-weighted averages: three chunks folded with running maxima, in base two, give the
   average over all the keys in base e. -/
module

public import Idealize.ShloMosaic.Lib.ValueIdx

@[expose] public section

noncomputable section

namespace Cert.AttnMath

open Idealize.ShloMosaic

/-- A sum of reals, read as an extended real, is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals, read as an extended real. -/
theorem sum_coe_mul {ι : Type*} (s : Finset ι) (f g : ι → ℝ) :
    ∑ i ∈ s, ((f i : EReal) * (g i : EReal)) = ((∑ i ∈ s, f i * g i : ℝ) : EReal) := by
  rw [coe_sum]; exact Finset.sum_congr rfl fun i _ => (EReal.coe_mul _ _).symm

/-- The maximum of finitely many reals, from minus infinity, is a real as soon as there is one of them. -/
theorem exists_fold_max {ι : Type*} (s : Finset ι) (hs : s.Nonempty) (f : ι → ℝ) :
    ∃ r : ℝ, s.fold max (⊥ : EReal) (fun i => (f i : EReal)) = r := by
  classical
  induction hs using Finset.Nonempty.cons_induction with
  | singleton a => exact ⟨f a, by simp⟩
  | cons a s ha hs ih =>
    obtain ⟨r, hr⟩ := ih
    refine ⟨max (f a) r, ?_⟩
    rw [Finset.fold_cons, hr]; exact (EReal.coe_strictMono.monotone.map_max (a := f a) (b := r)).symm

/-- The softmax-weighted average of `v` with scores `s`. -/
def att {n : ℕ} (s v : Fin n → ℝ) : ℝ := (∑ j, Real.exp (s j) * v j) / ∑ j, Real.exp (s j)

/-- A softmax denominator is positive. -/
theorem sum_exp_pos {n : ℕ} (hn : 0 < n) (s : Fin n → ℝ) : 0 < ∑ j, Real.exp (s j) :=
  Finset.sum_pos (fun j _ => Real.exp_pos _) ⟨⟨0, hn⟩, Finset.mem_univ _⟩

/-- Weights normalised one by one after a shift by any `m` give the same average. -/
theorem att_shift {n : ℕ} (s v : Fin n → ℝ) (m : ℝ) :
    ∑ j, Real.exp (s j - m) / (∑ i, Real.exp (s i - m)) * v j = att s v := by
  have h : ∀ j, Real.exp (s j - m) = Real.exp (s j) * Real.exp (-m) := fun j => by rw [sub_eq_add_neg, Real.exp_add]
  have hm := (Real.exp_pos (-m)).ne'
  simp only [h, ← Finset.sum_mul]
  unfold att
  rw [Finset.sum_div]
  refine Finset.sum_congr rfl fun j _ => ?_
  rw [mul_div_mul_right _ _ hm, div_mul_eq_mul_div]

/-- The columns of the three chunks of 4352 keys. -/
abbrev c1 (j : Fin 1536) : Fin 4352 := ⟨j.val, by omega⟩
abbrev c2 (j : Fin 1536) : Fin 4352 := ⟨1536 + j.val, by omega⟩
abbrev c3 (j : Fin 1280) : Fin 4352 := ⟨3072 + j.val, by omega⟩

/-- A sum over all the keys, chunk by chunk. -/
theorem sum_chunks (f : Fin 4352 → ℝ) : ∑ j, f j = ∑ j, f (c1 j) + ∑ j, f (c2 j) + ∑ j, f (c3 j) := by
  have h : ∑ j : Fin (1536 + 1536 + 1280), f j = _ := Fin.sum_univ_add (a := 1536 + 1536) (b := 1280) f
  refine h.trans ?_
  rw [Fin.sum_univ_add (a := 1536) (b := 1536)]
  rfl

/-- The running sum of weighted values after the three chunks, with running maxima `m1`, `m2`, `m3`. -/
def acc (t v : Fin 4352 → ℝ) (m1 m2 m3 : ℝ) : ℝ :=
  ((∑ j, Real.rpow 2 (t (c1 j) - m1) * v (c1 j)) * Real.rpow 2 (m1 - m2) + ∑ j, Real.rpow 2 (t (c2 j) - m2) * v (c2 j))
    * Real.rpow 2 (m2 - m3) + ∑ j, Real.rpow 2 (t (c3 j) - m3) * v (c3 j)

/-- The running sum is the sum over all the keys at the last maximum. -/
theorem acc_eq (t v : Fin 4352 → ℝ) (m1 m2 m3 : ℝ) : acc t v m1 m2 m3 = Real.rpow 2 (-m3) * ∑ j, Real.rpow 2 (t j) * v j := by
  have h : ∀ a b : ℝ, Real.rpow 2 (a - b) = Real.rpow 2 a * Real.rpow 2 (-b) := fun a b => by
    rw [sub_eq_add_neg]; exact Real.rpow_add two_pos _ _
  have h1 : ∀ a : ℝ, Real.rpow 2 (-a) * Real.rpow 2 a = 1 := fun a => by
    have := Real.rpow_add two_pos (-a) a
    rw [neg_add_cancel, Real.rpow_zero] at this
    exact this.symm
  unfold acc
  rw [sum_chunks]
  have e : ∀ (n : ℕ) (c : Fin n → Fin 4352) (m : ℝ),
      ∑ j, Real.rpow 2 (t (c j) - m) * v (c j) = Real.rpow 2 (-m) * ∑ j, Real.rpow 2 (t (c j)) * v (c j) := fun n c m => by
    rw [Finset.mul_sum]; refine Finset.sum_congr rfl fun j _ => ?_
    rw [h]; ring
  rw [e, e, e, h m1 m2, h m2 m3]
  have a1 := h1 m1
  have a2 := h1 m2
  linear_combination (Real.rpow 2 (-m2) * Real.rpow 2 m2 * Real.rpow 2 (-m3) * ∑ j, Real.rpow 2 (t (c1 j)) * v (c1 j)) * a1
    + (Real.rpow 2 (-m3) * (∑ j, Real.rpow 2 (t (c1 j)) * v (c1 j)) + Real.rpow 2 (-m3) * ∑ j, Real.rpow 2 (t (c2 j)) * v (c2 j)) * a2

/-- The running denominator is positive, hence not zero. -/
theorem acc_one_ne (t : Fin 4352 → ℝ) (m1 m2 m3 : ℝ) : acc t (fun _ => 1) m1 m2 m3 ≠ 0 := by
  rw [acc_eq]
  refine mul_ne_zero (Real.rpow_pos_of_pos two_pos _).ne' (ne_of_gt ?_)
  exact Finset.sum_pos (fun j _ => by rw [mul_one]; exact Real.rpow_pos_of_pos two_pos _) ⟨⟨0, by omega⟩, Finset.mem_univ _⟩

/-- The running sum over the running denominator is the softmax-weighted average, whatever the maxima. -/
theorem acc_div (t v s : Fin 4352 → ℝ) (m1 m2 m3 : ℝ) (hs : ∀ j, s j = t j * Real.log 2) :
    acc t v m1 m2 m3 * (1 / acc t (fun _ => 1) m1 m2 m3) = att s v := by
  rw [acc_eq, acc_eq]
  have h2 : ∀ j, Real.rpow 2 (t j) = Real.exp (s j) := fun j => by
    rw [hs, mul_comm]; exact Real.rpow_def_of_pos two_pos _
  simp only [h2, mul_one]
  unfold att
  have hp : Real.rpow 2 (-m3) ≠ 0 := (Real.rpow_pos_of_pos two_pos _).ne'
  rw [mul_one_div, mul_div_mul_left _ _ hp]

end Cert.AttnMath

end
-- ==== Proof.AttnOps.lean ====
/- The kernel's operations read at one index, at the ideal instance: the products, the reductions along the last axis, the
   casts and broadcasts of one column. -/
module

public import Idealize.ShloMosaic.Lib.ValueIdx
public import Idealize.ShloMosaic.Lib.MatmulPlain
public import Idealize.ShloMosaic.Lib.Pipeline.Value
public import proofs.«01_k».proof.Proof.AttnMath

@[expose] public section

noncomputable section

namespace Cert.AttnOps

open Idealize.ShloMosaic Idealize.ShloMosaic.ValueIdx

/-- The word of plus zero is zero. -/
theorem bits_zero : Ideal.ofBits .f32 0x00000000#32 = 0 := by simp [Ideal.ofBits, Ideal.ieee]
theorem bits_zero16 : Ideal.ofBits .bf16 0x0000#16 = 0 := by simp [Ideal.ofBits, Ideal.ieee]
/-- The word of one is one. -/
theorem bits_one16 : Ideal.ofBits .bf16 0x3F80#16 = ((1 : ℝ) : EReal) := by
  simp [Ideal.ofBits, Ideal.ieee, -EReal.coe_mul]; norm_num
/-- The word of minus infinity is the bottom. -/
theorem bits_bot : Ideal.ofBits .f32 0xFF800000#32 = ⊥ := by simp [Ideal.ofBits, Ideal.ieee]

/-- A product whose right operand is stored transposed, from a zero accumulator, of reals. -/
theorem matmulT_real {M K N : ℕ} {φ₁ φ₂ : FTy} (D : DotDims ⟨2, ![M, K]⟩ ⟨2, ![N, K]⟩ ⟨2, ![M, N]⟩) (hD : D = DotDims.transposedRhs M K N)
    (prec : Option ContractPrecision) (lhs : FVec Ideal ⟨2, ![M, K]⟩ φ₁) (rhs : FVec Ideal ⟨2, ![N, K]⟩ φ₂)
    (a : Fin M → Fin K → ℝ) (b : Fin N → Fin K → ℝ) (ha : ∀ r k, lhs (ix2 r k) = (a r k : EReal)) (hb : ∀ c k, rhs (ix2 c k) = (b c k : EReal))
    (r : Fin M) (c : Fin N) :
    matmul D prec lhs rhs (constant (F := Ideal) ⟨2, ![M, N]⟩ .f32 0x00000000#32) (ix2 r c) = ((∑ k, a r k * b c k : ℝ) : EReal) := by
  subst hD
  refine (Ideal.matmul_transposedRhs_apply prec lhs rhs _ r c).trans ?_
  rw [constant_apply, bits_zero, zero_add, ← AttnMath.sum_coe_mul]
  exact Finset.sum_congr rfl fun k _ => by rw [ha, hb]

/-- A plain product, from a zero accumulator, of reals. -/
theorem matmul_real {M K N : ℕ} {φ₁ φ₂ : FTy} (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (a : Fin M → Fin K → ℝ) (b : Fin K → Fin N → ℝ) (ha : ∀ r k, lhs (ix2 r k) = (a r k : EReal)) (hb : ∀ k c, rhs (ix2 k c) = (b k c : EReal))
    (r : Fin M) (c : Fin N) :
    matmul D prec lhs rhs (constant (F := Ideal) ⟨2, ![M, N]⟩ .f32 0x00000000#32) (ix2 r c) = ((∑ k, a r k * b k c : ℝ) : EReal) := by
  subst hD
  refine (Ideal.matmul_plain_apply prec lhs rhs _ r c).trans ?_
  rw [constant_apply, bits_zero, zero_add, ← AttnMath.sum_coe_mul]
  exact Finset.sum_congr rfl fun k _ => by rw [ha, hb]

/-- A row maximum kept as a column, of reals, is a real per row. -/
theorem rowMax_real {M N : ℕ} (hN : 0 < N) (x : FVec Ideal ⟨2, ![M, N]⟩ .f32) (a : Fin M → Fin N → ℝ) (hx : ∀ r c, x (ix2 r c) = (a r c : EReal))
    (h : Shape.Reduces ⟨2, ![M, N]⟩ [1] ⟨1, ![M]⟩) (hφ : FKind.Formats .f32) (hacc : (0xFF800000#32 : BitVec 32) = FKind.maximumf.neutral .f32 hφ)
    (hs : Shape.ShapeCasts ⟨1, ![M]⟩ ⟨2, ![M, 1]⟩) :
    ∃ m : Fin M → ℝ, ∀ (r : Fin M) (z : Fin 1),
      shapeCast ⟨2, ![M, 1]⟩ (multiReduction .maximumf [1] ⟨1, ![M]⟩ x 0xFF800000#32 h hφ hacc) hs (ix2 r z) = (m r : EReal) := by
  have key : ∀ r : Fin M, ∃ m : ℝ, multiReduction .maximumf [1] ⟨1, ![M]⟩ x 0xFF800000#32 h hφ hacc (ix1 r) = (m : EReal) := fun r => by
    obtain ⟨m, hm⟩ := AttnMath.exists_fold_max (Finset.univ : Finset (Fin N)) ⟨⟨0, hN⟩, Finset.mem_univ _⟩ (a r)
    refine ⟨m, (Ideal.multiReduction_maximumf_single x _ h hφ hacc (ix1 r)).trans ?_⟩
    rw [← hm]
    show Finset.fold max (Ideal.ofBits .f32 0xFF800000#32) _ _ = _
    rw [bits_bot]
    refine Finset.fold_congr fun k _ => ?_
    show x (h.lift (ix1 r) k) = _
    rw [show h.lift (ix1 r) k = ix2 r k from by
      funext b; apply Fin.ext
      match b with
      | ⟨0, _⟩ => rfl
      | ⟨1, _⟩ => rfl]
    exact hx r k
  choose m hm using key
  refine ⟨m, fun r z => ?_⟩
  rw [← hm r]
  refine shapeCast_apply _ hs _ (ix1 r) ?_
  rw [Shape.rowMajor_val_one, Shape.rowMajor_val_two]
  have := z.isLt
  show r.val = r.val * 1 + z.val
  omega

/-- A column broadcast along the rows. -/
theorem bcastCol_apply {M N : ℕ} (x : FVec Ideal ⟨2, ![M, 1]⟩ .f32) (h : Shape.Broadcasts ⟨2, ![M, 1]⟩ ⟨2, ![M, N]⟩) (r : Fin M) (c : Fin N) :
    broadcastTo ⟨2, ![M, N]⟩ x h (ix2 r c) = x (ix2 r 0) := by
  refine broadcastTo_apply x h _ _ fun a => ?_
  match a with
  | ⟨0, _⟩ =>
    show r.val = if M = 1 then 0 else r.val
    split
    · have := r.isLt; omega
    · rfl
  | ⟨1, _⟩ => rfl

/-- A leading unit axis dropped. -/
theorem dropUnit_apply {α : Type} {M N : ℕ} (x : (⟨3, ![1, M, N]⟩ : Shape).Idx → α) (h : Shape.ShapeCasts ⟨3, ![1, M, N]⟩ ⟨2, ![M, N]⟩) (r : Fin M) (c : Fin N) :
    shapeCast ⟨2, ![M, N]⟩ x h (ix2 r c) = x (ix3 0 r c) := by
  refine shapeCast_apply x h _ _ ?_
  rw [Shape.rowMajor_val_three, Shape.rowMajor_val_two]
  show (0 * M + r.val) * N + c.val = r.val * N + c.val
  rw [zero_mul, zero_add]

/-- Two reals subtracted, then two to that power. -/
theorem exp2_sub_coe (a b : ℝ) : Ideal.exp2 ((a : EReal) - (b : EReal)) = (Real.rpow 2 (a - b) : EReal) := by
  rw [← EReal.coe_sub, Ideal.exp2_coe]

end Cert.AttnOps

end
-- ==== Proof.AttnPayload.lean ====
/- The attention kernel's payloads read at one index, over reals: the masked scaled queries of the two maps, the base-2 scores,
   the three chunks of the running softmax, and the difference of the two maps. -/
module

public import proofs.«01_k».proof.Proof.AttnOps
public import proofs.«01_k».proof.Proof.Gen.KernelIdeal.Skeleton

@[expose] public section

set_option maxRecDepth 16384

noncomputable section

namespace Cert.AttnPayload

open Cert.KernelIdeal Cert.KernelIdeal.Gen Cert.AttnMath Cert.AttnOps
open Idealize.ShloMosaic Idealize.ShloMosaic.ValueIdx

/-- The factor the scores carry in the base-2 exponential: an eighth over the natural logarithm of two. -/
def qs : ℝ := 8⁻¹ * (Real.log 2)⁻¹

/-- The named constant is that factor. -/
theorem named_qs : (Named.named κ "q_scale" 0x3E38AA3B#32 : Ideal .f32) = (qs : EReal) :=
  IdealRules.named_const.ideal_named_scalar _ _ _ _ rfl

/-- The stacked queries of one tile: rows below 256 carry the first 64 lanes, the others the last 64, scaled. -/
def qq (q : Fin 256 → Fin 128 → ℝ) (r : Fin 512) (d : Fin 128) : ℝ :=
  if h : r.val < 256 then (if d.val < 64 then q ⟨r.val, h⟩ d * qs else 0)
  else (if d.val < 64 then 0 else q ⟨r.val - 256, by omega⟩ d * qs)

/-- The base-2 score of stacked query row `r` against key `j`. -/
def sc (q : Fin 256 → Fin 128 → ℝ) (k : Fin 4352 → Fin 128 → ℝ) (r : Fin 512) (j : Fin 4352) : ℝ :=
  ∑ d, qq q r d * k j d

/-- Which lanes the first map's mask keeps. -/
theorem mask_lt (d : Fin 128) : IntOp.cmpi .slt (BitVec.ofNat 32 d.val) 64#32 = if d.val < 64 then 1#1 else 0#1 := by
  revert d; decide
/-- Which lanes the second map's mask keeps. -/
theorem mask_ge (d : Fin 128) : IntOp.cmpi .sge (BitVec.ofNat 32 d.val) 64#32 = if d.val < 64 then 0#1 else 1#1 := by
  revert d; decide

/-- The stacked queries at an index. -/
theorem pay1_real (v35 : Vec Ideal S1x256x128 .bf16) (q : Fin 256 → Fin 128 → ℝ) (hq : ∀ a d, v35 (ix3 0 a d) = (q a d : EReal))
    (r : Fin 512) (d : Fin 128) : k0_pay1 v35 (ix2 r d) = (qq q r d : EReal) := by
  have h40 : ∀ (a : Fin 256), mulf (extf .f32 (shapeCast S256x128 v35 shapeCasts_S1x256x128_S256x128) bitsLt_bf16_f32)
      (broadcast S256x128 (Named.named κ "q_scale" 0x3E38AA3B#32 : Ideal .f32)) (ix2 a d) = ((q a d * qs : ℝ) : EReal) := fun a => by
    rw [mulf_apply, extf_apply, broadcast_apply, named_qs, EReal.coe_mul, ← hq a d]
    congr 1
    exact dropUnit_apply _ _ _ _
  unfold k0_pay1 qq
  dsimp only
  by_cases h : r.val < 256
  · rw [dif_pos h]
    rw [concatenate_pair_apply_left (t := S512x128) (s₁ := S256x128) (s₂ := S256x128) (0 : Fin 2) _ _ _ (ix2 r d) rfl (ix2 (⟨r.val, h⟩ : Fin 256) d) (by
      intro b
      match b with
      | ⟨0, _⟩ => rfl
      | ⟨1, _⟩ => rfl)]
    rw [select_apply]
    rw [show cmpi .slt (iota .tc S256x128 32 [1] iota_S256x128_d1_w32) (broadcast S256x128 64#32) (ix2 (⟨r.val, h⟩ : Fin 256) d)
      = IntOp.cmpi .slt (BitVec.ofNat 32 d.val) 64#32 from by
        show IntOp.cmpi .slt (iota .tc S256x128 32 [1] iota_S256x128_d1_w32 (ix2 (⟨r.val, h⟩ : Fin 256) d)) _ = _
        rw [iota_single_apply]; rfl, mask_lt]
    by_cases hd : d.val < 64
    · rw [if_pos hd, if_pos hd, select_one, truncf_apply]; exact h40 _
    · rw [if_neg hd, if_neg hd, select_zero, broadcast_apply]; exact bits_zero16
  · rw [dif_neg h]
    rw [concatenate_pair_apply_right (t := S512x128) (s₁ := S256x128) (s₂ := S256x128) (0 : Fin 2) _ _ _ (ix2 r d) rfl rfl (ix2 (⟨r.val - 256, by omega⟩ : Fin 256) d) (by
      intro b hb
      match b, hb with
      | ⟨0, _⟩, hb => exact absurd rfl hb
      | ⟨1, _⟩, _ => rfl) (by show r.val - 256 + 256 = r.val; omega)]
    rw [select_apply]
    rw [show cmpi .sge (iota .tc S256x128 32 [1] iota_S256x128_d1_w32) (broadcast S256x128 64#32) (ix2 (⟨r.val - 256, by omega⟩ : Fin 256) d)
      = IntOp.cmpi .sge (BitVec.ofNat 32 d.val) 64#32 from by
        show IntOp.cmpi .sge (iota .tc S256x128 32 [1] iota_S256x128_d1_w32 (ix2 (⟨r.val - 256, by omega⟩ : Fin 256) d)) _ = _
        rw [iota_single_apply]; rfl, mask_ge]
    by_cases hd : d.val < 64
    · rw [if_pos hd, if_pos hd, select_zero, broadcast_apply]; exact bits_zero16
    · rw [if_neg hd, if_neg hd, select_one, truncf_apply]; exact h40 _

/-- The scores of the first chunk. -/
theorem pay2_real (v35 : Vec Ideal S1x256x128 .bf16) (v50 : Vec Ideal S1x1536x128 .bf16) (q : Fin 256 → Fin 128 → ℝ) (k : Fin 4352 → Fin 128 → ℝ)
    (hq : ∀ a d, v35 (ix3 0 a d) = (q a d : EReal)) (hk : ∀ j d, v50 (ix3 0 j d) = (k (c1 j) d : EReal)) (r : Fin 512) (j : Fin 1536) :
    k0_pay2 v35 v50 (ix2 r j) = (sc q k r (c1 j) : EReal) := by
  unfold k0_pay2
  exact matmulT_real _ rfl _ _ _ (qq q) (fun j => k (c1 j)) (pay1_real v35 q hq) (fun j d => (dropUnit_apply _ _ _ _).trans (hk j d)) r j

/-- The scores of the second chunk. -/
theorem pay3_real (v35 : Vec Ideal S1x256x128 .bf16) (v53 : Vec Ideal S1x1536x128 .bf16) (q : Fin 256 → Fin 128 → ℝ) (k : Fin 4352 → Fin 128 → ℝ)
    (hq : ∀ a d, v35 (ix3 0 a d) = (q a d : EReal)) (hk : ∀ j d, v53 (ix3 0 j d) = (k (c2 j) d : EReal)) (r : Fin 512) (j : Fin 1536) :
    k0_pay3 v35 v53 (ix2 r j) = (sc q k r (c2 j) : EReal) := by
  unfold k0_pay3
  exact matmulT_real _ rfl _ _ _ (qq q) (fun j => k (c2 j)) (pay1_real v35 q hq) (fun j d => (dropUnit_apply _ _ _ _).trans (hk j d)) r j

/-- The scores of the third chunk's first 1024 keys. -/
theorem pay6_real (v35 : Vec Ideal S1x256x128 .bf16) (v64 : Vec Ideal S1x1024x128 .bf16) (q : Fin 256 → Fin 128 → ℝ) (k : Fin 4352 → Fin 128 → ℝ)
    (hq : ∀ a d, v35 (ix3 0 a d) = (q a d : EReal)) (hk : ∀ (j : Fin 1024) d, v64 (ix3 0 j d) = (k ⟨3072 + j.val, by omega⟩ d : EReal)) (r : Fin 512) (j : Fin 1024) :
    k0_pay6 v35 v64 (ix2 r j) = (sc q k r ⟨3072 + j.val, by omega⟩ : EReal) := by
  unfold k0_pay6
  exact matmulT_real _ rfl _ _ _ (qq q) (fun j : Fin 1024 => k ⟨3072 + j.val, by omega⟩) (pay1_real v35 q hq) (fun j d => (dropUnit_apply _ _ _ _).trans (hk j d)) r j

/-- The row maxima of the first chunk are reals. -/
theorem pay4_real (v35 : Vec Ideal S1x256x128 .bf16) (v50 : Vec Ideal S1x1536x128 .bf16) (q : Fin 256 → Fin 128 → ℝ) (k : Fin 4352 → Fin 128 → ℝ)
    (hq : ∀ a d, v35 (ix3 0 a d) = (q a d : EReal)) (hk : ∀ j d, v50 (ix3 0 j d) = (k (c1 j) d : EReal)) :
    ∃ m : Fin 512 → ℝ, ∀ r z, k0_pay4 v35 v50 (ix2 r z) = (m r : EReal) := by
  unfold k0_pay4
  exact rowMax_real (by omega) _ (fun r j => sc q k r (c1 j)) (pay2_real v35 v50 q k hq hk) _ _ _ _

/-- The unnormalised weights of one chunk against its values: two to the scores less a column, times the values, summed. -/
theorem weighted_real {N : ℕ} (D : DotDims ⟨2, ![512, N]⟩ ⟨2, ![N, 256]⟩ ⟨2, ![512, 256]⟩) (hD : D = DotDims.plain 512 N 256)
    (x : FVec Ideal ⟨2, ![512, N]⟩ .f32) (mx : FVec Ideal ⟨2, ![512, 1]⟩ .f32) (v : FVec Ideal ⟨2, ![N, 256]⟩ .bf16)
    (a : Fin 512 → Fin N → ℝ) (m : Fin 512 → ℝ) (b : Fin N → Fin 256 → ℝ)
    (hx : ∀ r c, x (ix2 r c) = (a r c : EReal)) (hm : ∀ r z, mx (ix2 r z) = (m r : EReal)) (hv : ∀ k c, v (ix2 k c) = (b k c : EReal))
    (hb : Shape.Broadcasts ⟨2, ![512, 1]⟩ ⟨2, ![512, N]⟩) (hl : FTy.bits .bf16 < FTy.bits .f32) (r : Fin 512) (c : Fin 256) :
    matmul D none (truncf .bf16 (exp2 (subf x (broadcastTo ⟨2, ![512, N]⟩ mx hb))) hl) v
      (constant (F := Ideal) ⟨2, ![512, 256]⟩ .f32 0x00000000#32) (ix2 r c)
      = ((∑ j, Real.rpow 2 (a r j - m r) * b j c : ℝ) : EReal) := by
  refine matmul_real D hD none _ v (fun r j => Real.rpow 2 (a r j - m r)) b (fun r j => ?_) hv r c
  show Ideal.exp2 (x (ix2 r j) - broadcastTo ⟨2, ![512, N]⟩ mx hb (ix2 r j)) = _
  rw [bcastCol_apply, hx, hm, exp2_sub_coe]

/-- The first chunk's weighted values. -/
theorem pay5_real (v35 : Vec Ideal S1x256x128 .bf16) (v50 : Vec Ideal S1x1536x128 .bf16) (v62 : Vec Ideal S1536x256 .bf16)
    (q : Fin 256 → Fin 128 → ℝ) (k : Fin 4352 → Fin 128 → ℝ) (vx : Fin 4352 → Fin 256 → ℝ) (m : Fin 512 → ℝ)
    (hq : ∀ a d, v35 (ix3 0 a d) = (q a d : EReal)) (hk : ∀ j d, v50 (ix3 0 j d) = (k (c1 j) d : EReal))
    (hv : ∀ j c, v62 (ix2 j c) = (vx (c1 j) c : EReal)) (hm : ∀ r z, k0_pay4 v35 v50 (ix2 r z) = (m r : EReal)) (r : Fin 512) (c : Fin 256) :
    k0_pay5 v35 v50 v62 (ix2 r c) = ((∑ j, Real.rpow 2 (sc q k r (c1 j) - m r) * vx (c1 j) c : ℝ) : EReal) := by
  unfold k0_pay5
  exact weighted_real _ rfl _ _ _ (fun r j => sc q k r (c1 j)) m (fun j => vx (c1 j)) (pay2_real v35 v50 q k hq hk) hm hv _ _ r c

/-- The third chunk's scores: 1024 keys of the sequence, then the 256 of the context. -/
theorem scores3_real (v49 : FVec Ideal S512x128 .bf16) (v66 : FVec Ideal S512x1024 .f32) (v67 : Vec Ideal S1x256x128 .bf16)
    (q : Fin 256 → Fin 128 → ℝ) (k : Fin 4352 → Fin 128 → ℝ)
    (h49 : ∀ r d, v49 (ix2 r d) = (qq q r d : EReal)) (h66 : ∀ r (j : Fin 1024), v66 (ix2 r j) = (sc q k r ⟨3072 + j.val, by omega⟩ : EReal))
    (h67 : ∀ (j : Fin 256) d, v67 (ix3 0 j d) = (k ⟨4096 + j.val, by omega⟩ d : EReal)) (r : Fin 512) (j : Fin 1280) :
    concatenate S512x1280 1 [⟨S512x1024, v66⟩, ⟨S512x256, matmul (φ₂ := .bf16) dot_S512x128_S256x128_S512x256_1_1_0_0_n_n none v49
        (shapeCast (α := Ideal .bf16) S256x128 v67 shapeCasts_S1x256x128_S256x128) (constant (F := Ideal) S512x256 .f32 0x00000000#32)⟩]
      concatenates_S512x1024_S512x256_S512x1280_d1 (ix2 r j) = (sc q k r (c3 j) : EReal) := by
  by_cases h : j.val < 1024
  · rw [concatenate_pair_apply_left (t := S512x1280) (s₁ := S512x1024) (s₂ := S512x256) (1 : Fin 2) _ _ _ (ix2 r j) rfl (ix2 r (⟨j.val, h⟩ : Fin 1024)) (by
      intro b
      match b with
      | ⟨0, _⟩ => rfl
      | ⟨1, _⟩ => rfl)]
    exact h66 _ _
  · rw [concatenate_pair_apply_right (t := S512x1280) (s₁ := S512x1024) (s₂ := S512x256) (1 : Fin 2) _ _ _ (ix2 r j) rfl rfl (ix2 r (⟨j.val - 1024, by omega⟩ : Fin 256)) (by
      intro b hb
      match b, hb with
      | ⟨0, _⟩, _ => rfl
      | ⟨1, _⟩, hb => exact absurd rfl hb) (by show j.val - 1024 + 1024 = j.val; omega)]
    refine (matmulT_real _ rfl _ _ _ (qq q) (fun j : Fin 256 => k ⟨4096 + j.val, by omega⟩) h49
      (fun j d => (dropUnit_apply _ _ _ _).trans (h67 j d)) r _).trans ?_
    have e : (⟨4096 + (j.val - 1024), by omega⟩ : Fin 4352) = c3 j := Fin.ext (by show 4096 + (j.val - 1024) = 3072 + j.val; omega)
    unfold sc
    rw [← e]

/-- The larger of two columns of reals. -/
theorem maxCol_real (x y : FVec Ideal S512x1 .f32) (a b : Fin 512 → ℝ) (hx : ∀ r z, x (ix2 r z) = (a r : EReal)) (hy : ∀ r z, y (ix2 r z) = (b r : EReal))
    (r : Fin 512) (z : Fin 1) : maximumf x y (ix2 r z) = ((max (a r) (b r) : ℝ) : EReal) := by
  rw [maximumf_apply, hx, hy]; exact (EReal.coe_strictMono.monotone.map_max (a := a r) (b := b r)).symm

/-- A running sum rescaled from one column of maxima to the next, plus the next chunk. -/
theorem rescale_real (x : FVec Ideal S512x256 .f32) (m m' : FVec Ideal S512x1 .f32) (y : FVec Ideal S512x256 .f32)
    (a : Fin 512 → Fin 256 → ℝ) (μ μ' : Fin 512 → ℝ) (b : Fin 512 → Fin 256 → ℝ)
    (hx : ∀ r c, x (ix2 r c) = (a r c : EReal)) (hm : ∀ r z, m (ix2 r z) = (μ r : EReal)) (hm' : ∀ r z, m' (ix2 r z) = (μ' r : EReal))
    (hy : ∀ r c, y (ix2 r c) = (b r c : EReal)) (hb : Shape.Broadcasts S512x1 S512x256) (r : Fin 512) (c : Fin 256) :
    addf (mulf x (broadcastTo S512x256 (exp2 (subf m m')) hb)) y (ix2 r c) = ((a r c * Real.rpow 2 (μ r - μ' r) + b r c : ℝ) : EReal) := by
  rw [addf_apply, mulf_apply, hx, hy, bcastCol_apply]
  have e : exp2 (subf m m') (ix2 r 0) = (Real.rpow 2 (μ r - μ' r) : EReal) := by
    show Ideal.exp2 (m (ix2 r 0) - m' (ix2 r 0)) = _
    rw [hm, hm', exp2_sub_coe]
  rw [e, ← EReal.coe_mul, ← EReal.coe_add]

/-- The difference of the two maps at an index: each the running sum of the values over the running sum of the weights. -/
theorem pay7_real (v30 : FVec Ideal S1x1 .f32) (v49 : FVec Ideal S512x128 .bf16) (v55 : FVec Ideal S512x1536 .f32) (v57 : FVec Ideal S512x1 .f32)
    (v63 : FVec Ideal S512x256 .f32) (v66 : FVec Ideal S512x1024 .f32) (v67 : Vec Ideal S1x256x128 .bf16) (v78 : Vec Ideal S1536x256 .bf16)
    (v92 : Vec Ideal S1280x256 .bf16) (lam : ℝ) (q : Fin 256 → Fin 128 → ℝ) (k : Fin 4352 → Fin 128 → ℝ) (v : Fin 4352 → Fin 128 → ℝ) (vx : Fin 4352 → Fin 256 → ℝ)
    (m1 : Fin 512 → ℝ) (s : Fin 512 → Fin 4352 → ℝ)
    (h30 : v30 (ix2 0 0) = (lam : EReal)) (h49 : ∀ r d, v49 (ix2 r d) = (qq q r d : EReal)) (h55 : ∀ r j, v55 (ix2 r j) = (sc q k r (c2 j) : EReal))
    (h57 : ∀ r z, v57 (ix2 r z) = (m1 r : EReal))
    (h63 : ∀ r c, v63 (ix2 r c) = ((∑ j, Real.rpow 2 (sc q k r (c1 j) - m1 r) * vx (c1 j) c : ℝ) : EReal))
    (h66 : ∀ r (j : Fin 1024), v66 (ix2 r j) = (sc q k r ⟨3072 + j.val, by omega⟩ : EReal))
    (h67 : ∀ (j : Fin 256) d, v67 (ix3 0 j d) = (k ⟨4096 + j.val, by omega⟩ d : EReal))
    (h78 : ∀ j c, v78 (ix2 j c) = (vx (c2 j) c : EReal)) (h92 : ∀ j c, v92 (ix2 j c) = (vx (c3 j) c : EReal))
    (hv : ∀ j (e : Fin 128), vx j ⟨e.val, by omega⟩ = v j e) (h1 : ∀ j (e : Fin 128), vx j ⟨128 + e.val, by omega⟩ = 1)
    (hs : ∀ r j, s r j = sc q k r j * Real.log 2)
    (a : Fin 256) (e : Fin 128) :
    k0_pay7 v30 v49 v55 v57 v63 v66 v67 v78 v92 (ix2 a e)
      = ((att (s ⟨a.val, by omega⟩) (fun j => v j e) - lam * att (s ⟨256 + a.val, by omega⟩) (fun j => v j e) : ℝ) : EReal) := by
  obtain ⟨n2, hn2⟩ := rowMax_real (by omega) v55 (fun r j => sc q k r (c2 j)) h55 reduces_S512x1536_S512 (.inl rfl) rfl shapeCasts_S512_S512x1
  have h70 := scores3_real v49 v66 v67 q k h49 h66 h67
  obtain ⟨n3, hn3⟩ := rowMax_real (by omega) _ (fun r j => sc q k r (c3 j)) h70 reduces_S512x1280_S512 (.inl rfl) rfl shapeCasts_S512_S512x1
  have h73 := maxCol_real _ _ m1 n2 h57 hn2
  have h87 := maxCol_real _ _ _ n3 h73 hn3
  have h79 := weighted_real dot_S512x1536_S1536x256_S512x256_1_0_0_1_n_n rfl v55 _ v78 (fun r j => sc q k r (c2 j)) _ (fun j => vx (c2 j)) h55 h73 h78
    broadcasts_S512x1_S512x1536 bitsLt_bf16_f32
  have h84 := rescale_real v63 v57 _ _ _ m1 _ _ h63 h57 h73 h79 broadcasts_S512x1_S512x256
  have h93 := weighted_real dot_S512x1280_S1280x256_S512x256_1_0_0_1_n_n rfl _ _ v92 (fun r j => sc q k r (c3 j)) _ (fun j => vx (c3 j)) h70 h87 h92
    broadcasts_S512x1_S512x1280 bitsLt_bf16_f32
  have h98 := rescale_real _ _ _ _ _ _ _ _ h84 h73 h87 h93 broadcasts_S512x1_S512x256
  unfold k0_pay7
  dsimp only
  generalize hX : addf (F := Ideal) (s := S512x256) (φ := .f32) (mulf _ _) _ = X at h98 ⊢
  have hacc : ∀ r c, X (ix2 r c) = (acc (sc q k r) (fun j => vx j c) (m1 r) (max (m1 r) (n2 r)) (max (max (m1 r) (n2 r)) (n3 r)) : EReal) := h98
  have hdiv : ∀ (r : Fin 512) (e : Fin 128), divf (extractStridedSlice S512x128 ![0, 0] X slices_S512x256_o0_0_S512x128)
      (extractStridedSlice S512x128 ![0, 128] X slices_S512x256_o0_128_S512x128) (ix2 r e) = (att (s r) (fun j => v j e) : EReal) := fun r e => by
    rw [divf_apply]
    rw [extractStridedSlice_apply (t := S512x128) ![0, 0] X _ (ix2 r e) (ix2 r (⟨e.val, by omega⟩ : Fin 256)) (by
      intro b
      match b with
      | ⟨0, _⟩ => exact (Nat.zero_add _).symm
      | ⟨1, _⟩ => exact (Nat.zero_add _).symm)]
    rw [extractStridedSlice_apply (t := S512x128) ![0, 128] X _ (ix2 r e) (ix2 r (⟨128 + e.val, by omega⟩ : Fin 256)) (by
      intro b
      match b with
      | ⟨0, _⟩ => exact (Nat.zero_add _).symm
      | ⟨1, _⟩ => rfl)]
    rw [hacc, hacc]
    simp only [hv, h1]
    refine (Ideal.div_coe (acc_one_ne _ _ _ _) _).trans ?_
    rw [← EReal.coe_mul, acc_div _ _ _ _ _ _ (hs r)]
  rw [subf_apply, mulf_apply]
  rw [extractStridedSlice_apply (t := S256x128) ![0, 0] _ _ (ix2 a e) (ix2 (⟨a.val, by omega⟩ : Fin 512) e) (by
      intro b
      match b with
      | ⟨0, _⟩ => exact (Nat.zero_add _).symm
      | ⟨1, _⟩ => exact (Nat.zero_add _).symm)]
  rw [extractStridedSlice_apply (t := S256x128) ![256, 0] _ _ (ix2 a e) (ix2 (⟨256 + a.val, by omega⟩ : Fin 512) e) (by
      intro b
      match b with
      | ⟨0, _⟩ => rfl
      | ⟨1, _⟩ => exact (Nat.zero_add _).symm)]
  rw [broadcastTo_apply v30 _ _ (ix2 0 0) (by
      intro b
      match b with
      | ⟨0, _⟩ => rfl
      | ⟨1, _⟩ => rfl)]
  rw [hdiv, hdiv, h30, ← EReal.coe_mul, ← EReal.coe_sub]

/-- The base-2 score times the logarithm of two is the first map's score: an eighth of the product over the first 64 lanes. -/
theorem sc_low (q : Fin 256 → Fin 128 → ℝ) (k : Fin 4352 → Fin 128 → ℝ) (a : Fin 256) (j : Fin 4352) :
    (∑ d : Fin 64, q a ⟨d.val, by omega⟩ * k j ⟨d.val, by omega⟩) * (1 / 8) = sc q k ⟨a.val, by omega⟩ j * Real.log 2 := by
  have hl : Real.log 2 ≠ 0 := (Real.log_pos one_lt_two).ne'
  unfold sc
  have h : ∑ d : Fin (64 + 64), qq q ⟨a.val, by omega⟩ d * k j d = _ := Fin.sum_univ_add (a := 64) (b := 64) _
  rw [show (∑ d : Fin 128, qq q ⟨a.val, by omega⟩ d * k j d) = _ from h]
  have z : ∑ d : Fin 64, qq q ⟨a.val, by omega⟩ (Fin.natAdd 64 d) * k j (Fin.natAdd 64 d) = 0 := Finset.sum_eq_zero fun d _ => by
    unfold qq
    rw [dif_pos a.isLt, if_neg (by show ¬ 64 + d.val < 64; omega), zero_mul]
  rw [z, add_zero, Finset.sum_mul, Finset.sum_mul]
  refine Finset.sum_congr rfl fun d _ => ?_
  unfold qq qs
  rw [dif_pos a.isLt, if_pos (by show d.val < 64; omega)]
  show q a ⟨d.val, _⟩ * k j ⟨d.val, _⟩ * (1 / 8) = q a ⟨d.val, _⟩ * (8⁻¹ * (Real.log 2)⁻¹) * k j ⟨d.val, _⟩ * Real.log 2
  field_simp

/-- The same for the second map, over the last 64 lanes. -/
theorem sc_high (q : Fin 256 → Fin 128 → ℝ) (k : Fin 4352 → Fin 128 → ℝ) (a : Fin 256) (j : Fin 4352) :
    (∑ d : Fin 64, q a ⟨64 + d.val, by omega⟩ * k j ⟨64 + d.val, by omega⟩) * (1 / 8) = sc q k ⟨256 + a.val, by omega⟩ j * Real.log 2 := by
  have hl : Real.log 2 ≠ 0 := (Real.log_pos one_lt_two).ne'
  have ha : ¬ (256 + a.val < 256) := by omega
  unfold sc
  have h : ∑ d : Fin (64 + 64), qq q ⟨256 + a.val, by omega⟩ d * k j d = _ := Fin.sum_univ_add (a := 64) (b := 64) _
  rw [show (∑ d : Fin 128, qq q ⟨256 + a.val, by omega⟩ d * k j d) = _ from h]
  have z : ∑ d : Fin 64, qq q ⟨256 + a.val, by omega⟩ (Fin.castAdd 64 d) * k j (Fin.castAdd 64 d) = 0 := Finset.sum_eq_zero fun d _ => by
    unfold qq
    rw [dif_neg ha, if_pos (by show d.val < 64; omega), zero_mul]
  rw [z, zero_add, Finset.sum_mul, Finset.sum_mul]
  refine Finset.sum_congr rfl fun d _ => ?_
  unfold qq qs
  rw [dif_neg ha, if_neg (by show ¬ 64 + d.val < 64; omega)]
  have e : (⟨256 + a.val - 256, by omega⟩ : Fin 256) = a := Fin.ext (by show 256 + a.val - 256 = a.val; omega)
  show q a ⟨64 + d.val, _⟩ * k j ⟨64 + d.val, _⟩ * (1 / 8) = q ⟨256 + a.val - 256, _⟩ ⟨64 + d.val, _⟩ * (8⁻¹ * (Real.log 2)⁻¹) * k j ⟨64 + d.val, _⟩ * Real.log 2
  rw [e]
  field_simp

end Cert.AttnPayload

end
-- ==== Proof.AttnBlock.lean ====
/- What the attention kernel's body leaves in its output block: tile by tile, the stored tile over the loads of the query rows,
   the keys, the context keys, the value buffer with its column of ones, the lambda rows and the scale. -/
module

public import proofs.«01_k».proof.Proof.AttnPayload
public import proofs.«01_k».proof.Proof.Gen.KernelIdeal.Value

@[expose] public section

set_option maxRecDepth 16384

noncomputable section

namespace Cert.AttnBlock

open Cert.KernelIdeal Cert.KernelIdeal.Gen Idealize.ShloMosaic Idealize.ShloMosaic.TcCoe Idealize.SL.Sem
open Idealize.ShloMosaic.ValueIdx Idealize.ShloMosaic.Tactic

variable {F : FTy → Type} [FloatOps F] [Named F]

/-- The query rows trip `k` reads. -/
abbrev qrows (x0 : Vec F S1x4096x128 .bf16) (k : Fin k0_t1_loop.trips) : Vec F S1x256x128 .bf16 :=
  View.ld x0 (Rect.unit (s := S1x4096x128) (k0_off1 k) S1x256x128.size (k0_off1_inb k))

/-- The difference of the two maps trip `k` computes, from the whole inputs and the value buffer's contents. -/
def diffTile (x0 x1 : Vec F S1x4096x128 .bf16) (x3 : Vec F S1x256x128 .bf16) (x5 : Vec F S4x64 .f32) (w : Vec F S4352x256 .bf16)
    (k : Fin k0_t1_loop.trips) : FVec F S256x128 .f32 :=
  k0_pay7 (k0_pay13 x5) (k0_pay1 (qrows x0 k))
    (k0_pay3 (qrows x0 k) (View.ld x1 (Rect.unit (s := S1x4096x128) ![0, 1536, 0] S1x1536x128.size inb_S1x4096x128_S1x1536x128_0_1536_0)))
    (k0_pay4 (qrows x0 k) (View.ld x1 (Rect.unit (s := S1x4096x128) ![0, 0, 0] S1x1536x128.size inb_S1x4096x128_S1x1536x128_0_0_0)))
    (k0_pay5 (qrows x0 k) (View.ld x1 (Rect.unit (s := S1x4096x128) ![0, 0, 0] S1x1536x128.size inb_S1x4096x128_S1x1536x128_0_0_0))
      (View.ld w (Rect.unit (s := S4352x256) ![0, 0] S1536x256.size inb_S4352x256_S1536x256_0_0)))
    (k0_pay6 (qrows x0 k) (View.ld x1 (Rect.unit (s := S1x4096x128) ![0, 3072, 0] S1x1024x128.size inb_S1x4096x128_S1x1024x128_0_3072_0)))
    x3
    (View.ld w (Rect.unit (s := S4352x256) ![1536, 0] S1536x256.size inb_S4352x256_S1536x256_1536_0))
    (View.ld w (Rect.unit (s := S4352x256) ![3072, 0] S1280x256.size inb_S4352x256_S1280x256_3072_0))

/-- The sum of squares payload is the row sum of the squared difference, kept as a column. -/
def sumSq (x : FVec F S256x128 .f32) : FVec F S256x1 .f32 :=
  shapeCast S256x1 (multiReduction .add [1] S256 (mulf x x) 0x00000000#32 reduces_S256x128_S256 (.inl rfl) rfl) shapeCasts_S256_S256x1

/-- The tile trip `k` stores. -/
def tile (x0 x1 : Vec F S1x4096x128 .bf16) (x3 : Vec F S1x256x128 .bf16) (x5 : Vec F S4x64 .f32) (x6 : Vec F S1x128 .f32) (w : Vec F S4352x256 .bf16)
    (k : Fin k0_t1_loop.trips) : FVec F S1x256x128 .bf16 :=
  k0_pay14 (diffTile x0 x1 x3 x5 w k) x6 (sumSq (diffTile x0 x1 x3 x5 w k)) (Scalar.ofBits .f32 0x43000000#32)

theorem hz2 : (![0, 0] : Fin 2 → ℕ) = fun _ => 0 := by decide
theorem hz3 : (![0, 0, 0] : Fin 3 → ℕ) = fun _ => 0 := by decide

/-- One trip's store, over the buffers' contents as they read. -/
theorem trip_eq (𝒱 : Variants) (bd : Option 𝒱.V) (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x4096x128 .bf16) (harg9 : arg9.IsWhole) (arg10 : Memref sig .tc .vmem S4352x256 .bf16) (harg10 : arg10.IsWhole) (v14 : Vec F S4x64 .f32)
    (X_arg2 : BufTy.Contents (Elt F) arg2.view.ty) (X_arg3 : BufTy.Contents (Elt F) arg3.view.ty) (X_arg5 : BufTy.Contents (Elt F) arg5.view.ty) (X_arg8 : BufTy.Contents (Elt F) arg8.view.ty) (X_arg10 : BufTy.Contents (Elt F) arg10.view.ty) (k : Fin k0_t1_loop.trips) :
    tripL_k0_t1 (F := F) 𝒱 c bd i arg2 harg2 arg3 harg3 arg4 harg4 arg5 harg5 arg6 harg6 arg7 harg7 arg8 harg8 arg9 harg9 arg10 harg10 v14 X_arg2 X_arg3 X_arg5 X_arg8 X_arg10 k
      = [⟨Rect.unit (s := S1x4096x128) (k0_off1 k) S1x256x128.size (k0_off1_inb k),
          tile (arg2.view.read (Elt F) X_arg2) (arg3.view.read (Elt F) X_arg3) (arg5.view.read (Elt F) X_arg5) v14 (arg8.view.read (Elt F) X_arg8)
            (arg10.view.read (Elt F) X_arg10) k⟩] := by
  have h5 := fun h => (View.readAt_eq_ld arg5.view X_arg5 (Rect.unit (s := S1x256x128) ![0, 0, 0] S1x256x128.size h)).trans (View.ld_unit_zero (S := S1x256x128) hz3 _ _)
  have h8 := fun h => (View.readAt_eq_ld arg8.view X_arg8 (Rect.unit (s := S1x128) ![0, 0] S1x128.size h)).trans (View.ld_unit_zero (S := S1x128) hz2 _ _)
  unfold tripL_k0_t1 trip_k0_t1
  dsimp only
  sl_unfold_words
  unfold tile diffTile sumSq k0_pay7
  rw [h5, h8, shapeCast_self (s := S1x128)]
  rfl

/-- The value buffer's writes, last first: the column of ones, the context values, the values. -/
def vxPieces (x2 : Vec F S1x4096x128 .bf16) (x4 : Vec F S1x256x128 .bf16) : List (View.Piece (Elt F) S4352x256 .bf16) :=
  [⟨Rect.unit (s := S4352x256) ![0, 128] S4352x128.size inb_S4352x256_S4352x128_0_128, k0_pay12 (F := F)⟩,
    ⟨Rect.unit (s := S4352x256) ![4096, 0] S256x128.size inb_S4352x256_S256x128_4096_0, k0_pay11 x4⟩,
    ⟨Rect.unit (s := S4352x256) ![0, 0] S4096x128.size inb_S4352x256_S4096x128_0_0, k0_pay10 x2⟩]

/-- Every piece of the trips before `n` stores its trip's tile. -/
theorem pieces_of (𝒱 : Variants) (bd : Option 𝒱.V) (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x4096x128 .bf16) (harg9 : arg9.IsWhole) (arg10 : Memref sig .tc .vmem S4352x256 .bf16) (harg10 : arg10.IsWhole) (v14 : Vec F S4x64 .f32)
    (X_arg2 : BufTy.Contents (Elt F) arg2.view.ty) (X_arg3 : BufTy.Contents (Elt F) arg3.view.ty) (X_arg5 : BufTy.Contents (Elt F) arg5.view.ty) (X_arg8 : BufTy.Contents (Elt F) arg8.view.ty) (X_arg10 : BufTy.Contents (Elt F) arg10.view.ty) :
    ∀ n, n ≤ k0_t1_loop.trips → ∀ p ∈ pb_k0_t1 (F := F) 𝒱 c bd i arg2 harg2 arg3 harg3 arg4 harg4 arg5 harg5 arg6 harg6 arg7 harg7 arg8 harg8 arg9 harg9 arg10 harg10 v14 X_arg2 X_arg3 X_arg5 X_arg8 X_arg10 n,
      ∃ k : Fin k0_t1_loop.trips, p = ⟨Rect.unit (s := S1x4096x128) (k0_off1 k) S1x256x128.size (k0_off1_inb k),
          tile (arg2.view.read (Elt F) X_arg2) (arg3.view.read (Elt F) X_arg3) (arg5.view.read (Elt F) X_arg5) v14 (arg8.view.read (Elt F) X_arg8)
            (arg10.view.read (Elt F) X_arg10) k⟩
  | 0, _, p, hp => by simp [pb_k0_t1] at hp
  | n + 1, hn, p, hp => by
    rw [show n + 1 = (⟨n, hn⟩ : Fin k0_t1_loop.trips).val + 1 from rfl, pb_k0_t1_succ, trip_eq] at hp
    rcases List.mem_append.mp hp with h | h
    · exact ⟨_, List.mem_singleton.mp h⟩
    · exact pieces_of 𝒱 bd c i arg2 harg2 arg3 harg3 arg4 harg4 arg5 harg5 arg6 harg6 arg7 harg7 arg8 harg8 arg9 harg9 arg10 harg10 v14 X_arg2 X_arg3 X_arg5 X_arg8 X_arg10 n (Nat.le_of_succ_le hn) p h

/-- The number of trips. -/
theorem trips_eq : k0_t1_loop.trips = 16 := by decide +kernel

/-- The output block one body leaves: row `l` of the block is row `l mod 256` of the tile of trip `l / 256`. -/
def blockOut (x0 : Vec F S1x4096x128 .bf16) (x1 : Vec F S1x4096x128 .bf16) (x2 : Vec F S1x4096x128 .bf16) (x3 : Vec F S1x256x128 .bf16) (x4 : Vec F S1x256x128 .bf16) (x5 : Vec F S4x64 .f32) (x6 : Vec F S1x128 .f32) (y : S1x4096x128.Idx) : Elt F .bf16 :=
  tile x0 x1 x3 x5 x6 (View.canon (vxPieces x2 x4)) ⟨(y 1).val / 256, by rw [trips_eq]; have : (y 1).val < 4096 := (y 1).isLt; omega⟩
    (ix3 0 (⟨(y 1).val % 256, Nat.mod_lt _ (by omega)⟩ : Fin 256) (y 2))

/-- What the run leaves in the output block. -/
theorem out_eq (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x4096x128 .bf16) (harg9 : arg9.IsWhole) (arg10 : Memref sig .tc .vmem S4352x256 .bf16) (harg10 : arg10.IsWhole)
    (x0 : Vec F S1x4096x128 .bf16) (x1 : Vec F S1x4096x128 .bf16) (x2 : Vec F S1x4096x128 .bf16) (x3 : Vec F S1x256x128 .bf16) (x4 : Vec F S1x256x128 .bf16) (x5 : Vec F S4x64 .f32) (x6 : Vec F S1x128 .f32) :
    out0_A_7 c i arg2 harg2 arg3 harg3 arg4 harg4 arg5 harg5 arg6 harg6 arg7 harg7 arg8 harg8 arg9 harg9 arg10 harg10 x0 x1 x2 x3 x4 x5 x6 = blockOut x0 x1 x2 x3 x4 x5 x6 := by
  unfold out0_A_7
  have hc := cover0_A_7 c i arg2 harg2 arg3 harg3 arg4 harg4 arg5 harg5 arg6 harg6 arg7 harg7 arg8 harg8 arg9 harg9 arg10 harg10 x0 x1 x2 x3 x4 x5 x6
  rw [View.read_writes_eq_canon _ _ _ hc]
  funext y
  refine View.canon_apply_of_pieces _ _ (fun p hp x => ?_) y (hc y)
  unfold kernelRun0_A at hp
  dsimp only at hp
  obtain ⟨k, rfl⟩ := pieces_of _ _ _ _ _ _ _ _ _ _ _ _ _ _ _ _ _ _ _ _ _ _ _ _ _ _ _ _ _ le_rfl p hp
  have h7 := fun h => (View.readAt_eq_ld arg7.view (harg7.unread x5) (Rect.unit (s := S4x64) ![0, 0] S4x64.size h)).trans (View.ld_unit_zero (S := S4x64) hz2 _ _)
  have h4 := fun h => (View.readAt_eq_ld arg4.view (harg4.unread x2) (Rect.unit (s := S1x4096x128) ![0, 0, 0] S1x4096x128.size h)).trans (View.ld_unit_zero (S := S1x4096x128) hz3 _ _)
  have h6 := fun h => (View.readAt_eq_ld arg6.view (harg6.unread x4) (Rect.unit (s := S1x256x128) ![0, 0, 0] S1x256x128.size h)).trans (View.ld_unit_zero (S := S1x256x128) hz3 _ _)
  have h10 : arg10.view.read (Elt F) (arg10.view.writes (Elt F) arg10.view.junk (kernelRun0_A.sl.HS0_3 c arg4 harg4 arg6 harg6 x2 x4)) = View.canon (vxPieces x2 x4) := by
    rw [View.read_writes_junk_eq_canon]
    sl_unfold_words
    rw [h4, h6, harg4.read_unread, harg6.read_unread]
    rfl
  show tile _ _ _ _ _ _ k x = blockOut x0 x1 x2 x3 x4 x5 x6 _
  rw [h7, h10, harg2.read_unread, harg3.read_unread, harg5.read_unread, harg7.read_unread, harg8.read_unread]
  have hk := k.isLt
  have e1 : (((Rect.unit (s := S1x4096x128) (k0_off1 k) S1x256x128.size (k0_off1_inb k)).emb x) 1).val = 256 * k.val + (x 1).val := by
    show k0_off1 k 1 + 1 * (x 1).val = _
    rw [congrFun (k0_off1_eq k) 1]; show 256 * k.val + 1 * (x 1).val = _; omega
  have e2 : (((Rect.unit (s := S1x4096x128) (k0_off1 k) S1x256x128.size (k0_off1_inb k)).emb x) 2).val = (x 2).val := by
    show k0_off1 k 2 + 1 * (x 2).val = _
    rw [congrFun (k0_off1_eq k) 2]; show 0 + 1 * (x 2).val = _; omega
  have hx1 : (x 1).val < 256 := (x 1).isLt
  have hx0 : (x 0).val < 1 := (x 0).isLt
  unfold blockOut
  have ek : ∀ h, (⟨(((Rect.unit (s := S1x4096x128) (k0_off1 k) S1x256x128.size (k0_off1_inb k)).emb x) 1).val / 256, h⟩ : Fin k0_t1_loop.trips) = k := fun h =>
    Fin.ext ((congrArg (· / 256) e1).trans (by show (256 * k.val + (x 1).val) / 256 = k.val; omega))
  rw [ek]
  refine congrArg _ (funext fun a => Fin.ext ?_)
  match a with
  | ⟨0, _⟩ => show (x 0).val = 0; omega
  | ⟨1, _⟩ => exact (show (x 1).val = (256 * k.val + (x 1).val) % 256 by omega).trans (congrArg (· % 256) e1).symm
  | ⟨2, _⟩ => exact e2.symm

end Cert.AttnBlock

end
-- ==== Proof.AttnTile.lean ====
/- The attention kernel's output block at an index, over reals: the normalised difference of the two softmax maps of the block's
   queries over its keys and values. -/
module

public import proofs.«01_k».proof.Proof.AttnBlock

@[expose] public section

set_option maxRecDepth 16384

noncomputable section

namespace Cert.AttnTile

open Cert.KernelIdeal Cert.KernelIdeal.Gen Cert.AttnMath Cert.AttnOps Cert.AttnPayload Cert.AttnBlock
open Idealize.ShloMosaic Idealize.ShloMosaic.ValueIdx

/-- The score of query row `l` against key `j` in one map: an eighth of the product over that map's 64 lanes. -/
def score (q : Fin 4096 → Fin 128 → ℝ) (k : Fin 4352 → Fin 128 → ℝ) (mp : Fin 2) (l : Fin 4096) (j : Fin 4352) : ℝ :=
  (∑ d : Fin 64, q l ⟨64 * mp.val + d.val, by omega⟩ * k j ⟨64 * mp.val + d.val, by omega⟩) * (1 / 8)

/-- The difference of the two maps' averages of the values. -/
def diff (lam : ℝ) (q : Fin 4096 → Fin 128 → ℝ) (k v : Fin 4352 → Fin 128 → ℝ) (l : Fin 4096) (e : Fin 128) : ℝ :=
  att (score q k 0 l) (fun j => v j e) - lam * att (score q k 1 l) (fun j => v j e)

/-- A row divided by the root of its mean square, times the scale, times four fifths. -/
def normed (o g : Fin 128 → EReal) (e : Fin 128) : EReal :=
  o e * Ideal.rsqrt (Ideal.div (∑ e', o e' * o e') (Ideal.ofBits .f32 0x43000000#32) + Ideal.ofBits .f32 0x358637BD#32) * g e
    * Ideal.ofBits .f32 0x3F4CCCCD#32

/-- Sequence rows followed by context rows. -/
def joined (a : Fin 4096 → Fin 128 → ℝ) (b : Fin 256 → Fin 128 → ℝ) (j : Fin 4352) (d : Fin 128) : ℝ :=
  if h : j.val < 4096 then a ⟨j.val, h⟩ d else b ⟨j.val - 4096, by omega⟩ d

/-- The value buffer's rows: the values, then a hundred and twenty-eight ones. -/
def withOnes (v : Fin 4352 → Fin 128 → ℝ) (j : Fin 4352) (c : Fin 256) : ℝ := if h : c.val < 128 then v j ⟨c.val, h⟩ else 1

/-- The value buffer after its three stores. -/
theorem vx_apply (x2 : Vec Ideal S1x4096x128 .bf16) (x4 : Vec Ideal S1x256x128 .bf16) (v : Fin 4096 → Fin 128 → ℝ) (vc : Fin 256 → Fin 128 → ℝ)
    (h2 : ∀ j d, x2 (ix3 0 j d) = (v j d : EReal)) (h4 : ∀ j d, x4 (ix3 0 j d) = (vc j d : EReal)) (y : S4352x256.Idx) :
    View.canon (Val := Elt Ideal) (vxPieces x2 x4) y = (withOnes (joined v vc) (y 0) (y 1) : EReal) := by
  refine View.canon_apply_of_pieces (Val := Elt Ideal) (e := .bf16) (fun y : S4352x256.Idx => ((withOnes (joined v vc) (y 0) (y 1) : ℝ) : EReal)) _ (fun p hp x => ?_) y ?_
  · unfold vxPieces at hp
    simp only [List.mem_cons, List.not_mem_nil, or_false] at hp
    rcases hp with rfl | rfl | rfl
    · have c1 : ((Rect.unit (s := S4352x256) ![0, 128] S4352x128.size inb_S4352x256_S4352x128_0_128).emb x 1).val = 128 + 1 * (x 1).val := rfl
      show k0_pay12 (F := Ideal) x = _
      unfold k0_pay12 withOnes
      rw [dif_neg (by rw [c1]; omega)]
      exact (congrFun (shapeCast_self _ _) x).trans bits_one16
    · have c0 : ((Rect.unit (s := S4352x256) ![4096, 0] S256x128.size inb_S4352x256_S256x128_4096_0).emb x 0).val = 4096 + 1 * (x 0).val := rfl
      have c1 : ((Rect.unit (s := S4352x256) ![4096, 0] S256x128.size inb_S4352x256_S256x128_4096_0).emb x 1).val = 0 + 1 * (x 1).val := rfl
      have hx : (x 1).val < 128 := (x 1).isLt
      show k0_pay11 x4 x = _
      unfold k0_pay11 withOnes joined
      rw [dif_pos (by rw [c1]; omega), dif_neg (by rw [c0]; omega)]
      refine (congrFun (shapeCast_self _ _) x).trans ?_
      refine (congrArg _ (eq_ix2 x)).trans ((dropUnit_apply x4 _ (x 0) (x 1)).trans ((h4 (x 0) (x 1)).trans ?_))
      refine congrArg _ (congrArg₂ vc (Fin.ext ?_) (Fin.ext ?_))
      · show (x 0).val = 4096 + 1 * (x 0).val - 4096; omega
      · show (x 1).val = 0 + 1 * (x 1).val; omega
    · have c0 : ((Rect.unit (s := S4352x256) ![0, 0] S4096x128.size inb_S4352x256_S4096x128_0_0).emb x 0).val = 0 + 1 * (x 0).val := rfl
      have c1 : ((Rect.unit (s := S4352x256) ![0, 0] S4096x128.size inb_S4352x256_S4096x128_0_0).emb x 1).val = 0 + 1 * (x 1).val := rfl
      have hx : (x 1).val < 128 := (x 1).isLt
      have hx0 : (x 0).val < 4096 := (x 0).isLt
      show k0_pay10 x2 x = _
      unfold k0_pay10 withOnes joined
      rw [dif_pos (by rw [c1]; omega), dif_pos (by rw [c0]; omega)]
      refine (congrFun (shapeCast_self _ _) x).trans ?_
      refine (congrArg _ (eq_ix2 x)).trans ((dropUnit_apply x2 _ (x 0) (x 1)).trans ((h2 (x 0) (x 1)).trans ?_))
      refine congrArg _ (congrArg₂ v (Fin.ext ?_) (Fin.ext ?_))
      · show (x 0).val = 0 + 1 * (x 0).val; omega
      · show (x 1).val = 0 + 1 * (x 1).val; omega
  · have hy0 : (y 0).val < 4352 := (y 0).isLt
    have hy1 : (y 1).val < 256 := (y 1).isLt
    unfold vxPieces
    by_cases h1 : (y 1).val < 128
    · by_cases h0 : (y 0).val < 4096
      · refine ⟨_, List.mem_cons_of_mem _ (List.mem_cons_of_mem _ List.mem_cons_self), ?_⟩
        rw [Rect.mem_set_unit]
        intro a
        match a with
        | ⟨0, _⟩ => show 0 ≤ (y 0).val ∧ (y 0).val < 0 + 4096; omega
        | ⟨1, _⟩ => show 0 ≤ (y 1).val ∧ (y 1).val < 0 + 128; omega
      · refine ⟨_, List.mem_cons_of_mem _ List.mem_cons_self, ?_⟩
        rw [Rect.mem_set_unit]
        intro a
        match a with
        | ⟨0, _⟩ => show 4096 ≤ (y 0).val ∧ (y 0).val < 4096 + 256; omega
        | ⟨1, _⟩ => show 0 ≤ (y 1).val ∧ (y 1).val < 0 + 128; omega
    · refine ⟨_, List.mem_cons_self, ?_⟩
      rw [Rect.mem_set_unit]
      intro a
      match a with
      | ⟨0, _⟩ => show 0 ≤ (y 0).val ∧ (y 0).val < 0 + 4352; omega
      | ⟨1, _⟩ => show 128 ≤ (y 1).val ∧ (y 1).val < 128 + 128; omega

/-- A load of whole rows of a block, at an index. -/
theorem ld3_apply {N : ℕ} (x : Vec Ideal S1x4096x128 .bf16) (off : ℕ)
    (inb : ∀ a, (![0, off, 0] : Fin 3 → ℕ) a + (![1, N, 128] : Fin 3 → ℕ) a ≤ S1x4096x128.size a) (j : Fin N) (d : Fin 128) (h : off + j.val < 4096) :
    View.ld (Val := Elt Ideal) x (Rect.unit (s := S1x4096x128) ![0, off, 0] ![1, N, 128] inb) (ix3 0 j d) = x (ix3 0 ⟨off + j.val, h⟩ d) := by
  refine congrArg x (funext fun a => Fin.ext ?_)
  match a with
  | ⟨0, _⟩ => rfl
  | ⟨1, _⟩ => show off + 1 * j.val = off + j.val; omega
  | ⟨2, _⟩ => show 0 + 1 * d.val = d.val; omega

/-- A load of whole rows of the value buffer, at an index. -/
theorem ld2_apply {N : ℕ} (x : Vec Ideal S4352x256 .bf16) (off : ℕ)
    (inb : ∀ a, (![off, 0] : Fin 2 → ℕ) a + (![N, 256] : Fin 2 → ℕ) a ≤ S4352x256.size a) (j : Fin N) (c : Fin 256) (h : off + j.val < 4352) :
    View.ld (Val := Elt Ideal) x (Rect.unit (s := S4352x256) ![off, 0] ![N, 256] inb) (ix2 j c) = x (ix2 ⟨off + j.val, h⟩ c) := by
  refine congrArg x (funext fun a => Fin.ext ?_)
  match a with
  | ⟨0, _⟩ => show off + 1 * j.val = off + j.val; omega
  | ⟨1, _⟩ => show 0 + 1 * c.val = c.val; omega

/-- The query rows of trip `k`, at an index. -/
theorem qrows_apply (x0 : Vec Ideal S1x4096x128 .bf16) (k : Fin k0_t1_loop.trips) (a : Fin 256) (d : Fin 128) (h : 256 * k.val + a.val < 4096) :
    qrows x0 k (ix3 0 a d) = x0 (ix3 0 ⟨256 * k.val + a.val, h⟩ d) := by
  refine congrArg x0 (funext fun b => Fin.ext ?_)
  match b with
  | ⟨0, _⟩ => show k0_off1 k 0 + 1 * 0 = 0; rw [congrFun (k0_off1_eq k) 0]; rfl
  | ⟨1, _⟩ => show k0_off1 k 1 + 1 * a.val = _; rw [congrFun (k0_off1_eq k) 1]; show 256 * k.val + 1 * a.val = 256 * k.val + a.val; omega
  | ⟨2, _⟩ => show k0_off1 k 2 + 1 * d.val = _; rw [congrFun (k0_off1_eq k) 2]; show 0 + 1 * d.val = d.val; omega

/-- The difference of the two maps a trip computes, over the block's reals. -/
theorem diffTile_apply (x0 x1 x2 : Vec Ideal S1x4096x128 .bf16) (x3 x4 : Vec Ideal S1x256x128 .bf16) (x5 : Vec Ideal S4x64 .f32)
    (lam : ℝ) (q k v : Fin 4096 → Fin 128 → ℝ) (kc vc : Fin 256 → Fin 128 → ℝ)
    (h0 : ∀ j d, x0 (ix3 0 j d) = (q j d : EReal)) (h1 : ∀ j d, x1 (ix3 0 j d) = (k j d : EReal)) (h2 : ∀ j d, x2 (ix3 0 j d) = (v j d : EReal))
    (h3 : ∀ j d, x3 (ix3 0 j d) = (kc j d : EReal)) (h4 : ∀ j d, x4 (ix3 0 j d) = (vc j d : EReal)) (h5 : k0_pay13 x5 (ix2 0 0) = (lam : EReal))
    (t : Fin k0_t1_loop.trips) (a : Fin 256) (e : Fin 128) (h : 256 * t.val + a.val < 4096) :
    diffTile x0 x1 x3 x5 (View.canon (vxPieces x2 x4)) t (ix2 a e)
      = (diff lam q (joined k kc) (joined v vc) ⟨256 * t.val + a.val, h⟩ e : EReal) := by
  have ht : t.val < 16 := trips_eq ▸ t.isLt
  have hq : ∀ (a : Fin 256) d, qrows x0 t (ix3 0 a d) = (q ⟨256 * t.val + a.val, by omega⟩ d : EReal) := fun a d =>
    (qrows_apply x0 t a d (by omega)).trans (h0 _ _)
  have hkj : ∀ (n : ℕ) (hn : n < 4096) d, x1 (ix3 0 ⟨n, hn⟩ d) = (joined k kc ⟨n, by omega⟩ d : EReal) := fun n hn d => by
    unfold joined; rw [dif_pos (show (⟨n, by omega⟩ : Fin 4352).val < 4096 from hn)]; exact h1 _ _
  have hw := vx_apply x2 x4 v vc h2 h4
  obtain ⟨m1, hm1⟩ := pay4_real (qrows x0 t) (View.ld x1 (Rect.unit (s := S1x4096x128) ![0, 0, 0] S1x1536x128.size inb_S1x4096x128_S1x1536x128_0_0_0))
    (fun a d => q ⟨256 * t.val + a.val, by omega⟩ d) (joined k kc) hq
    (fun j d => (ld3_apply x1 0 _ j d (by omega)).trans ((hkj _ _ d).trans (congrArg (fun z => ((joined k kc z d : ℝ) : EReal)) (Fin.ext (Nat.zero_add _)))))
  have hk1 : ∀ j d, View.ld (Val := Elt Ideal) x1 (Rect.unit (s := S1x4096x128) ![0, 0, 0] S1x1536x128.size inb_S1x4096x128_S1x1536x128_0_0_0) (ix3 0 j d)
      = (joined k kc (c1 j) d : EReal) := fun j d =>
    (ld3_apply x1 0 _ j d (by omega)).trans ((hkj _ _ d).trans (congrArg (fun z => ((joined k kc z d : ℝ) : EReal)) (Fin.ext (Nat.zero_add _))))
  have hs : ∀ (r : Fin 512) (j : Fin 4352),
      (if hr : r.val < 256 then score q (joined k kc) 0 ⟨256 * t.val + r.val, by omega⟩ j
        else score q (joined k kc) 1 ⟨256 * t.val + (r.val - 256), by omega⟩ j)
      = sc (fun a d => q ⟨256 * t.val + a.val, by omega⟩ d) (joined k kc) r j * Real.log 2 := fun r j => by
    by_cases hr : r.val < 256
    · rw [dif_pos hr]
      refine Eq.trans ?_ (sc_low (fun a d => q ⟨256 * t.val + a.val, by omega⟩ d) (joined k kc) ⟨r.val, hr⟩ j)
      unfold score
      refine congrArg (· * (1 / 8 : ℝ)) (Finset.sum_congr rfl fun d _ => ?_)
      exact congrArg (fun z => q _ z * joined k kc j z) (Fin.ext (by show 64 * 0 + d.val = d.val; omega))
    · rw [dif_neg hr]
      refine Eq.trans ?_ ((sc_high (fun a d => q ⟨256 * t.val + a.val, by omega⟩ d) (joined k kc) ⟨r.val - 256, by omega⟩ j).trans
        (congrArg (fun z => sc (fun a d => q ⟨256 * t.val + a.val, by omega⟩ d) (joined k kc) z j * Real.log 2)
          (Fin.ext (by show 256 + (r.val - 256) = r.val; omega))))
      unfold score
      rfl
  refine (pay7_real _ _ _ _ _ _ x3 _ _ lam (fun a d => q ⟨256 * t.val + a.val, by omega⟩ d) (joined k kc) (joined v vc) (withOnes (joined v vc)) m1 _
    h5 (pay1_real _ _ hq)
    (pay3_real _ _ _ _ hq fun j d => (ld3_apply x1 1536 _ j d (by omega)).trans (hkj _ _ d))
    hm1
    (pay5_real _ _ _ _ _ (withOnes (joined v vc)) m1 hq hk1 (fun j c => (ld2_apply _ 0 _ j c (by omega)).trans ((hw _).trans
      (congrArg (fun z => ((withOnes (joined v vc) z c : ℝ) : EReal)) (Fin.ext (Nat.zero_add _))))) hm1)
    (pay6_real _ _ _ _ hq fun j d => (ld3_apply x1 3072 _ j d (by omega)).trans (hkj _ _ d))
    (fun j d => ?_)
    (fun j c => (ld2_apply _ 1536 _ j c (by omega)).trans (hw _))
    (fun j c => (ld2_apply _ 3072 _ j c (by omega)).trans (hw _))
    (fun j e => by unfold withOnes; rw [dif_pos e.isLt])
    (fun j e => by unfold withOnes; exact dif_neg (by show ¬ 128 + e.val < 128; omega))
    hs a e).trans ?_
  · rw [h3]
    unfold joined
    rw [dif_neg (show ¬ 4096 + j.val < 4096 by omega)]
    exact congrArg (fun z => ((kc z d : ℝ) : EReal)) (Fin.ext (by show j.val = 4096 + j.val - 4096; omega))
  · refine congrArg _ ?_
    unfold diff
    simp only [dif_pos a.isLt, dif_neg (show ¬ 256 + a.val < 256 by omega), Nat.add_sub_cancel_left]

/-- The stored tile at an index: the difference row, normalised. -/
theorem pay14_apply (o : FVec Ideal S256x128 .f32) (g : FVec Ideal S1x128 .f32) (a : Fin 256) (e : Fin 128) :
    k0_pay14 o g (sumSq o) (Scalar.ofBits .f32 0x43000000#32) (ix3 0 a e)
      = normed (fun e => o (ix2 a e)) (fun e => g (ix2 0 e)) e := by
  have hsq : ∀ z, sumSq o (ix2 a z) = ∑ e', o (ix2 a e') * o (ix2 a e') := fun z => by
    unfold sumSq
    refine (shapeCast_apply _ shapeCasts_S256_S256x1 _ (ix1 a) ?_).trans ?_
    · rw [Shape.rowMajor_val_one, Shape.rowMajor_val_two]
      have := z.isLt
      show a.val = a.val * 1 + z.val
      omega
    refine (Ideal.multiReduction_add_single _ _ reduces_S256x128_S256 (.inl rfl) rfl (ix1 a)).trans ?_
    refine Finset.sum_congr rfl fun k _ => ?_
    rw [mulf_apply]
    rw [show reduces_S256x128_S256.lift (ix1 a) k = ix2 a k from by
      funext b; apply Fin.ext
      match b with
      | ⟨0, _⟩ => rfl
      | ⟨1, _⟩ => rfl]
    rfl
  unfold k0_pay14 normed
  dsimp only
  refine (shapeCast_apply _ shapeCasts_S256x128_S1x256x128 _ (ix2 a e) ?_).trans ?_
  · rw [Shape.rowMajor_val_three, Shape.rowMajor_val_two]
    show a.val * 128 + e.val = (0 * 256 + a.val) * 128 + e.val
    omega
  rw [truncf_apply, mulf_apply, mulf_apply, mulf_apply, bcastCol_apply]
  rw [broadcastTo_apply g _ _ (ix2 0 e) (by
      intro b
      match b with
      | ⟨0, _⟩ => rfl
      | ⟨1, _⟩ => rfl)]
  show o (ix2 a e) * Ideal.rsqrt (Ideal.div (sumSq o (ix2 a 0)) _ + _) * g (ix2 0 e) * _ = _
  rw [hsq]
  rfl

/-- The output block at an index. -/
theorem block_apply (x0 x1 x2 : Vec Ideal S1x4096x128 .bf16) (x3 x4 : Vec Ideal S1x256x128 .bf16) (x5 : Vec Ideal S4x64 .f32) (x6 : Vec Ideal S1x128 .f32)
    (lam : ℝ) (q k v : Fin 4096 → Fin 128 → ℝ) (kc vc : Fin 256 → Fin 128 → ℝ)
    (h0 : ∀ j d, x0 (ix3 0 j d) = (q j d : EReal)) (h1 : ∀ j d, x1 (ix3 0 j d) = (k j d : EReal)) (h2 : ∀ j d, x2 (ix3 0 j d) = (v j d : EReal))
    (h3 : ∀ j d, x3 (ix3 0 j d) = (kc j d : EReal)) (h4 : ∀ j d, x4 (ix3 0 j d) = (vc j d : EReal)) (h5 : k0_pay13 x5 (ix2 0 0) = (lam : EReal))
    (l : Fin 4096) (e : Fin 128) :
    blockOut x0 x1 x2 x3 x4 x5 x6 (ix3 0 l e)
      = normed (fun e => (diff lam q (joined k kc) (joined v vc) l e : EReal)) (fun e => x6 (ix2 0 e)) e := by
  unfold blockOut tile
  refine (pay14_apply _ _ _ _).trans ?_
  congr 1
  funext e'
  have hl : 256 * (l.val / 256) + l.val % 256 = l.val := Nat.div_add_mod _ _
  refine (diffTile_apply x0 x1 x2 x3 x4 x5 lam q k v kc vc h0 h1 h2 h3 h4 h5 _ _ e' (by show 256 * (l.val / 256) + l.val % 256 < 4096; omega)).trans ?_
  exact congrArg (fun z => ((diff lam q (joined k kc) (joined v vc) z e' : ℝ) : EReal)) (Fin.ext hl)

end Cert.AttnTile

end
-- ==== Proof.AttnKernel.lean ====
/- The attention kernel's result array, index by index, from real-valued arguments. -/
module

public import proofs.«01_k».proof.Proof.AttnTile
public import proofs.«01_k».proof.Proof.Gen.KernelIdeal.Value
public import Idealize.ShloMosaic.Lib.Pipeline.ValueKit

@[expose] public section

set_option maxRecDepth 16384

noncomputable section

namespace Cert.AttnKernel

open Cert.KernelIdeal Cert.KernelIdeal.Gen Cert.KernelIdeal.Value Cert.AttnMath Cert.AttnOps Cert.AttnPayload Cert.AttnBlock Cert.AttnTile
open Idealize.ShloMosaic hiding ix0 ix1 ix2 ix3 ix4 ix5
open Idealize.ShloMosaic.ValueIdx Idealize.ShloMosaic.TcCoe Idealize.SL.Sem
open Idealize.ShloMosaic.Pipeline (Dat)

/-- The weight of the second map: the difference of the exponentials of two products, plus a fifth. -/
def lamOf (a b c d : Fin 64 → EReal) : EReal :=
  Ideal.exp (∑ j, a j * b j) - Ideal.exp (∑ j, c j * d j) + Ideal.ofBits .f32 0x3E4CCCCD#32

/-- The product of two rows of the four lambda rows. -/
theorem rowDot (x : Vec Ideal S4x64 .f32) (r s : Fin 4) (hr hs) :
    multiReduction (F := Ideal) .add [1] S1 (mulf (φ := .f32) (extractStridedSlice S1x64 ![r.val, 0] x hr)
      (extractStridedSlice S1x64 ![s.val, 0] x hs)) 0x00000000#32 reduces_S1x64_S1 (.inl rfl) rfl (ix1 0)
      = ∑ j : Fin 64, x (ix2 r j) * x (ix2 s j) := by
  refine (Ideal.multiReduction_add_single _ _ reduces_S1x64_S1 _ rfl _).trans ?_
  refine Finset.sum_congr rfl fun j _ => ?_
  have e : ∀ (u : Fin 4) (hu : S4x64.Slices ![u.val, 0] S1x64),
      extractStridedSlice S1x64 ![u.val, 0] x hu (reduces_S1x64_S1.lift (ix1 0) j) = x (ix2 u j) := fun u hu => by
    refine extractStridedSlice_apply _ _ _ _ _ fun a => ?_
    match a with
    | ⟨0, _⟩ => rfl
    | ⟨1, _⟩ => show j.val = 0 + j.val; omega
  exact congrArg₂ (fun p q : EReal => p * q) (e r hr) (e s hs)

/-- The kernel's weight of the second map is `lamOf` of the four rows it is handed. -/
theorem pay13_apply (x : Vec Ideal S4x64 .f32) :
    k0_pay13 x (ix2 0 0) = lamOf (fun j => x (ix2 0 j)) (fun j => x (ix2 1 j)) (fun j => x (ix2 2 j)) (fun j => x (ix2 3 j)) := by
  unfold k0_pay13
  dsimp only
  rw [shapeCast_self]
  have h : ∀ (y : FVec Ideal S1 .f32) , shapeCast S1x1 y shapeCasts_S1_S1x1 (ix2 0 0) = y (ix1 0) := fun y =>
    shapeCast_apply _ _ _ _ (by rw [Shape.rowMajor_val_two, Shape.rowMajor_val_one]; rfl)
  show Ideal.exp (shapeCast S1x1 _ shapeCasts_S1_S1x1 (ix2 0 0)) - Ideal.exp (shapeCast S1x1 _ shapeCasts_S1_S1x1 (ix2 0 0)) + _ = _
  rw [h, h]
  unfold lamOf
  rw [show (∑ j : Fin 64, x (ix2 0 j) * x (ix2 1 j)) = _ from (rowDot x 0 1 slices_S4x64_o0_0_S1x64 slices_S4x64_o1_0_S1x64).symm,
    show (∑ j : Fin 64, x (ix2 2 j) * x (ix2 3 j)) = _ from (rowDot x 2 3 slices_S4x64_o2_0_S1x64 slices_S4x64_o3_0_S1x64).symm]
  rfl

variable (m : (ℓ : Loc nD τ sig) → Buf (Elt Ideal) ℓ) (c : Dev nD)

/-! ## The host prefix -/

/-- A row of the stacked rows, through its reshape and broadcast. -/
theorem stackRow (x : Vec Ideal S1x64 .f32) (j : Fin 64) :
    broadcastInDim S1x64 ![1] bcast_S64_S1x64_1 (shapeCast S64 x shapeCasts_S1x64_S64) (ix2 0 j) = x (ix2 0 j) := by
  refine (broadcastInDim_apply _ _ _ _ (ix1 j) fun a => ?_).trans ?_
  · match a with
    | ⟨0, _⟩ => rfl
  · exact shapeCast_apply _ _ _ _ (by rw [Shape.rowMajor_val_two, Shape.rowMajor_val_one]; show 0 * 64 + j.val = j.val; omega)

/-- The four lambda rows as the kernel is handed them. -/
theorem V_v8 : V m c main_v8 = concatenate S4x64 0
    [⟨S1x64, broadcastInDim S1x64 ![1] bcast_S64_S1x64_1 (shapeCast S64 (m (c, main_arg2)) shapeCasts_S1x64_S64)⟩,
     ⟨S1x64, broadcastInDim S1x64 ![1] bcast_S64_S1x64_1 (shapeCast S64 (m (c, main_arg3)) shapeCasts_S1x64_S64)⟩,
     ⟨S1x64, broadcastInDim S1x64 ![1] bcast_S64_S1x64_1 (shapeCast S64 (m (c, main_arg4)) shapeCasts_S1x64_S64)⟩,
     ⟨S1x64, broadcastInDim S1x64 ![1] bcast_S64_S1x64_1 (shapeCast S64 (m (c, main_arg5)) shapeCasts_S1x64_S64)⟩]
    concatenates_S1x64_S1x64_S1x64_S1x64_S4x64_d0 := by
  show StableHlo.after hostOps0 _ _ = _
  simp only [StableHlo.after_cons, StableHlo.after_nil]
  rfl

theorem V_v8_0 (j : Fin 64) : V m c main_v8 (ix2 0 j) = m (c, main_arg2) (ix2 0 j) := by
  rw [V_v8]
  refine (concatenate_apply_piece (t := S4x64) 0 _ _ _ 0 (by show _ < 4; omega) S1x64 _ rfl rfl 0 rfl (ix2 0 j) (fun b hb => ?_) rfl).trans (stackRow _ j)
  match b with
  | ⟨0, _⟩ => exact absurd rfl hb
  | ⟨1, _⟩ => rfl

theorem V_v8_1 (j : Fin 64) : V m c main_v8 (ix2 1 j) = m (c, main_arg3) (ix2 0 j) := by
  rw [V_v8]
  refine (concatenate_apply_piece (t := S4x64) 0 _ _ _ 1 (by show _ < 4; omega) S1x64 _ rfl rfl 1 rfl (ix2 0 j) (fun b hb => ?_) rfl).trans (stackRow _ j)
  match b with
  | ⟨0, _⟩ => exact absurd rfl hb
  | ⟨1, _⟩ => rfl

theorem V_v8_2 (j : Fin 64) : V m c main_v8 (ix2 2 j) = m (c, main_arg4) (ix2 0 j) := by
  rw [V_v8]
  refine (concatenate_apply_piece (t := S4x64) 0 _ _ _ 2 (by show _ < 4; omega) S1x64 _ rfl rfl 2 rfl (ix2 0 j) (fun b hb => ?_) rfl).trans (stackRow _ j)
  match b with
  | ⟨0, _⟩ => exact absurd rfl hb
  | ⟨1, _⟩ => rfl

theorem V_v8_3 (j : Fin 64) : V m c main_v8 (ix2 3 j) = m (c, main_arg5) (ix2 0 j) := by
  rw [V_v8]
  refine (concatenate_apply_piece (t := S4x64) 0 _ _ _ 3 (by show _ < 4; omega) S1x64 _ rfl rfl 3 rfl (ix2 0 j) (fun b hb => ?_) rfl).trans (stackRow _ j)
  match b with
  | ⟨0, _⟩ => exact absurd rfl hb
  | ⟨1, _⟩ => rfl

/-- A row through its two reshapes. -/
theorem scaleRow (x : Vec Ideal S1x128 .f32) (e : Fin 128) :
    shapeCast S1x128 (shapeCast S128 x shapeCasts_S1x128_S128) shapeCasts_S128_S1x128 (ix2 0 e) = x (ix2 0 e) := by
  refine (shapeCast_apply _ _ _ (ix1 e) (by rw [Shape.rowMajor_val_two, Shape.rowMajor_val_one]; show e.val = 0 * 128 + e.val; omega)).trans ?_
  exact shapeCast_apply _ _ _ _ (by rw [Shape.rowMajor_val_two, Shape.rowMajor_val_one]; show 0 * 128 + e.val = e.val; omega)

/-- The scale row as the kernel is handed it. -/
theorem V_v10 (e : Fin 128) : V m c main_v10 (ix2 0 e) = m (c, main_arg6) (ix2 0 e) := by
  have h : V m c main_v10 = shapeCast S1x128 (shapeCast S128 (m (c, main_arg6)) shapeCasts_S1x128_S128) shapeCasts_S128_S1x128 := by
    show StableHlo.after hostOps0 _ _ = _
    simp only [StableHlo.after_cons, StableHlo.after_nil]
    rfl
  rw [h]
  exact scaleRow _ e

/-! ## The windows' blocks -/

theorem i0 : ∀ t : Fin cfg0.N, win0_0.index t = ![t.val / 8, 0, 16 + t.val % 8] :=
  (by decide +kernel : ∀ t : Fin grid0.N, win0_0.index t = ![t.val / 8, 0, 16 + t.val % 8])
theorem i1 : ∀ t : Fin cfg0.N, win0_1.index t = ![t.val / 8, 0, 24 + t.val % 8] :=
  (by decide +kernel : ∀ t : Fin grid0.N, win0_1.index t = ![t.val / 8, 0, 24 + t.val % 8])
theorem i2 : ∀ t : Fin cfg0.N, win0_2.index t = ![t.val / 8, 0, 32 + t.val % 8] :=
  (by decide +kernel : ∀ t : Fin grid0.N, win0_2.index t = ![t.val / 8, 0, 32 + t.val % 8])
theorem i3 : ∀ t : Fin cfg0.N, win0_3.index t = ![t.val / 8, 0, t.val % 8] :=
  (by decide +kernel : ∀ t : Fin grid0.N, win0_3.index t = ![t.val / 8, 0, t.val % 8])
theorem i4 : ∀ t : Fin cfg0.N, win0_4.index t = ![t.val / 8, 0, 8 + t.val % 8] :=
  (by decide +kernel : ∀ t : Fin grid0.N, win0_4.index t = ![t.val / 8, 0, 8 + t.val % 8])
theorem i5 : ∀ t : Fin cfg0.N, win0_5.index t = ![0, 0] :=
  (by decide +kernel : ∀ t : Fin grid0.N, win0_5.index t = ![0, 0])
theorem i6 : ∀ t : Fin cfg0.N, win0_6.index t = ![0, 0] :=
  (by decide +kernel : ∀ t : Fin grid0.N, win0_6.index t = ![0, 0])
theorem i7 : ∀ t : Fin cfg0.N, win0_7.index t = ![t.val / 8, 0, t.val % 8] :=
  (by decide +kernel : ∀ t : Fin grid0.N, win0_7.index t = ![t.val / 8, 0, t.val % 8])

/-- The query block at point `t`, read in its array. -/
theorem b0 (t : Fin cfg0.N) (y : S1x4096x128.Idx) (i : S8x4096x7168.Idx) (h0 : (i 0).val = t.val / 8) (h1 : (i 1).val = (y 1).val)
    (h2 : (i 2).val = 2048 + 128 * (t.val % 8) + (y 2).val) : iblk m c 0 t y = m (c, main_arg0) i := by
  rw [show m (c, main_arg0) = V m c main_arg0 from (V_main_arg0 m c).symm]
  blk_simp [iblk]
  congr 1
  blk_ext [i0]

/-- The key block at point `t`, read in its array. -/
theorem b1 (t : Fin cfg0.N) (y : S1x4096x128.Idx) (i : S8x4096x7168.Idx) (h0 : (i 0).val = t.val / 8) (h1 : (i 1).val = (y 1).val)
    (h2 : (i 2).val = 3072 + 128 * (t.val % 8) + (y 2).val) : iblk m c 1 t y = m (c, main_arg0) i := by
  rw [show m (c, main_arg0) = V m c main_arg0 from (V_main_arg0 m c).symm]
  blk_simp [iblk]
  congr 1
  blk_ext [i1]

/-- The value block at point `t`, read in its array. -/
theorem b2 (t : Fin cfg0.N) (y : S1x4096x128.Idx) (i : S8x4096x7168.Idx) (h0 : (i 0).val = t.val / 8) (h1 : (i 1).val = (y 1).val)
    (h2 : (i 2).val = 4096 + 128 * (t.val % 8) + (y 2).val) : iblk m c 2 t y = m (c, main_arg0) i := by
  rw [show m (c, main_arg0) = V m c main_arg0 from (V_main_arg0 m c).symm]
  blk_simp [iblk]
  congr 1
  blk_ext [i2]

/-- The context key block at point `t`, read in its array. -/
theorem b3 (t : Fin cfg0.N) (y : S1x256x128.Idx) (i : S8x256x2048.Idx) (h0 : (i 0).val = t.val / 8) (h1 : (i 1).val = (y 1).val)
    (h2 : (i 2).val = 0 + 128 * (t.val % 8) + (y 2).val) : iblk m c 3 t y = m (c, main_arg1) i := by
  rw [show m (c, main_arg1) = V m c main_arg1 from (V_main_arg1 m c).symm]
  blk_simp [iblk]
  congr 1
  blk_ext [i3]

/-- The context value block at point `t`, read in its array. -/
theorem b4 (t : Fin cfg0.N) (y : S1x256x128.Idx) (i : S8x256x2048.Idx) (h0 : (i 0).val = t.val / 8) (h1 : (i 1).val = (y 1).val)
    (h2 : (i 2).val = 1024 + 128 * (t.val % 8) + (y 2).val) : iblk m c 4 t y = m (c, main_arg1) i := by
  rw [show m (c, main_arg1) = V m c main_arg1 from (V_main_arg1 m c).symm]
  blk_simp [iblk]
  congr 1
  blk_ext [i4]

/-- Window 5's block is its whole array. -/
theorem b5 (t : Fin cfg0.N) (y : S4x64.Idx) : iblk m c 5 t y = V m c main_v8 y := by
  blk_simp [iblk]
  congr 1
  blk_ext [i5]

/-- Window 6's block is its whole array. -/
theorem b6 (t : Fin cfg0.N) (y : S1x128.Idx) : iblk m c 6 t y = V m c main_v10 y := by
  blk_simp [iblk]
  congr 1
  blk_ext [i6]

/-! ## The result array -/

/-- The differential attention of head `h` of batch element `b`, at query row `l` and lane `e`, normalised and scaled: queries,
    keys and values are columns of `p`, the context's keys and values columns of `pc`. -/
def headOut (lam : ℝ) (p : Fin 8 → Fin 4096 → Fin 7168 → ℝ) (pc : Fin 8 → Fin 256 → Fin 2048 → ℝ) (g : Fin 128 → EReal)
    (b h : Fin 8) (l : Fin 4096) (e : Fin 128) : EReal :=
  normed (fun e => (diff lam (fun j d => p b j ⟨2048 + 128 * h.val + d.val, by omega⟩)
    (joined (fun j d => p b j ⟨3072 + 128 * h.val + d.val, by omega⟩) (fun j d => pc b j ⟨128 * h.val + d.val, by omega⟩))
    (joined (fun j d => p b j ⟨4096 + 128 * h.val + d.val, by omega⟩) (fun j d => pc b j ⟨1024 + 128 * h.val + d.val, by omega⟩))
    l e : EReal)) g e

/-- The attention's result, the heads side by side. -/
def attnOut (lam : ℝ) (p : Fin 8 → Fin 4096 → Fin 7168 → ℝ) (pc : Fin 8 → Fin 256 → Fin 2048 → ℝ) (g : Fin 128 → EReal)
    (i : S8x4096x1024.Idx) : EReal :=
  headOut lam p pc g (i 0) ⟨(i 2).val / 128, Nat.div_lt_of_lt_mul (i 2).isLt⟩ (i 1) ⟨(i 2).val % 128, Nat.mod_lt _ (by omega)⟩

/-- The kernel's result array from real-valued arguments: `attnOut` of them. -/
theorem final (lam : ℝ) (p : Fin 8 → Fin 4096 → Fin 7168 → ℝ) (pc : Fin 8 → Fin 256 → Fin 2048 → ℝ)
    (hp : ∀ b l (k : Fin 7168), 2048 ≤ k.val → k.val < 5120 → m (c, main_arg0) (ix3 b l k) = (p b l k : EReal))
    (hpc : ∀ b l k, m (c, main_arg1) (ix3 b l k) = (pc b l k : EReal))
    (hlam : lamOf (fun j => m (c, main_arg2) (ix2 0 j)) (fun j => m (c, main_arg3) (ix2 0 j)) (fun j => m (c, main_arg4) (ix2 0 j))
      (fun j => m (c, main_arg5) (ix2 0 j)) = (lam : EReal)) :
    (dats m 0 c).arrAt 7 cfg0.N = attnOut lam p pc (fun e => m (c, main_arg6) (ix2 0 e)) := by
  refine (dats m 0 c).arrAt_eq_of_covers 7 _ (by decide +kernel) fun t hf y => ?_
  have hN : t.val < 64 := t.isLt
  blk_simp
  rw [after0_7]
  unfold outsAt0
  rw [out_eq]
  obtain ⟨l, e, rfl⟩ : ∃ (l : Fin 4096) (e : Fin 128), y = ix3 0 l e :=
    ⟨y 1, y 2, funext fun a => by
      match a with
      | ⟨0, _⟩ => exact Fin.ext (by have := (y 0).isLt; show (y 0).val = 0; have h : (y 0).val < 1 := this; omega)
      | ⟨1, _⟩ => rfl
      | ⟨2, _⟩ => rfl⟩
  have hb : t.val / 8 < 8 := by omega
  have hh : t.val % 8 < 8 := by omega
  refine (block_apply _ _ _ _ _ _ _ lam (fun j d => p ⟨t.val / 8, hb⟩ j ⟨2048 + 128 * (t.val % 8) + d.val, by omega⟩)
    (fun j d => p ⟨t.val / 8, hb⟩ j ⟨3072 + 128 * (t.val % 8) + d.val, by omega⟩)
    (fun j d => p ⟨t.val / 8, hb⟩ j ⟨4096 + 128 * (t.val % 8) + d.val, by omega⟩)
    (fun j d => pc ⟨t.val / 8, hb⟩ j ⟨128 * (t.val % 8) + d.val, by omega⟩)
    (fun j d => pc ⟨t.val / 8, hb⟩ j ⟨1024 + 128 * (t.val % 8) + d.val, by omega⟩) ?_ ?_ ?_ ?_ ?_ ?_ l e).trans ?_
  · exact fun j d => (b0 m c t _ (ix3 ⟨t.val / 8, hb⟩ j ⟨2048 + 128 * (t.val % 8) + d.val, by omega⟩) rfl rfl rfl).trans
      (hp _ _ _ (by show 2048 ≤ 2048 + _ + _; omega) (by show 2048 + _ + _ < 5120; omega))
  · exact fun j d => (b1 m c t _ (ix3 ⟨t.val / 8, hb⟩ j ⟨3072 + 128 * (t.val % 8) + d.val, by omega⟩) rfl rfl rfl).trans
      (hp _ _ _ (by show 2048 ≤ 3072 + _ + _; omega) (by show 3072 + _ + _ < 5120; omega))
  · exact fun j d => (b2 m c t _ (ix3 ⟨t.val / 8, hb⟩ j ⟨4096 + 128 * (t.val % 8) + d.val, by omega⟩) rfl rfl rfl).trans
      (hp _ _ _ (by show 2048 ≤ 4096 + _ + _; omega) (by show 4096 + _ + _ < 5120; omega))
  · exact fun j d => (b3 m c t _ (ix3 ⟨t.val / 8, hb⟩ j ⟨128 * (t.val % 8) + d.val, by omega⟩) rfl rfl
      (by show 128 * (t.val % 8) + d.val = 0 + _ + d.val; omega)).trans (hpc _ _ _)
  · exact fun j d => (b4 m c t _ (ix3 ⟨t.val / 8, hb⟩ j ⟨1024 + 128 * (t.val % 8) + d.val, by omega⟩) rfl rfl rfl).trans (hpc _ _ _)
  · rw [pay13_apply, ← hlam]
    exact congr (congr (congr (congrArg lamOf (funext fun j => (b5 m c t _).trans (V_v8_0 m c j)))
      (funext fun j => (b5 m c t _).trans (V_v8_1 m c j))) (funext fun j => (b5 m c t _).trans (V_v8_2 m c j)))
      (funext fun j => (b5 m c t _).trans (V_v8_3 m c j))
  · rw [show (fun e => iblk m c 6 t (ix2 0 e)) = fun e => m (c, main_arg6) (ix2 0 e) from funext fun e => (b6 m c t _).trans (V_v10 m c e)]
    have key : ∀ (i : S8x4096x1024.Idx), (i 0).val = t.val / 8 → (i 1).val = l.val → (i 2).val = 128 * (t.val % 8) + e.val →
        headOut lam p pc (fun e => m (c, main_arg6) (ix2 0 e)) ⟨t.val / 8, hb⟩ ⟨t.val % 8, hh⟩ l e
          = attnOut lam p pc (fun e => m (c, main_arg6) (ix2 0 e)) i := fun i h0 h1 h2 => by
      unfold attnOut
      rw [show i 0 = (⟨t.val / 8, hb⟩ : Fin 8) from Fin.ext h0, show i 1 = l from Fin.ext h1]
      rw [show (⟨(i 2).val / 128, Nat.div_lt_of_lt_mul (i 2).isLt⟩ : Fin 8) = ⟨t.val % 8, hh⟩ from Fin.ext (by show (i 2).val / 128 = t.val % 8; omega),
        show (⟨(i 2).val % 128, Nat.mod_lt _ (by omega)⟩ : Fin 128) = e from Fin.ext (by show (i 2).val % 128 = e.val; omega)]
    refine key _ ?_ ?_ ?_
    · blk_simp [i7]
    · blk_simp [i7]
    · blk_simp [i7]
      show t.val % 8 * 128 + e.val = 128 * (t.val % 8) + e.val
      omega

end Cert.AttnKernel

end
-- ==== Proof.AttnRef.lean ====
/- The attention reference's result, index by index, from real-valued arguments: the same function as the kernel's. -/
module

public import proofs.«01_k».proof.Proof.AttnKernel
public import proofs.«01_k».proof.Proof.Gen.ReferenceIdeal.Read

@[expose] public section

set_option maxRecDepth 16384

noncomputable section

namespace Cert.AttnRef

open Cert.ReferenceIdeal Cert.ReferenceIdeal.Read Cert.AttnMath Cert.AttnOps Cert.AttnTile Cert.AttnKernel
open Idealize.ShloMosaic hiding ix0 ix1 ix2 ix3 ix4 ix5 eq_ix1 eq_ix2 eq_ix3
open Idealize.ShloMosaic.ValueIdx

/-! ## Queries, keys and values -/

section Real

variable (x0 : (⟨S8x4096x7168, .bf16⟩ : BufTy).Contents (Elt Ideal)) (x1 : (⟨S8x256x2048, .bf16⟩ : BufTy).Contents (Elt Ideal))
variable (x2 x3 x4 x5 : (⟨S1x64, .f32⟩ : BufTy).Contents (Elt Ideal)) (x6 : (⟨S1x128, .f32⟩ : BufTy).Contents (Elt Ideal))
variable (lam : ℝ) (p : Fin 8 → Fin 4096 → Fin 7168 → ℝ) (pc : Fin 8 → Fin 256 → Fin 2048 → ℝ)

/-- Head `h`'s queries. -/
abbrev qOf (b h : Fin 8) (j : Fin 4096) (d : Fin 128) : ℝ := p b j ⟨2048 + 128 * h.val + d.val, by omega⟩

/-- Head `h`'s keys, the sequence's and then the context's. -/
abbrev kOf (b h : Fin 8) : Fin 4352 → Fin 128 → ℝ :=
  joined (fun j d => p b j ⟨3072 + 128 * h.val + d.val, by omega⟩) (fun j d => pc b j ⟨128 * h.val + d.val, by omega⟩)

/-- Head `h`'s values, the sequence's and then the context's. -/
abbrev vOf (b h : Fin 8) : Fin 4352 → Fin 128 → ℝ :=
  joined (fun j d => p b j ⟨4096 + 128 * h.val + d.val, by omega⟩) (fun j d => pc b j ⟨1024 + 128 * h.val + d.val, by omega⟩)

/-- The weight of the second map is `lamOf` of the four rows. -/
theorem lam_apply (i : S_.Idx) : val_main_v11 (F := Ideal) x2 x3 x4 x5 i
    = lamOf (fun j => x2 (ix2 0 j)) (fun j => x3 (ix2 0 j)) (fun j => x4 (ix2 0 j)) (fun j => x5 (ix2 0 j)) := by
  have e : ∀ f : S64.Idx → EReal, ∑ j : S64.Idx, f j = ∑ j : Fin 64, f (ix1 j) := fun f =>
    Fintype.sum_equiv ⟨fun i => i 0, fun j => ix1 j, fun i => (eq_ix1 i).symm, fun j => rfl⟩ _ _ fun i => congrArg f (eq_ix1 i)
  have r : ∀ (x : (⟨S1x64, .f32⟩ : BufTy).Contents (Elt Ideal)) (j : Fin 64) (i : S1x64.Idx), (i 1).val = j.val % 64 → x i = x (ix2 0 j) := fun x j i h =>
    congrArg x (funext fun a => by
      match a with
      | ⟨0, _⟩ => exact Subsingleton.elim (α := Fin 1) _ _
      | ⟨1, _⟩ => exact Fin.ext (h.trans (Nat.mod_eq_of_lt j.isLt)))
  rw [val_main_v11_apply, val_main_v10_apply, val_main_v4_apply, val_main_v9_apply, val_main_v3_apply, val_main_v8_apply, e, e]
  unfold lamOf
  have h1 : ∀ j : Fin 64, val_main_v2 (F := Ideal) x2 x3 (ix1 j) = x2 (ix2 0 j) * x3 (ix2 0 j) := fun j => by
    rw [val_main_v2_apply, val_main_v0_apply, val_main_v1_apply, r x2 j _ rfl, r x3 j _ rfl]; rfl
  have h2 : ∀ j : Fin 64, val_main_v7 (F := Ideal) x4 x5 (ix1 j) = x4 (ix2 0 j) * x5 (ix2 0 j) := fun j => by
    rw [val_main_v7_apply, val_main_v5_apply, val_main_v6_apply, r x4 j _ rfl, r x5 j _ rfl]; rfl
  simp only [h1, h2]
  show Ideal.exp (Ideal.ofBits .f32 0#32 + _) - Ideal.exp (Ideal.ofBits .f32 0#32 + _) + _ = _
  rw [bits_zero, zero_add, zero_add]
  rfl

variable (hp : ∀ b l (k : Fin 7168), 2048 ≤ k.val → k.val < 5120 → x0 (ix3 b l k) = (p b l k : EReal))
variable (hpc : ∀ b l k, x1 (ix3 b l k) = (pc b l k : EReal))

include hp in
/-- The queries by head, map and lane. -/
theorem q_real (b h : Fin 8) (l : Fin 4096) (mp : Fin 2) (d : Fin 64) :
    val_main_v22 (F := Ideal) x0 (ix5 b l h mp d) = (qOf p b h l ⟨64 * mp.val + d.val, by omega⟩ : EReal) := by
  rw [val_main_v22_apply]
  rw [val_main_v13_apply, val_main_v12_apply]
  refine Eq.trans (b := x0 (ix3 b l ⟨2048 + 128 * h.val + (64 * mp.val + d.val), by omega⟩)) (congrArg x0 ?_) (hp b l ⟨2048 + 128 * h.val + (64 * mp.val + d.val), by omega⟩ (by show 2048 ≤ 2048 + _ + _; omega) (by show 2048 + _ + _ < 5120; omega))
  funext a; apply Fin.ext
  match a with
  | ⟨0, _⟩ => show ((((b.val * 4096 + l.val) * 8 + h.val) * 2 + mp.val) * 64 + d.val) / 4194304 = b.val; omega
  | ⟨1, _⟩ => show ((((b.val * 4096 + l.val) * 8 + h.val) * 2 + mp.val) * 64 + d.val) / 1024 % 4096 = l.val; omega
  | ⟨2, _⟩ => show 2048 + ((((b.val * 4096 + l.val) * 8 + h.val) * 2 + mp.val) * 64 + d.val) % 1024 = 2048 + 128 * h.val + (64 * mp.val + d.val); omega

include hp hpc in
/-- The keys, before they are split into heads. -/
theorem k_flat (b h : Fin 8) (j : Fin 4352) (d : Fin 128) (i : S8x4352x1024.Idx) (h0 : (i 0).val = b.val) (h1 : (i 1).val = j.val)
    (h2 : (i 2).val = 128 * h.val + d.val) : val_main_v23 (F := Ideal) x0 x1 i = (kOf p pc b h j d : EReal) := by
  unfold val_main_v23 kOf joined
  by_cases hj : j.val < 4096
  · rw [dif_pos hj]
    refine (concatenate_pair_apply_left (t := S8x4352x1024) (s₁ := S8x4096x1024) (s₂ := S8x256x1024) 1 _ _ _ _ rfl
      (ix3 b ⟨j.val, hj⟩ ⟨128 * h.val + d.val, by omega⟩) fun a => ?_).trans ?_
    · match a with
      | ⟨0, _⟩ => exact h0.symm
      | ⟨1, _⟩ => exact h1.symm
      | ⟨2, _⟩ => exact h2.symm
    · rw [val_main_v15_apply, val_main_v14_apply]
      refine Eq.trans (b := x0 (ix3 b ⟨j.val, hj⟩ ⟨3072 + 128 * h.val + d.val, by omega⟩)) (congrArg x0 ?_)
        (hp _ _ _ (by show 2048 ≤ 3072 + _ + _; omega) (by show 3072 + _ + _ < 5120; omega))
      funext a; apply Fin.ext
      match a with
      | ⟨0, _⟩ => rfl
      | ⟨1, _⟩ => rfl
      | ⟨2, _⟩ => show 3072 + (128 * h.val + d.val) = 3072 + 128 * h.val + d.val; omega
  · rw [dif_neg hj]
    refine (concatenate_pair_apply_right (t := S8x4352x1024) (s₁ := S8x4096x1024) (s₂ := S8x256x1024) 1 _ _ _ _ rfl rfl
      (ix3 b ⟨j.val - 4096, by omega⟩ ⟨128 * h.val + d.val, by omega⟩) (fun a ha => ?_) ?_).trans ?_
    · match a with
      | ⟨0, _⟩ => exact h0.symm
      | ⟨1, _⟩ => exact absurd rfl ha
      | ⟨2, _⟩ => exact h2.symm
    · exact (Eq.trans (by show (j.val - 4096) + 4096 = j.val; omega) h1.symm)
    · rw [val_main_v19_apply, val_main_v18_apply]
      refine Eq.trans (b := x1 (ix3 b ⟨j.val - 4096, by omega⟩ ⟨128 * h.val + d.val, by omega⟩)) (congrArg x1 ?_) (hpc _ _ _)
      funext a; apply Fin.ext
      match a with
      | ⟨0, _⟩ => rfl
      | ⟨1, _⟩ => rfl
      | ⟨2, _⟩ => rfl

include hp hpc in
/-- The keys by head, map and lane. -/
theorem k_real (b h : Fin 8) (j : Fin 4352) (mp : Fin 2) (d : Fin 64) :
    val_main_v24 (F := Ideal) x0 x1 (ix5 b j h mp d) = (kOf p pc b h j ⟨64 * mp.val + d.val, by omega⟩ : EReal) := by
  rw [val_main_v24_apply]
  refine k_flat x0 x1 p pc hp hpc b h j ⟨64 * mp.val + d.val, by omega⟩ _ ?_ ?_ ?_
  · show ((((b.val * 4352 + j.val) * 8 + h.val) * 2 + mp.val) * 64 + d.val) / 4456448 = b.val; omega
  · show ((((b.val * 4352 + j.val) * 8 + h.val) * 2 + mp.val) * 64 + d.val) / 1024 % 4352 = j.val; omega
  · show ((((b.val * 4352 + j.val) * 8 + h.val) * 2 + mp.val) * 64 + d.val) % 1024 = 128 * h.val + (64 * mp.val + d.val); omega

include hp hpc in
/-- The values, before they are split into heads. -/
theorem v_flat (b h : Fin 8) (j : Fin 4352) (d : Fin 128) (i : S8x4352x1024.Idx) (h0 : (i 0).val = b.val) (h1 : (i 1).val = j.val)
    (h2 : (i 2).val = 128 * h.val + d.val) : val_main_v25 (F := Ideal) x0 x1 i = (vOf p pc b h j d : EReal) := by
  unfold val_main_v25 vOf joined
  by_cases hj : j.val < 4096
  · rw [dif_pos hj]
    refine (concatenate_pair_apply_left (t := S8x4352x1024) (s₁ := S8x4096x1024) (s₂ := S8x256x1024) 1 _ _ _ _ rfl
      (ix3 b ⟨j.val, hj⟩ ⟨128 * h.val + d.val, by omega⟩) fun a => ?_).trans ?_
    · match a with
      | ⟨0, _⟩ => exact h0.symm
      | ⟨1, _⟩ => exact h1.symm
      | ⟨2, _⟩ => exact h2.symm
    · rw [val_main_v17_apply, val_main_v16_apply]
      refine Eq.trans (b := x0 (ix3 b ⟨j.val, hj⟩ ⟨4096 + 128 * h.val + d.val, by omega⟩)) (congrArg x0 ?_)
        (hp _ _ _ (by show 2048 ≤ 4096 + _ + _; omega) (by show 4096 + _ + _ < 5120; omega))
      funext a; apply Fin.ext
      match a with
      | ⟨0, _⟩ => rfl
      | ⟨1, _⟩ => rfl
      | ⟨2, _⟩ => show 4096 + (128 * h.val + d.val) = 4096 + 128 * h.val + d.val; omega
  · rw [dif_neg hj]
    refine (concatenate_pair_apply_right (t := S8x4352x1024) (s₁ := S8x4096x1024) (s₂ := S8x256x1024) 1 _ _ _ _ rfl rfl
      (ix3 b ⟨j.val - 4096, by omega⟩ ⟨128 * h.val + d.val, by omega⟩) (fun a ha => ?_) ?_).trans ?_
    · match a with
      | ⟨0, _⟩ => exact h0.symm
      | ⟨1, _⟩ => exact absurd rfl ha
      | ⟨2, _⟩ => exact h2.symm
    · exact (Eq.trans (by show (j.val - 4096) + 4096 = j.val; omega) h1.symm)
    · rw [val_main_v21_apply, val_main_v20_apply]
      refine Eq.trans (b := x1 (ix3 b ⟨j.val - 4096, by omega⟩ ⟨1024 + 128 * h.val + d.val, by omega⟩)) (congrArg x1 ?_) (hpc _ _ _)
      funext a; apply Fin.ext
      match a with
      | ⟨0, _⟩ => rfl
      | ⟨1, _⟩ => rfl
      | ⟨2, _⟩ => show 1024 + (128 * h.val + d.val) = 1024 + 128 * h.val + d.val; omega

include hp hpc in
/-- The values by head and lane. -/
theorem v_real (b h : Fin 8) (j : Fin 4352) (e : Fin 128) :
    val_main_v26 (F := Ideal) x0 x1 (ix4 b j h e) = (vOf p pc b h j e : EReal) := by
  rw [val_main_v26_apply]
  refine v_flat x0 x1 p pc hp hpc b h j e _ ?_ ?_ ?_
  · show (((b.val * 4352 + j.val) * 8 + h.val) * 128 + e.val) / 4456448 = b.val; omega
  · show (((b.val * 4352 + j.val) * 8 + h.val) * 128 + e.val) / 1024 % 4352 = j.val; omega
  · show (((b.val * 4352 + j.val) * 8 + h.val) * 128 + e.val) % 1024 = 128 * h.val + e.val; omega

/-! ## The two maps -/

/-- The word of an eighth. -/
theorem bits_eighth : Ideal.ofBits .f32 0x3E000000#32 = ((1 / 8 : ℝ) : EReal) := by
  simp [Ideal.ofBits, Ideal.ieee, -EReal.coe_mul]; norm_num

include hp hpc in
/-- The scores. -/
theorem s_real (b h : Fin 8) (mp : Fin 2) (l : Fin 4096) (j : Fin 4352) :
    val_main_v29 (F := Ideal) x0 x1 (ix5 b h mp l j) = (score (qOf p b h) (kOf p pc b h) mp l j : EReal) := by
  rw [val_main_v29_apply, val_main_v27_apply, val_main_v28_apply, val_main_cst_2_apply]
  show (∑ k : Fin 64, _) * Ideal.ofBits .f32 0x3E000000#32 = _
  rw [bits_eighth]
  unfold score
  rw [EReal.coe_mul, ← sum_coe_mul]
  refine congrArg (· * _) (Finset.sum_congr rfl fun k _ => ?_)
  refine congrArg₂ (fun u v : EReal => u * v) (Eq.trans (congrArg _ ?_) (q_real x0 p hp b h l mp k)) (Eq.trans (congrArg _ ?_) (k_real x0 x1 p pc hp hpc b h j mp k))
  · funext a; match a with
    | ⟨0, _⟩ => rfl
    | ⟨1, _⟩ => rfl
    | ⟨2, _⟩ => rfl
    | ⟨3, _⟩ => rfl
    | ⟨4, _⟩ => rfl
  · funext a; match a with
    | ⟨0, _⟩ => rfl
    | ⟨1, _⟩ => rfl
    | ⟨2, _⟩ => rfl
    | ⟨3, _⟩ => rfl
    | ⟨4, _⟩ => rfl

include hp hpc in
/-- Each row's maximum is a real. -/
theorem max_real (b h : Fin 8) (mp : Fin 2) (l : Fin 4096) : ∃ M : ℝ, val_main_v32 (F := Ideal) x0 x1 (ix4 b h mp l) = (M : EReal) := by
  obtain ⟨M, hM⟩ := exists_fold_max (Finset.univ : Finset (Fin 4352)) ⟨⟨0, by omega⟩, Finset.mem_univ _⟩
    (score (qOf p b h) (kOf p pc b h) mp l)
  refine ⟨M, ?_⟩
  rw [val_main_v32_apply, val_main_v31_apply, val_main_cst_4_apply]
  unfold val_main_v30
  rw [Host.reduce_eq_fold_single (a := 4) FloatOps.maximumf _ _ Gen.reducesTo_S8x8x2x4096x4352_S8x8x2x4096_d4 (by decide) Gen.h_S_]
  show max (Ideal.ofBits .f32 0xFF800000#32) (Finset.fold max (Ideal.ofBits .f32 0xFF800000#32) _ _) = _
  rw [bits_bot, ← hM, max_eq_right bot_le]
  refine Finset.fold_congr fun k _ => ?_
  refine Eq.trans (congrArg (val_main_v29 (F := Ideal) x0 x1) ?_) (s_real x0 x1 p pc hp hpc b h mp l k)
  funext a; match a with
  | ⟨0, _⟩ => rfl
  | ⟨1, _⟩ => rfl
  | ⟨2, _⟩ => rfl
  | ⟨3, _⟩ => rfl
  | ⟨4, _⟩ => rfl

include hp hpc in
/-- The shifted scores' exponentials. -/
theorem e_real (b h : Fin 8) (mp : Fin 2) (l : Fin 4096) (M : ℝ) (hM : val_main_v32 (F := Ideal) x0 x1 (ix4 b h mp l) = (M : EReal)) (j : Fin 4352) :
    val_main_v36 (F := Ideal) x0 x1 (ix5 b h mp l j) = (Real.exp (score (qOf p b h) (kOf p pc b h) mp l j - M) : EReal) := by
  rw [val_main_v36_apply, val_main_v35_apply, val_main_v34_apply, val_main_v33_apply, s_real x0 x1 p pc hp hpc,
    show val_main_v32 (F := Ideal) x0 x1 (idx_main_v33 (idx_main_v34 (ix5 b h mp l j))) = (M : EReal) from
      (congrArg (val_main_v32 (F := Ideal) x0 x1) (funext fun a => by
        match a with
        | ⟨0, _⟩ => rfl
        | ⟨1, _⟩ => rfl
        | ⟨2, _⟩ => rfl
        | ⟨3, _⟩ => rfl)).trans hM]
  show Ideal.exp (((_ : ℝ) : EReal) - ((M : ℝ) : EReal)) = _
  rw [← EReal.coe_sub, Ideal.exp_coe]

include hp hpc in
/-- The weights of one map: normalised exponentials of the scores after a shift by some real. -/
theorem p_real (b h : Fin 8) (mp : Fin 2) (l : Fin 4096) : ∃ M : ℝ, ∀ j : Fin 4352,
    val_main_v40 (F := Ideal) x0 x1 (ix5 b h mp l j) = ((Real.exp (score (qOf p b h) (kOf p pc b h) mp l j - M)
      / ∑ i, Real.exp (score (qOf p b h) (kOf p pc b h) mp l i - M) : ℝ) : EReal) := by
  obtain ⟨M, hM⟩ := max_real x0 x1 p pc hp hpc b h mp l
  refine ⟨M, fun j => ?_⟩
  have hs : val_main_v37 (F := Ideal) x0 x1 (ix4 b h mp l) = ((∑ i, Real.exp (score (qOf p b h) (kOf p pc b h) mp l i - M) : ℝ) : EReal) := by
    rw [val_main_v37_apply, val_main_cst_5_apply]
    show Ideal.ofBits .f32 0#32 + _ = _
    rw [bits_zero, zero_add, coe_sum]
    refine Finset.sum_congr rfl fun k _ => ?_
    refine Eq.trans (congrArg (val_main_v36 (F := Ideal) x0 x1) (funext fun a => ?_)) (e_real x0 x1 p pc hp hpc b h mp l M hM k)
    match a with
    | ⟨0, _⟩ => rfl
    | ⟨1, _⟩ => rfl
    | ⟨2, _⟩ => rfl
    | ⟨3, _⟩ => rfl
    | ⟨4, _⟩ => rfl
  rw [val_main_v40_apply, val_main_v39_apply, val_main_v38_apply, e_real x0 x1 p pc hp hpc b h mp l M hM,
    show val_main_v37 (F := Ideal) x0 x1 (idx_main_v38 (idx_main_v39 (ix5 b h mp l j))) = _ from
      (congrArg (val_main_v37 (F := Ideal) x0 x1) (funext fun a => by
        match a with
        | ⟨0, _⟩ => rfl
        | ⟨1, _⟩ => rfl
        | ⟨2, _⟩ => rfl
        | ⟨3, _⟩ => rfl)).trans hs]
  refine (Ideal.div_coe (sum_exp_pos (by omega) _).ne' _).trans ?_
  rw [← EReal.coe_mul, mul_one_div]

variable (hlam : lamOf (fun j => x2 (ix2 0 j)) (fun j => x3 (ix2 0 j)) (fun j => x4 (ix2 0 j)) (fun j => x5 (ix2 0 j)) = (lam : EReal))

include hp hpc hlam in
/-- The difference of the two maps, averaged over the values. -/
theorem o_real (b h : Fin 8) (l : Fin 4096) (e : Fin 128) (i : S8x4096x8x128.Idx) (hi : i = ix4 b l h e) :
    val_main_v49 (F := Ideal) x0 x1 x2 x3 x4 x5 i = (diff lam (qOf p b h) (kOf p pc b h) (vOf p pc b h) l e : EReal) := by
  subst hi
  obtain ⟨M0, h0⟩ := p_real x0 x1 p pc hp hpc b h 0 l
  obtain ⟨M1, h1⟩ := p_real x0 x1 p pc hp hpc b h 1 l
  rw [val_main_v49_apply, val_main_v48_apply]
  unfold diff
  rw [← att_shift _ _ M0, ← att_shift _ _ M1, Finset.mul_sum, ← Finset.sum_sub_distrib, coe_sum]
  refine Finset.sum_congr rfl fun j _ => ?_
  rw [show val_main_v26 (F := Ideal) x0 x1 (lidx_main_v48 (idx_main_v49 (ix4 b l h e)) j) = _ from
      (congrArg (val_main_v26 (F := Ideal) x0 x1) (funext fun a => by
        match a with
        | ⟨0, _⟩ => rfl
        | ⟨1, _⟩ => rfl
        | ⟨2, _⟩ => rfl
        | ⟨3, _⟩ => rfl)).trans (v_real x0 x1 p pc hp hpc b h j e),
    val_main_v47_apply, val_main_v46_apply, val_main_v45_apply, lam_apply, hlam, val_main_v44_apply, val_main_v43_apply,
    val_main_v42_apply, val_main_v41_apply]
  have g : ∀ (mp : Fin 2) (y : S8x8x2x4096x4352.Idx), (y 0).val = b.val → (y 1).val = h.val → (y 2).val = mp.val → (y 3).val = l.val →
      (y 4).val = j.val → y = ix5 b h mp l j := fun mp y e0 e1 e2 e3 e4 => funext fun a => by
    match a with
    | ⟨0, _⟩ => exact Fin.ext e0
    | ⟨1, _⟩ => exact Fin.ext e1
    | ⟨2, _⟩ => exact Fin.ext e2
    | ⟨3, _⟩ => exact Fin.ext e3
    | ⟨4, _⟩ => exact Fin.ext e4
  have k0 : (((b.val * 8 + h.val) * 4096 + l.val) * 4352 + j.val) / 142606336 = b.val := by omega
  have k1 : (((b.val * 8 + h.val) * 4096 + l.val) * 4352 + j.val) / 17825792 % 8 = h.val := by omega
  have k3 : (((b.val * 8 + h.val) * 4096 + l.val) * 4352 + j.val) / 4352 % 4096 = l.val := by omega
  have k4 : (((b.val * 8 + h.val) * 4096 + l.val) * 4352 + j.val) % 4352 = j.val := by omega
  rw [g 0 (idx_main_v41 (idx_main_v42 (ridx_main_v48 (idx_main_v49 (ix4 b l h e)) j))) k0 k1 rfl k3 k4,
    g 1 (idx_main_v43 (idx_main_v44 (ridx_main_v48 (idx_main_v49 (ix4 b l h e)) j))) k0 k1 rfl k3 k4, h0, h1]
  show ((_ : ℝ) : EReal) * (((_ : ℝ) : EReal) - ((lam : ℝ) : EReal) * ((_ : ℝ) : EReal)) = _
  rw [← EReal.coe_mul, ← EReal.coe_sub, ← EReal.coe_mul]
  congr 1
  ring

include hp hpc hlam in
/-- The reference's result from real-valued arguments: `attnOut` of them. -/
theorem result_eq : val_main_v67 (F := Ideal) x0 x1 x2 x3 x4 x5 x6 = attnOut lam p pc (fun e => x6 (ix2 0 e)) := by
  funext i
  obtain ⟨b, l, k, rfl⟩ : ∃ (b : Fin 8) (l : Fin 4096) (k : Fin 1024), i = ix3 b l k := ⟨i 0, i 1, i 2, eq_ix3 i⟩
  show val_main_v66 (F := Ideal) x0 x1 x2 x3 x4 x5 x6 (ix3 b l k) = headOut lam p pc _ b ⟨k.val / 128, by omega⟩ l ⟨k.val % 128, by omega⟩
  have hx : idx_main_v66 (ix3 b l k) = ix4 b l ⟨k.val / 128, by omega⟩ ⟨k.val % 128, by omega⟩ := funext fun a => by
    match a with
    | ⟨0, _⟩ => exact Fin.ext (by show ((b.val * 4096 + l.val) * 1024 + k.val) / 4194304 = b.val; omega)
    | ⟨1, _⟩ => exact Fin.ext (by show ((b.val * 4096 + l.val) * 1024 + k.val) / 1024 % 4096 = l.val; omega)
    | ⟨2, _⟩ => exact Fin.ext (by show ((b.val * 4096 + l.val) * 1024 + k.val) / 128 % 8 = k.val / 128; omega)
    | ⟨3, _⟩ => exact Fin.ext (by show ((b.val * 4096 + l.val) * 1024 + k.val) % 128 = k.val % 128; omega)
  rw [val_main_v66_apply, hx]
  generalize (⟨k.val / 128, _⟩ : Fin 8) = h
  generalize (⟨k.val % 128, _⟩ : Fin 128) = e
  rw [val_main_v65_apply, val_main_v64_apply, val_main_cst_9_apply, val_main_v63_apply, val_main_v62_apply, val_main_v61_apply,
    val_main_v50_apply, val_main_v60_apply, val_main_v59_apply, val_main_v58_apply, val_main_v57_apply, val_main_v56_apply,
    val_main_cst_8_apply, val_main_v55_apply, val_main_v54_apply, val_main_cst_7_apply, val_main_v53_apply, val_main_v52_apply,
    val_main_cst_6_apply, o_real x0 x1 x2 x3 x4 x5 lam p pc hp hpc hlam b h l e _ rfl]
  unfold headOut normed
  have hg : ∀ y : S1x128.Idx, (y 1).val = e.val % 128 → x6 y = x6 (ix2 0 e) := fun y hy => congrArg x6 (funext fun a => by
    match a with
    | ⟨0, _⟩ => exact Subsingleton.elim (α := Fin 1) _ _
    | ⟨1, _⟩ => exact Fin.ext (hy.trans (Nat.mod_eq_of_lt e.isLt)))
  rw [hg _ rfl]
  show _ * Ideal.rsqrt (Ideal.div (Ideal.ofBits .f32 0#32 + ∑ e' : Fin 128, _) _ + _) * _ * _ = _
  rw [bits_zero, zero_add]
  have hsum : ∀ e' : Fin 128, val_main_v51 (F := Ideal) x0 x1 x2 x3 x4 x5 (idx_main_v52 (idx_main_v53 (idx_main_v59 (ix4 b l h e))) e')
      = (diff lam (qOf p b h) (kOf p pc b h) (vOf p pc b h) l e' : EReal) * (diff lam (qOf p b h) (kOf p pc b h) (vOf p pc b h) l e' : EReal) := fun e' => by
    rw [val_main_v51_apply, o_real x0 x1 x2 x3 x4 x5 lam p pc hp hpc hlam b h l e' _ (funext fun a => by
      match a with
      | ⟨0, _⟩ => rfl
      | ⟨1, _⟩ => rfl
      | ⟨2, _⟩ => rfl
      | ⟨3, _⟩ => rfl)]
    rfl
  rw [Finset.sum_congr rfl fun e' _ => hsum e']
  rfl

end Real

end Cert.AttnRef

end
-- ==== Proof.AttnPre.lean ====
/- What the precondition `finite` gives: the arguments it names hold real numbers, and so does the weight of the second map. -/
module

public import proofs.«01_k».proof.Proof.AttnKernel
public import proofs.«01_k».proof.Defs

@[expose] public section

set_option maxRecDepth 16384

noncomputable section

namespace Cert.AttnPre

open Cert.Pre_finite Cert.AttnMath Cert.AttnOps Cert.AttnKernel
open Idealize.ShloMosaic hiding ix0 ix1 ix2 ix3 ix4 ix5 eq_ix1 eq_ix2 eq_ix3
open Idealize.ShloMosaic.ValueIdx

/-- The shape relations the precondition's operations take. -/
theorem facts : Cert.Pre_finite.Facts where
  slices_S8x4096x7168_S8x4096x3072_0_0_2048 := by decide
  bcast_S_S8x4096x3072 := by decide
  bcast_S_S8x256x2048 := by decide
  bcast_S_S1x64 := by decide

instance : Cert.Pre_finite.Facts := facts

/-- A value whose absolute value is below infinity is a real number. -/
theorem real_of_lt (x t : EReal) (ht : t = ⊤) (h : Ideal.cmp .olt (max x (-x)) t = 1#1) : x = ((x.toReal : ℝ) : EReal) := by
  subst ht
  refine (EReal.coe_toReal ?_ ?_).symm
  · rintro rfl
    simp [Ideal.cmp] at h
  · rintro rfl
    simp [Ideal.cmp] at h

theorem top_f32 : Ideal.ofBits .f32 0x7F800000#32 = ⊤ := by simp [Ideal.ofBits, Ideal.ieee]
theorem top_bf16 : Ideal.ofBits .bf16 0x7F80#16 = ⊤ := by simp [Ideal.ofBits, Ideal.ieee]

/-- The weight of the second map is a real number when the four rows are. -/
theorem lam_real (a b c d : Fin 64 → EReal) (ha : ∀ j, a j = ((a j).toReal : EReal)) (hb : ∀ j, b j = ((b j).toReal : EReal))
    (hc : ∀ j, c j = ((c j).toReal : EReal)) (hd : ∀ j, d j = ((d j).toReal : EReal)) : ∃ lam : ℝ, lamOf a b c d = (lam : EReal) := by
  have hl : ∃ r : ℝ, Ideal.ofBits .f32 0x3E4CCCCD#32 = (r : EReal) := ⟨_, by simp [Ideal.ofBits, Ideal.ieee, -EReal.coe_mul]; rfl⟩
  obtain ⟨r, hr⟩ := hl
  have e1 : ∑ j, a j * b j = ((∑ j, (a j).toReal * (b j).toReal : ℝ) : EReal) := by
    rw [← sum_coe_mul]
    exact Finset.sum_congr rfl fun j _ => by rw [← ha, ← hb]
  have e2 : ∑ j, c j * d j = ((∑ j, (c j).toReal * (d j).toReal : ℝ) : EReal) := by
    rw [← sum_coe_mul]
    exact Finset.sum_congr rfl fun j _ => by rw [← hc, ← hd]
  unfold lamOf
  rw [e1, e2, Ideal.exp_coe, Ideal.exp_coe, hr, ← EReal.coe_sub, ← EReal.coe_add]
  exact ⟨_, rfl⟩

variable (x0 : FVec Ideal S8x4096x7168 .bf16) (x1 : FVec Ideal S8x256x2048 .bf16) (x2 x3 x4 x5 : FVec Ideal S1x64 .f32) (x6 : FVec Ideal S1x128 .f32)

/-- The queries', keys' and values' columns of the projection are real numbers. -/
theorem real0 (h : (fn (F := Ideal) x0 x1 x2 x3 x4 x5 x6).1 = fun _ => 1#1) (b : Fin 8) (l : Fin 4096) (k : Fin 7168)
    (h1 : 2048 ≤ k.val) (h2 : k.val < 5120) : x0 (ix3 b l k) = (EReal.toReal (x0 (ix3 b l k)) : EReal) := by
  refine real_of_lt _ _ top_bf16 ?_
  have e := congrFun h (ix3 b l (⟨k.val - 2048, by omega⟩ : Fin 3072))
  have hi : x0 (ix3 b l k) = extractStridedSlice S8x4096x3072 ![0, 0, 2048] x0 Facts.slices_S8x4096x7168_S8x4096x3072_0_0_2048
      (ix3 b l (⟨k.val - 2048, by omega⟩ : Fin 3072)) := by
    refine congrArg x0 (funext fun a => Fin.ext ?_)
    match a with
    | ⟨0, _⟩ => show b.val = 0 + b.val; omega
    | ⟨1, _⟩ => show l.val = 0 + l.val; omega
    | ⟨2, _⟩ => show k.val = 2048 + (k.val - 2048); omega
  rw [hi]
  exact e

/-- The context's keys and values are real numbers. -/
theorem real1 (h : (fn (F := Ideal) x0 x1 x2 x3 x4 x5 x6).2.1 = fun _ => 1#1) (i : S8x256x2048.Idx) : x1 i = (EReal.toReal (x1 i) : EReal) :=
  real_of_lt _ _ top_bf16 (congrFun h i)

/-- The first row is real. -/
theorem real2 (h : (fn (F := Ideal) x0 x1 x2 x3 x4 x5 x6).2.2.1 = fun _ => 1#1) (i : S1x64.Idx) : x2 i = (EReal.toReal (x2 i) : EReal) :=
  real_of_lt _ _ top_f32 (congrFun h i)

/-- The second row is real. -/
theorem real3 (h : (fn (F := Ideal) x0 x1 x2 x3 x4 x5 x6).2.2.2.1 = fun _ => 1#1) (i : S1x64.Idx) : x3 i = (EReal.toReal (x3 i) : EReal) :=
  real_of_lt _ _ top_f32 (congrFun h i)

/-- The third row is real. -/
theorem real4 (h : (fn (F := Ideal) x0 x1 x2 x3 x4 x5 x6).2.2.2.2.1 = fun _ => 1#1) (i : S1x64.Idx) : x4 i = (EReal.toReal (x4 i) : EReal) :=
  real_of_lt _ _ top_f32 (congrFun h i)

/-- The fourth row is real. -/
theorem real5 (h : (fn (F := Ideal) x0 x1 x2 x3 x4 x5 x6).2.2.2.2.2 = fun _ => 1#1) (i : S1x64.Idx) : x5 i = (EReal.toReal (x5 i) : EReal) :=
  real_of_lt _ _ top_f32 (congrFun h i)

end Cert.AttnPre

end
-- ==== Proof.RowMath.lean ====
/- Rows over the extended reals: the root-mean-square normalisation of a row, a product from a zero accumulator, a row
   broadcast over a tile, and a sum cut in two. -/
module

public import proofs.«01_k».proof.Proof.AttnOps
public import Idealize.ShloMosaic.Lib.Pipeline.ValueKit

@[expose] public section

set_option maxRecDepth 16384

noncomputable section

namespace Cert.RowMath

open Cert.AttnOps
open Idealize.ShloMosaic hiding ix0 ix1 ix2 ix3 ix4 ix5
open Idealize.ShloMosaic.ValueIdx Idealize.ShloMosaic.TcCoe Idealize.SL.Sem

/-- A row over the root of the mean of its squares, the mean over a thousand and twenty-four, without the scale. -/
def unitRow {n : ℕ} (x : Fin n → EReal) (e : Fin n) : EReal :=
  x e * Ideal.rsqrt (Ideal.div (∑ k, x k * x k) (Ideal.ofBits .f32 0x44800000#32) + Ideal.ofBits .f32 0x358637BD#32)

/-- A kernel's tile, each row over the root of the mean of its squares. -/
theorem unitRow_apply {M N : ℕ} (x : FVec Ideal ⟨2, ![M, N]⟩ .f32) (h : Shape.Reduces ⟨2, ![M, N]⟩ [1] ⟨1, ![M]⟩)
    (hφ : FKind.Formats .f32) (hacc : (0x00000000#32 : BitVec 32) = FKind.add.neutral .f32 hφ)
    (hs : Shape.ShapeCasts ⟨1, ![M]⟩ ⟨2, ![M, 1]⟩) (hb : Shape.Broadcasts ⟨2, ![M, 1]⟩ ⟨2, ![M, N]⟩) (r : Fin M) (e : Fin N) :
    mulf x (broadcastTo ⟨2, ![M, N]⟩ (rsqrt (addf (divf (shapeCast ⟨2, ![M, 1]⟩
        (multiReduction .add [1] ⟨1, ![M]⟩ (mulf x x) 0x00000000#32 h hφ hacc) hs)
        (broadcast ⟨2, ![M, 1]⟩ (Scalar.ofBits .f32 0x44800000#32 : Ideal .f32)))
        (broadcast ⟨2, ![M, 1]⟩ (Scalar.ofBits .f32 0x358637BD#32 : Ideal .f32)))) hb) (ix2 r e)
      = unitRow (fun k => (x (ix2 r k) : EReal)) e := by
  have hsq : ∀ z : Fin 1, shapeCast ⟨2, ![M, 1]⟩ (multiReduction .add [1] ⟨1, ![M]⟩ (mulf x x) 0x00000000#32 h hφ hacc) hs (ix2 r z)
      = (∑ k, x (ix2 r k) * x (ix2 r k) : EReal) := fun z => by
    refine (shapeCast_apply _ hs _ (ix1 r) ?_).trans ?_
    · rw [Shape.rowMajor_val_one, Shape.rowMajor_val_two]
      have := z.isLt
      show r.val = r.val * 1 + z.val
      omega
    refine (Ideal.multiReduction_add_single _ _ h hφ hacc (ix1 r)).trans ?_
    refine Finset.sum_congr rfl fun k _ => ?_
    rw [mulf_apply]
    rw [show h.lift (ix1 r) k = ix2 r k from by
      funext b; apply Fin.ext
      match b with
      | ⟨0, _⟩ => rfl
      | ⟨1, _⟩ => rfl]
    rfl
  rw [mulf_apply, bcastCol_apply]
  show x (ix2 r e) * Ideal.rsqrt (Ideal.div (shapeCast ⟨2, ![M, 1]⟩ _ hs (ix2 r 0)) _ + _) = _
  rw [hsq]
  rfl

/-- A product from a zero accumulator is the sum of products. -/
theorem matmul_zero {M K N : ℕ} {φ₁ φ₂ : FTy} (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂) (r : Fin M) (c : Fin N) :
    matmul D prec lhs rhs (constant (F := Ideal) ⟨2, ![M, N]⟩ .f32 0x00000000#32) (ix2 r c)
      = (∑ k : Fin K, (lhs (ix2 r k) : EReal) * rhs (ix2 k c) : EReal) := by
  subst hD
  refine (Ideal.matmul_plain_apply prec lhs rhs _ r c).trans ?_
  rw [constant_apply, bits_zero, zero_add]

/-- A row broadcast over a tile. -/
theorem bcastRow_apply {α : Type} {M N : ℕ} (x : (⟨2, ![1, N]⟩ : Shape).Idx → α) (h : Shape.Broadcasts ⟨2, ![1, N]⟩ ⟨2, ![M, N]⟩) (r : Fin M) (c : Fin N) :
    broadcastTo ⟨2, ![M, N]⟩ x h (ix2 r c) = x (ix2 0 c) := by
  refine broadcastTo_apply x h _ _ fun a => ?_
  match a with
  | ⟨0, _⟩ => rfl
  | ⟨1, _⟩ =>
    show c.val = if (⟨2, ![1, N]⟩ : Shape).size 1 = 1 then 0 else _
    split
    · rename_i h1
      have : N = 1 := h1
      have := c.isLt
      omega
    · rfl

/-- A tile stored with a leading axis of one. -/
theorem addUnit_apply {α : Type} {M N : ℕ} (x : (⟨2, ![M, N]⟩ : Shape).Idx → α) (h : Shape.ShapeCasts ⟨2, ![M, N]⟩ ⟨3, ![1, M, N]⟩) (r : Fin M) (c : Fin N) :
    shapeCast ⟨3, ![1, M, N]⟩ x h (ix3 0 r c) = x (ix2 r c) := by
  refine shapeCast_apply x h _ _ ?_
  rw [Shape.rowMajor_val_three, Shape.rowMajor_val_two]
  show r.val * N + c.val = (0 * M + r.val) * N + c.val
  rw [Nat.zero_mul, Nat.zero_add]

/-- An array stored with a leading axis of one, that axis dropped. -/
theorem dropUnit4_apply {α : Type} {G M N : ℕ} (x : (⟨4, ![1, G, M, N]⟩ : Shape).Idx → α) (h : Shape.ShapeCasts ⟨4, ![1, G, M, N]⟩ ⟨3, ![G, M, N]⟩)
    (n : Fin G) (r : Fin M) (c : Fin N) : shapeCast ⟨3, ![G, M, N]⟩ x h (ix3 n r c) = x (ix4 0 n r c) := by
  refine shapeCast_apply x h _ _ ?_
  rw [Shape.rowMajor_val_three, Shape.rowMajor_val_four]
  show ((0 * G + n.val) * M + r.val) * N + c.val = (n.val * M + r.val) * N + c.val
  rw [Nat.zero_mul, Nat.zero_add]

/-- The word of one is one. -/
theorem bits_one : Ideal.ofBits .f32 0x3F800000#32 = 1 := by
  have h : Ideal.ofBits .f32 0x3F800000#32 = ((1 : ℝ) : EReal) := by
    simp [Ideal.ofBits, Ideal.ieee, -EReal.coe_mul]; norm_num
  rw [h, EReal.coe_one]

/-- A sum over two thousand eight hundred and sixteen lanes, cut after the first fifteen hundred and thirty-six. -/
theorem sum_cut (f : Fin 2816 → EReal) :
    ∑ j, f j = (∑ j : Fin 1536, f ⟨j.val, by omega⟩) + ∑ j : Fin 1280, f ⟨1536 + j.val, by omega⟩ :=
  Fin.sum_univ_add (M := EReal) (a := 1536) (b := 1280) f

/-- An index of a rank-three array by its coordinates. -/
theorem at3 {A B C : ℕ} {α : Type} (x : (⟨3, ![A, B, C]⟩ : Shape).Idx → α) (i : (⟨3, ![A, B, C]⟩ : Shape).Idx) (a : Fin A) (b : Fin B) (c : Fin C)
    (h0 : (i 0).val = a.val) (h1 : (i 1).val = b.val) (h2 : (i 2).val = c.val) : x i = x (ix3 a b c) :=
  congrArg x (funext fun d => by
    match d with
    | ⟨0, _⟩ => exact Fin.ext h0
    | ⟨1, _⟩ => exact Fin.ext h1
    | ⟨2, _⟩ => exact Fin.ext h2)

end Cert.RowMath

end
-- ==== Proof.FfnTile.lean ====
/- The feed-forward half-step of one row, and what the kernel's body leaves in its output block: each row of the block is that
   half-step of the row. -/
module

public import proofs.«01_k».proof.Proof.RowMath
public import proofs.«01_k».proof.Proof.Gen.Kernel2Ideal.Value

@[expose] public section

set_option maxRecDepth 16384

noncomputable section

namespace Cert.FfnTile

open Cert.Kernel2Ideal Cert.Kernel2Ideal.Gen Cert.Kernel2Ideal.Value Cert.AttnOps Cert.RowMath
open Idealize.ShloMosaic hiding ix0 ix1 ix2 ix3 ix4 ix5
open Idealize.ShloMosaic.ValueIdx Idealize.ShloMosaic.TcCoe Idealize.SL.Sem

/-- A row normalised, scaled and shifted. -/
def modRow (x g shift scale : Fin 1024 → EReal) (k : Fin 1024) : EReal :=
  unitRow x k * g k * (Ideal.ofBits .f32 0x3F800000#32 + scale k) + shift k

/-- The hidden lane `j` of a row: the gate times its logistic, times the lane beside it. -/
def hidRow (x : Fin 1024 → EReal) (wi : Fin 1024 → Fin 5632 → EReal) (j : Fin 2816) : EReal :=
  ((∑ k, x k * wi k ⟨j.val, by omega⟩) * Ideal.logistic (∑ k, x k * wi k ⟨j.val, by omega⟩)) * ∑ k, x k * wi k ⟨2816 + j.val, by omega⟩

/-- The feed-forward of a row. -/
def ffRow (x : Fin 1024 → EReal) (wi : Fin 1024 → Fin 5632 → EReal) (wo : Fin 2816 → Fin 1024 → EReal) (e : Fin 1024) : EReal :=
  ∑ j, hidRow x wi j * wo j e

/-- The half-step of a row. -/
def halfStep (s shift scale gate g g' : Fin 1024 → EReal) (wi : Fin 1024 → Fin 5632 → EReal) (wo : Fin 2816 → Fin 1024 → EReal)
    (e : Fin 1024) : EReal :=
  s e + Ideal.ofBits .f32 0x3F000000#32 * gate e * (unitRow (ffRow (modRow s g shift scale) wi wo) e * g' e)

/-- The kernel's normalised, scaled and shifted tile. -/
theorem pay3_apply (v0 : Vec Ideal S1x512x1024 .f32) (v2 v4 : Vec Ideal S1x1x1024 .f32) (v6 : Vec Ideal S1x1024 .f32) (r : Fin 512) (k : Fin 1024) :
    k0_pay3 v0 v2 v4 v6 (ix2 r k) = modRow (fun k => v0 (ix3 0 r k)) (fun k => v6 (ix2 0 k)) (fun k => v2 (ix3 0 0 k)) (fun k => v4 (ix3 0 0 k)) k := by
  unfold k0_pay3 modRow
  dsimp only
  rw [truncf_apply, addf_apply, mulf_apply, mulf_apply]
  refine congrArg₂ (fun p q : EReal => p + q) (congrArg₂ (fun p q : EReal => p * q) (congrArg₂ (fun p q : EReal => p * q)
    ((unitRow_apply _ _ _ _ _ _ r k).trans ?_) ?_) ?_) ?_
  · unfold k0_pay2
    simp only [dropUnit_apply]
  · rw [bcastRow_apply, shapeCast_self]
  · rw [bcastRow_apply, addf_apply, dropUnit_apply]
    rfl
  · rw [bcastRow_apply, dropUnit_apply]

/-- The kernel's product of the tile with the up columns of the first chunk. -/
theorem pay4_apply (v0 : Vec Ideal S1x512x1024 .f32) (v2 v4 : Vec Ideal S1x1x1024 .f32) (v6 : Vec Ideal S1x1024 .f32) (w : Vec Ideal S1x1024x1536 .bf16)
    (r : Fin 512) (j : Fin 1536) :
    k0_pay4 v0 v2 v4 v6 w (ix2 r j) = (∑ k, k0_pay3 v0 v2 v4 v6 (ix2 r k) * w (ix3 0 k j) : EReal) := by
  unfold k0_pay4
  refine (matmul_zero _ rfl none _ _ r j).trans ?_
  simp only [dropUnit_apply]

/-- The kernel's gate of the first chunk: the product times its logistic. -/
theorem pay5_apply (v0 : Vec Ideal S1x512x1024 .f32) (v2 v4 : Vec Ideal S1x1x1024 .f32) (v6 : Vec Ideal S1x1024 .f32) (w : Vec Ideal S1x1024x1536 .bf16)
    (r : Fin 512) (j : Fin 1536) :
    k0_pay5 v0 v2 v4 v6 w (ix2 r j) = ((∑ k, k0_pay3 v0 v2 v4 v6 (ix2 r k) * w (ix3 0 k j))
      * Ideal.logistic (∑ k, k0_pay3 v0 v2 v4 v6 (ix2 r k) * w (ix3 0 k j)) : EReal) := by
  have h := pay4_apply v0 v2 v4 v6 w r j
  unfold k0_pay4 at h
  rw [← h]
  rfl

/-- The kernel's feed-forward tile, normalised: the two chunks' products added. -/
theorem pay8_apply (x : FVec Ideal S512x1024 .bf16) (u a : FVec Ideal S512x1536 .f32) (w : Vec Ideal S1x1536x1024 .bf16)
    (w2 w3 : Vec Ideal S1x1024x1280 .bf16) (w4 : Vec Ideal S1x1280x1024 .bf16) (r : Fin 512) (e : Fin 1024) :
    k0_pay8 x u a w w2 w3 w4 (ix2 r e) = unitRow (fun e => (∑ j, (a (ix2 r j) * u (ix2 r j)) * w (ix3 0 j e))
      + ∑ j, (((∑ k, x (ix2 r k) * w2 (ix3 0 k j)) * Ideal.logistic (∑ k, x (ix2 r k) * w2 (ix3 0 k j))) * ∑ k, x (ix2 r k) * w3 (ix3 0 k j))
          * w4 (ix3 0 j e)) e := by
  unfold k0_pay8
  dsimp only
  refine (unitRow_apply _ _ _ _ _ _ r e).trans ?_
  congr 1
  funext e'
  rw [addf_apply]
  refine congrArg₂ (fun p q : EReal => p + q) ?_ ?_
  · refine (matmul_zero _ rfl none _ _ r e').trans ?_
    simp only [dropUnit_apply]
    rfl
  · refine (matmul_zero _ rfl none _ _ r e').trans ?_
    refine Finset.sum_congr rfl fun j _ => ?_
    have h : ∀ w : FVec Ideal S1x1024x1280 .bf16, matmul dot_S512x1024_S1024x1280_S512x1280_1_0_0_1_n_n none x
        (shapeCast S1024x1280 w shapeCasts_S1x1024x1280_S1024x1280) (constant S512x1280 .f32 0x00000000#32) (ix2 r j)
          = (∑ k, x (ix2 r k) * w (ix3 0 k j) : EReal) := fun w => by
      refine (matmul_zero _ rfl none _ _ r j).trans ?_
      simp only [dropUnit_apply]
    rw [dropUnit_apply, ← h w2, ← h w3]
    rfl

/-- What the body leaves in the output block: row by row the half-step of the row of the stream, with the block's shift, scale and
    gate rows and the two scale rows. -/
theorem out_apply (x0 : Vec Ideal S1x512x1024 .f32) (x1 : Vec Ideal S1x9x1024 .f32) (x2 : Vec Ideal S6x1024 .f32)
    (x3 : Vec Ideal S1x1024x5632 .bf16) (x4 : Vec Ideal S1x2816x1024 .bf16) (r : Fin 512) (e : Fin 1024) :
    out0_5 x0 x1 x2 x3 x4 (ix3 0 r e) = halfStep (fun k => x0 (ix3 0 r k)) (fun k => x1 (ix3 0 6 k)) (fun k => x1 (ix3 0 7 k))
      (fun k => x1 (ix3 0 8 k)) (fun k => x2 (ix2 4 k)) (fun k => x2 (ix2 5 k)) (fun k j => x3 (ix3 0 k j)) (fun j e => x4 (ix3 0 j e)) e := by
  have hz : (![0, 0, 0] : Fin 3 → ℕ) = fun _ => 0 := by decide
  have l0 : ∀ h, View.ld x0 (Rect.unit (s := S1x512x1024) ![0, 0, 0] S1x512x1024.size h) = x0 := fun h => View.ld_unit_zero (S := S1x512x1024) hz h x0
  have l1 : ∀ (i : Fin 9) (h) (k : Fin 1024), View.ld x1 (Rect.unit (s := S1x9x1024) ![0, i.val, 0] S1x1x1024.size h) (ix3 0 0 k) = x1 (ix3 0 i k) := fun i h k =>
    View.ld_unit_apply_of x1 _ _ h _ _ fun a => by
      match a with
      | ⟨0, _⟩ => rfl
      | ⟨1, _⟩ => rfl
      | ⟨2, _⟩ => show k.val = 0 + k.val; omega
  have l2 : ∀ (i : Fin 6) (h) (k : Fin 1024), View.ld x2 (Rect.unit (s := S6x1024) ![i.val, 0] S1x1024.size h) (ix2 0 k) = x2 (ix2 i k) := fun i h k =>
    View.ld_unit_apply_of x2 _ _ h _ _ fun a => by
      match a with
      | ⟨0, _⟩ => rfl
      | ⟨1, _⟩ => show k.val = 0 + k.val; omega
  have l3 : ∀ (o n : ℕ) (hn : o + n ≤ 5632) (h) (k : Fin 1024) (j : Fin n),
      View.ld x3 (Rect.unit (s := S1x1024x5632) ![0, 0, o] ![1, 1024, n] h) (ix3 0 k j) = x3 (ix3 0 k ⟨o + j.val, by omega⟩) := fun o n hn h k j =>
    View.ld_unit_apply_of x3 _ _ h _ _ fun a => by
      match a with
      | ⟨0, _⟩ => rfl
      | ⟨1, _⟩ => show k.val = 0 + k.val; omega
      | ⟨2, _⟩ => rfl
  have l4 : ∀ (o n : ℕ) (hn : o + n ≤ 2816) (h) (j : Fin n) (e : Fin 1024),
      View.ld x4 (Rect.unit (s := S1x2816x1024) ![0, o, 0] ![1, n, 1024] h) (ix3 0 j e) = x4 (ix3 0 ⟨o + j.val, by omega⟩ e) := fun o n hn h j e =>
    View.ld_unit_apply_of x4 _ _ h _ _ fun a => by
      match a with
      | ⟨0, _⟩ => rfl
      | ⟨1, _⟩ => rfl
      | ⟨2, _⟩ => show e.val = 0 + e.val; omega
  have hx : ∀ k, k0_pay3 x0 (View.ld x1 r0_1) (View.ld x1 r0_2) (View.ld x2 r0_3) (ix2 r k)
      = modRow (fun k => x0 (ix3 0 r k)) (fun k => x2 (ix2 4 k)) (fun k => x1 (ix3 0 6 k)) (fun k => x1 (ix3 0 7 k)) k := fun k => by
    rw [pay3_apply]
    congr 1
    · exact funext fun k => l2 4 _ k
    · exact funext fun k => l1 6 _ k
    · exact funext fun k => l1 7 _ k
  unfold out0_5
  rw [show ∀ w, View.canon (Val := Elt Ideal) [⟨r0_0, w⟩] = w from fun w => View.canon_cons_unit_zero (S := S1x512x1024) hz _ w []]
  unfold k0_pay1 halfStep
  dsimp only
  rw [addUnit_apply, addf_apply, mulf_apply, mulf_apply, bcastRow_apply, bcastRow_apply, pay8_apply]
  unfold k0_pay2 k0_pay6 k0_pay7
  rw [dropUnit_apply, mulf_apply, dropUnit_apply, shapeCast_self, l0]
  refine congrArg₂ (fun p q : EReal => p + q) rfl (congrArg₂ (fun p q : EReal => p * q)
    (congrArg (fun q : EReal => Ideal.ofBits .f32 0x3F000000#32 * q) (l1 8 _ e)) (congrArg₂ (fun p q : EReal => p * q) ?_ (l2 5 _ e)))
  congr 1
  funext e'
  unfold ffRow
  rw [sum_cut]
  refine congrArg₂ (fun p q : EReal => p + q) (Finset.sum_congr rfl fun j _ => ?_) (Finset.sum_congr rfl fun j _ => ?_)
  · rw [pay4_apply, pay5_apply]
    simp only [hx]
    unfold hidRow
    have e1 : ∀ k, View.ld x3 r0_4 (ix3 0 k j) = x3 (ix3 0 k ⟨j.val, by omega⟩) := fun k =>
      (l3 0 1536 (by omega) _ k j).trans (congrArg (fun z => x3 (ix3 0 k z)) (Fin.ext (Nat.zero_add _)))
    have e2 : ∀ k, View.ld x3 r0_5 (ix3 0 k j) = x3 (ix3 0 k ⟨2816 + j.val, by omega⟩) := fun k => l3 2816 1536 (by omega) _ k j
    have e3 : View.ld x4 r0_6 (ix3 0 j e') = x4 (ix3 0 ⟨j.val, by omega⟩ e') :=
      (l4 0 1536 (by omega) _ j e').trans (congrArg (fun z => x4 (ix3 0 z e')) (Fin.ext (Nat.zero_add _)))
    rw [e3]
    simp only [e1, e2]
  · simp only [hx]
    unfold hidRow
    have e1 : ∀ k, View.ld x3 r0_7 (ix3 0 k j) = x3 (ix3 0 k ⟨1536 + j.val, by omega⟩) := fun k => l3 1536 1280 (by omega) _ k j
    have e2 : ∀ k, View.ld x3 r0_8 (ix3 0 k j) = x3 (ix3 0 k ⟨2816 + (1536 + j.val), by omega⟩) := fun k =>
      (l3 4352 1280 (by omega) _ k j).trans (congrArg (fun z => x3 (ix3 0 k z)) (Fin.ext (by show 4352 + j.val = 2816 + (1536 + j.val); omega)))
    have e3 : View.ld x4 r0_9 (ix3 0 j e') = x4 (ix3 0 ⟨1536 + j.val, by omega⟩ e') := l4 1536 1280 (by omega) _ j e'
    rw [e3]
    simp only [e1, e2]

end Cert.FfnTile

end
-- ==== Proof.FfnKernel.lean ====
/- The feed-forward kernel's result array, index by index: the half-step of the row of the stream. -/
module

public import proofs.«01_k».proof.Proof.FfnTile
public import Idealize.ShloMosaic.Lib.Pipeline.ValueKit

@[expose] public section

set_option maxRecDepth 16384

noncomputable section

namespace Cert.FfnKernel

open Cert.Kernel2Ideal Cert.Kernel2Ideal.Gen Cert.Kernel2Ideal.Value Cert.RowMath Cert.FfnTile
open Idealize.ShloMosaic hiding ix0 ix1 ix2 ix3 ix4 ix5
open Idealize.ShloMosaic.ValueIdx Idealize.ShloMosaic.TcCoe Idealize.SL.Sem
open Idealize.ShloMosaic.Pipeline (Dat)

/-- The last half-step of the layer at batch element `b`, position `l` and lane `e`: the half-step of the stream's row, with the
    modulation's last three rows, the last two scale rows and the second feed-forward's weights. -/
def ffnAt (s : (⟨3, ![8, 4096, 1024]⟩ : Shape).Idx → EReal) (md : (⟨3, ![16, 9, 1024]⟩ : Shape).Idx → EReal)
    (g : (⟨3, ![1, 6, 1024]⟩ : Shape).Idx → EReal) (wi : (⟨4, ![1, 2, 1024, 5632]⟩ : Shape).Idx → EReal)
    (wo : (⟨4, ![1, 2, 2816, 1024]⟩ : Shape).Idx → EReal) (b : Fin 8) (l : Fin 4096) (e : Fin 1024) : EReal :=
  halfStep (fun k => s (ix3 b l k)) (fun k => md (ix3 ⟨b.val, by omega⟩ 6 k)) (fun k => md (ix3 ⟨b.val, by omega⟩ 7 k))
    (fun k => md (ix3 ⟨b.val, by omega⟩ 8 k)) (fun k => g (ix3 0 4 k)) (fun k => g (ix3 0 5 k)) (fun k j => wi (ix4 0 1 k j))
    (fun j e => wo (ix4 0 1 j e)) e

variable (m : (ℓ : Loc nD τ sig) → Buf (Elt Ideal) ℓ) (c : Dev nD)

/-! ## The host prefix -/

/-- The scale rows as the kernel is handed them. -/
theorem V_g (i : Fin 6) (k : Fin 1024) : V m c main_v0 (ix2 i k) = m (c, main_arg2) (ix3 0 i k) := by
  have h : V m c main_v0 = shapeCast S6x1024 (m (c, main_arg2)) shapeCasts_S1x6x1024_S6x1024 := by
    show StableHlo.after hostOps0 _ _ = _
    simp only [StableHlo.after_cons, StableHlo.after_nil]
    rfl
  rw [h]
  exact Cert.AttnOps.dropUnit_apply _ _ _ _

/-- The first weights as the kernel is handed them. -/
theorem V_wi (n : Fin 2) (k : Fin 1024) (j : Fin 5632) : V m c main_v2 (ix3 n k j) = m (c, main_arg3) (ix4 0 n k j) := by
  have h : V m c main_v2 = shapeCast S2x1024x5632 (m (c, main_arg3)) shapeCasts_S1x2x1024x5632_S2x1024x5632 := by
    show StableHlo.after hostOps0 _ _ = _
    simp only [StableHlo.after_cons, StableHlo.after_nil]
    rfl
  rw [h]
  exact dropUnit4_apply _ _ _ _ _

/-- The second weights as the kernel is handed them. -/
theorem V_wo (n : Fin 2) (j : Fin 2816) (e : Fin 1024) : V m c main_v4 (ix3 n j e) = m (c, main_arg4) (ix4 0 n j e) := by
  have h : V m c main_v4 = shapeCast S2x2816x1024 (m (c, main_arg4)) shapeCasts_S1x2x2816x1024_S2x2816x1024 := by
    show StableHlo.after hostOps0 _ _ = _
    simp only [StableHlo.after_cons, StableHlo.after_nil]
    rfl
  rw [h]
  exact dropUnit4_apply _ _ _ _ _

/-! ## The windows' blocks -/

theorem i0 : ∀ t : Fin cfg0.N, win0_0.index t = ![t.val / 8, t.val % 8, 0] :=
  (by decide +kernel : ∀ t : Fin grid0.N, win0_0.index t = ![t.val / 8, t.val % 8, 0])
theorem i1 : ∀ t : Fin cfg0.N, win0_1.index t = ![t.val / 8, 0, 0] :=
  (by decide +kernel : ∀ t : Fin grid0.N, win0_1.index t = ![t.val / 8, 0, 0])
theorem i2 : ∀ t : Fin cfg0.N, win0_2.index t = ![0, 0] :=
  (by decide +kernel : ∀ t : Fin grid0.N, win0_2.index t = ![0, 0])
theorem i3 : ∀ t : Fin cfg0.N, win0_3.index t = ![1, 0, 0] :=
  (by decide +kernel : ∀ t : Fin grid0.N, win0_3.index t = ![1, 0, 0])
theorem i4 : ∀ t : Fin cfg0.N, win0_4.index t = ![1, 0, 0] :=
  (by decide +kernel : ∀ t : Fin grid0.N, win0_4.index t = ![1, 0, 0])
theorem i5 : ∀ t : Fin cfg0.N, win0_5.index t = ![t.val / 8, t.val % 8, 0] :=
  (by decide +kernel : ∀ t : Fin grid0.N, win0_5.index t = ![t.val / 8, t.val % 8, 0])

/-- The stream's block at point `t`, read in its array. -/
theorem b0 (t : Fin cfg0.N) (y : S1x512x1024.Idx) (i : S8x4096x1024.Idx) (h0 : (i 0).val = t.val / 8)
    (h1 : (i 1).val = 512 * (t.val % 8) + (y 1).val) (h2 : (i 2).val = (y 2).val) : iblk m c 0 t y = m (c, main_arg0) i := by
  rw [show m (c, main_arg0) = V m c main_arg0 from (V_main_arg0 m c).symm]
  blk_simp [iblk]
  congr 1
  blk_ext [i0]

/-- The modulation's block at point `t`, read in its array. -/
theorem b1 (t : Fin cfg0.N) (y : S1x9x1024.Idx) (i : S16x9x1024.Idx) (h0 : (i 0).val = t.val / 8)
    (h1 : (i 1).val = (y 1).val) (h2 : (i 2).val = (y 2).val) : iblk m c 1 t y = m (c, main_arg1) i := by
  rw [show m (c, main_arg1) = V m c main_arg1 from (V_main_arg1 m c).symm]
  blk_simp [iblk]
  congr 1
  blk_ext [i1]

/-- Window 2's block is its whole array. -/
theorem b2 (t : Fin cfg0.N) (y : S6x1024.Idx) : iblk m c 2 t y = V m c main_v0 y := by
  blk_simp [iblk]
  congr 1
  blk_ext [i2]

/-- Window 3's block is the second half of its array. -/
theorem b3 (t : Fin cfg0.N) (y : S1x1024x5632.Idx) (i : S2x1024x5632.Idx) (h0 : (i 0).val = 1)
    (h1 : (i 1).val = (y 1).val) (h2 : (i 2).val = (y 2).val) : iblk m c 3 t y = V m c main_v2 i := by
  blk_simp [iblk]
  congr 1
  blk_ext [i3]

/-- Window 4's block is the second half of its array. -/
theorem b4 (t : Fin cfg0.N) (y : S1x2816x1024.Idx) (i : S2x2816x1024.Idx) (h0 : (i 0).val = 1)
    (h1 : (i 1).val = (y 1).val) (h2 : (i 2).val = (y 2).val) : iblk m c 4 t y = V m c main_v4 i := by
  blk_simp [iblk]
  congr 1
  blk_ext [i4]

/-! ## The result array -/

/-- The kernel's result array is the last half-step of its arguments. -/
theorem result : (dats m 0 c).arrAt 5 cfg0.N = fun i : S8x4096x1024.Idx =>
    ffnAt (m (c, main_arg0)) (m (c, main_arg1)) (m (c, main_arg2)) (m (c, main_arg3)) (m (c, main_arg4)) (i 0) (i 1) (i 2) := by
  refine (dats m 0 c).arrAt_eq_of_covers 5 _ (by decide +kernel) fun t hf y => ?_
  have hN : t.val < 64 := t.isLt
  blk_simp
  rw [after0_5]
  obtain ⟨r, e, rfl⟩ : ∃ (r : Fin 512) (e : Fin 1024), y = ix3 0 r e :=
    ⟨y 1, y 2, funext fun a => by
      match a with
      | ⟨0, _⟩ => exact Fin.ext (by have := (y 0).isLt; show (y 0).val = 0; have h : (y 0).val < 1 := this; omega)
      | ⟨1, _⟩ => rfl
      | ⟨2, _⟩ => rfl⟩
  have hb : t.val / 8 < 8 := by omega
  have hl : 512 * (t.val % 8) + r.val < 4096 := by omega
  rw [out_apply]
  have key : ∀ (i : S8x4096x1024.Idx), (i 0).val = t.val / 8 → (i 1).val = 512 * (t.val % 8) + r.val → (i 2).val = e.val →
      ffnAt (m (c, main_arg0)) (m (c, main_arg1)) (m (c, main_arg2)) (m (c, main_arg3)) (m (c, main_arg4)) ⟨t.val / 8, hb⟩ ⟨512 * (t.val % 8) + r.val, hl⟩ e
        = ffnAt (m (c, main_arg0)) (m (c, main_arg1)) (m (c, main_arg2)) (m (c, main_arg3)) (m (c, main_arg4)) (i 0) (i 1) (i 2) := fun i h0 h1 h2 => by
    rw [show i 0 = (⟨t.val / 8, hb⟩ : Fin 8) from Fin.ext h0, show i 1 = (⟨512 * (t.val % 8) + r.val, hl⟩ : Fin 4096) from Fin.ext h1,
      show i 2 = e from Fin.ext h2]
  refine Eq.trans ?_ (key _ ?_ ?_ ?_)
  · unfold ffnAt
    congr 1
    · exact funext fun k => b0 m c t _ _ rfl rfl rfl
    · exact funext fun k => b1 m c t _ _ rfl rfl rfl
    · exact funext fun k => b1 m c t _ _ rfl rfl rfl
    · exact funext fun k => b1 m c t _ _ rfl rfl rfl
    · exact funext fun k => (b2 m c t _).trans (V_g m c 4 k)
    · exact funext fun k => (b2 m c t _).trans (V_g m c 5 k)
    · exact funext fun k => funext fun j => (b3 m c t _ (ix3 1 k j) rfl rfl rfl).trans (V_wi m c 1 k j)
    · exact funext fun j => funext fun e => (b4 m c t _ (ix3 1 j e) rfl rfl rfl).trans (V_wo m c 1 j e)
  · blk_simp [i5]
  · blk_simp [i5]
    show t.val % 8 * 512 + r.val = 512 * (t.val % 8) + r.val
    omega
  · blk_simp [i5]

end Cert.FfnKernel

end
-- ==== Proof.FfnRef.lean ====
/- The feed-forward reference's result, index by index: the same half-step of the row of the stream. -/
module

public import proofs.«01_k».proof.Proof.FfnKernel
public import proofs.«01_k».proof.Proof.Gen.Reference2Ideal.Read

@[expose] public section

set_option maxRecDepth 16384

noncomputable section

namespace Cert.FfnRef

open Cert.Reference2Ideal Cert.Reference2Ideal.Read Cert.AttnOps Cert.RowMath Cert.FfnTile Cert.FfnKernel
open Idealize.ShloMosaic hiding ix0 ix1 ix2 ix3 ix4 ix5 eq_ix1 eq_ix2 eq_ix3
open Idealize.ShloMosaic.ValueIdx

variable (x0 : (⟨S8x4096x1024, .f32⟩ : BufTy).Contents (Elt Ideal)) (x1 : (⟨S16x9x1024, .f32⟩ : BufTy).Contents (Elt Ideal))
variable (x2 : (⟨S1x6x1024, .f32⟩ : BufTy).Contents (Elt Ideal)) (x3 : (⟨S1x2x1024x5632, .f32⟩ : BufTy).Contents (Elt Ideal))
variable (x4 : (⟨S1x2x2816x1024, .f32⟩ : BufTy).Contents (Elt Ideal))

/-- A row of the stream over the root of the mean of its squares. -/
theorem norm1 (b : Fin 8) (l : Fin 4096) (e : Fin 1024) :
    val_main_v20 (F := Ideal) x0 (ix3 b l e) = unitRow (fun k => x0 (ix3 b l k)) e := by
  rw [val_main_v20_apply, val_main_v19_apply, val_main_v18_apply, val_main_v17_apply, val_main_v15_apply, val_main_v13_apply, val_main_v12_apply]
  have hs : ∀ k : Fin 1024, val_main_v11 (F := Ideal) x0 (idx_main_v12 (idx_main_v13 (idx_main_v19 (ix3 b l e))) k)
      = (x0 (ix3 b l k) * x0 (ix3 b l k) : EReal) := fun k => by
    rw [val_main_v11_apply, at3 x0 _ b l k rfl rfl rfl]; rfl
  simp only [hs]
  rw [val_main_v14_apply, val_main_v16_apply, val_main_cst_apply, val_main_cst_0_apply, val_main_cst_1_apply]
  show (x0 (ix3 b l e) * Ideal.rsqrt (Ideal.div (Ideal.ofBits .f32 0x00000000#32 + _) (Ideal.ofBits .f32 0x44800000#32) + Ideal.ofBits .f32 0x358637BD#32) : EReal) = _
  rw [bits_zero, zero_add]
  rfl

/-- The modulated row. -/
theorem mod1 (b : Fin 8) (l : Fin 4096) (k : Fin 1024) :
    val_main_v29 (F := Ideal) x0 x1 x2 (ix3 b l k) = modRow (fun k => x0 (ix3 b l k)) (fun k => x2 (ix3 0 4 k))
      (fun k => x1 (ix3 ⟨b.val, by omega⟩ 6 k)) (fun k => x1 (ix3 ⟨b.val, by omega⟩ 7 k)) k := by
  rw [val_main_v29_apply, val_main_v28_apply, val_main_v27_apply, val_main_v26_apply, val_main_v25_apply, val_main_v24_apply, val_main_v23_apply,
    val_main_v22_apply, val_main_v21_apply, norm1]
  rw [val_main_v10_apply, val_main_v9_apply, val_main_v5_apply, val_main_v4_apply, val_main_v3_apply, val_main_v2_apply, val_main_v1_apply, val_main_v0_apply]
  rw [at3 x2 _ 0 4 k rfl rfl (by show k.val % 1024 = k.val; omega),
    at3 x1 (idx_main_v3 _) ⟨b.val, by omega⟩ 7 k (by show (b.val * 1024 + k.val) / 1024 = b.val; omega) rfl (by show (b.val * 1024 + k.val) % 1024 = k.val; omega),
    at3 x1 (idx_main_v0 _) ⟨b.val, by omega⟩ 6 k (by show (b.val * 1024 + k.val) / 1024 = b.val; omega) rfl (by show (b.val * 1024 + k.val) % 1024 = k.val; omega)]
  rw [val_main_cst_2_apply]
  rfl

/-- The product with the first weights. -/
theorem up (b : Fin 8) (l : Fin 4096) (j : Fin 5632) :
    val_main_v34 (F := Ideal) x0 x1 x2 x3 (ix3 b l j) = (∑ k, modRow (fun k => x0 (ix3 b l k)) (fun k => x2 (ix3 0 4 k))
      (fun k => x1 (ix3 ⟨b.val, by omega⟩ 6 k)) (fun k => x1 (ix3 ⟨b.val, by omega⟩ 7 k)) k * x3 (ix4 0 1 k j) : EReal) := by
  rw [val_main_v34_apply]
  refine Finset.sum_congr rfl fun k _ => ?_
  rw [at3 (val_main_v29 (F := Ideal) x0 x1 x2) (lidx_main_v34 (ix3 b l j) k) b l k rfl rfl rfl, mod1, val_main_v31_apply, val_main_v30_apply]
  congr 2
  funext d; apply Fin.ext
  match d with
  | ⟨0, _⟩ => rfl
  | ⟨1, _⟩ => rfl
  | ⟨2, _⟩ => show (k.val * 5632 + j.val) / 5632 % 1024 = k.val; omega
  | ⟨3, _⟩ => show (k.val * 5632 + j.val) % 5632 = j.val; omega

/-- The hidden lanes. -/
theorem hid (b : Fin 8) (l : Fin 4096) (j : Fin 2816) :
    val_main_v38 (F := Ideal) x0 x1 x2 x3 (ix3 b l j) = hidRow (modRow (fun k => x0 (ix3 b l k)) (fun k => x2 (ix3 0 4 k))
      (fun k => x1 (ix3 ⟨b.val, by omega⟩ 6 k)) (fun k => x1 (ix3 ⟨b.val, by omega⟩ 7 k))) (fun k j => x3 (ix4 0 1 k j)) j := by
  rw [val_main_v38_apply, val_main_v37_apply, val_main_call0_v5_apply, val_main_call0_v4_apply, val_main_call0_v3_apply, val_main_call0_v2_apply,
    val_main_call0_v1_apply, val_main_call0_v0_apply, val_main_call0_cst_apply, val_main_call0_cst_0_apply, val_main_v35_apply, val_main_v36_apply]
  rw [at3 (val_main_v34 (F := Ideal) x0 x1 x2 x3) (idx_main_v35 _) b l ⟨j.val, by omega⟩ rfl rfl rfl,
    at3 (val_main_v34 (F := Ideal) x0 x1 x2 x3) (idx_main_v36 _) b l ⟨2816 + j.val, by omega⟩ rfl rfl rfl, up, up]
  unfold hidRow Ideal.logistic
  rw [← bits_one]
  rfl

/-- The feed-forward of the row. -/
theorem ff (b : Fin 8) (l : Fin 4096) (e : Fin 1024) :
    val_main_v39 (F := Ideal) x0 x1 x2 x3 x4 (ix3 b l e) = ffRow (modRow (fun k => x0 (ix3 b l k)) (fun k => x2 (ix3 0 4 k))
      (fun k => x1 (ix3 ⟨b.val, by omega⟩ 6 k)) (fun k => x1 (ix3 ⟨b.val, by omega⟩ 7 k))) (fun k j => x3 (ix4 0 1 k j)) (fun j e => x4 (ix4 0 1 j e)) e := by
  rw [val_main_v39_apply]
  unfold ffRow
  refine Finset.sum_congr rfl fun j _ => ?_
  rw [at3 (val_main_v38 (F := Ideal) x0 x1 x2 x3) (lidx_main_v39 (ix3 b l e) j) b l j rfl rfl rfl, hid, val_main_v33_apply, val_main_v32_apply]
  congr 2
  funext d; apply Fin.ext
  match d with
  | ⟨0, _⟩ => rfl
  | ⟨1, _⟩ => rfl
  | ⟨2, _⟩ => show (j.val * 1024 + e.val) / 1024 % 2816 = j.val; omega
  | ⟨3, _⟩ => show (j.val * 1024 + e.val) % 1024 = e.val; omega

/-- The feed-forward's row over the root of the mean of its squares. -/
theorem norm2 (b : Fin 8) (l : Fin 4096) (e : Fin 1024) :
    val_main_v53 (F := Ideal) x0 x1 x2 x3 x4 (ix3 b l e) = unitRow (fun k => val_main_v39 (F := Ideal) x0 x1 x2 x3 x4 (ix3 b l k)) e := by
  rw [val_main_v53_apply, val_main_v52_apply, val_main_v51_apply, val_main_v50_apply, val_main_v48_apply, val_main_v46_apply, val_main_v45_apply]
  have hs : ∀ k : Fin 1024, val_main_v44 (F := Ideal) x0 x1 x2 x3 x4 (idx_main_v45 (idx_main_v46 (idx_main_v52 (ix3 b l e))) k)
      = (val_main_v39 (F := Ideal) x0 x1 x2 x3 x4 (ix3 b l k) * val_main_v39 (F := Ideal) x0 x1 x2 x3 x4 (ix3 b l k) : EReal) := fun k => by
    rw [val_main_v44_apply, at3 (val_main_v39 (F := Ideal) x0 x1 x2 x3 x4) _ b l k rfl rfl rfl]; rfl
  simp only [hs]
  rw [val_main_v47_apply, val_main_v49_apply, val_main_cst_4_apply, val_main_cst_5_apply, val_main_cst_6_apply]
  show (val_main_v39 (F := Ideal) x0 x1 x2 x3 x4 (ix3 b l e) * Ideal.rsqrt (Ideal.div (Ideal.ofBits .f32 0x00000000#32 + _) (Ideal.ofBits .f32 0x44800000#32)
    + Ideal.ofBits .f32 0x358637BD#32) : EReal) = _
  rw [bits_zero, zero_add]
  rfl

/-- The reference's result is the last half-step of its arguments. -/
theorem result : val_main_v59 (F := Ideal) x0 x1 x2 x3 x4 = fun i : S8x4096x1024.Idx => ffnAt x0 x1 x2 x3 x4 (i 0) (i 1) (i 2) := by
  funext i
  obtain ⟨b, l, e, rfl⟩ : ∃ (b : Fin 8) (l : Fin 4096) (e : Fin 1024), i = ix3 b l e :=
    ⟨i 0, i 1, i 2, funext fun a => by
      match a with
      | ⟨0, _⟩ => rfl
      | ⟨1, _⟩ => rfl
      | ⟨2, _⟩ => rfl⟩
  show _ = ffnAt x0 x1 x2 x3 x4 b l e
  unfold ffnAt halfStep
  rw [val_main_v59_apply, val_main_v58_apply, val_main_v57_apply, val_main_v56_apply, val_main_v55_apply, val_main_v54_apply, norm2]
  simp only [ff]
  rw [val_main_v43_apply, val_main_v42_apply, val_main_v41_apply, val_main_v40_apply, val_main_v8_apply, val_main_v7_apply, val_main_v6_apply]
  rw [at3 x2 _ 0 5 e rfl rfl (by show e.val % 1024 = e.val; omega),
    at3 x1 (idx_main_v6 _) ⟨b.val, by omega⟩ 8 e (by show (b.val * 1024 + e.val) / 1024 = b.val; omega) rfl (by show (b.val * 1024 + e.val) % 1024 = e.val; omega)]
  rw [val_main_cst_3_apply]
  rfl

end Cert.FfnRef

end
-- ==== Proof.MergeTile.lean ====
/- The merge of the two branches at one row, and what the kernel's body leaves in its output block: each row of the block is that
   merge of the rows it reads. -/
module

public import proofs.«01_k».proof.Proof.RowMath
public import proofs.«01_k».proof.Proof.Gen.Kernel3Ideal.Value

@[expose] public section

set_option maxRecDepth 16384

noncomputable section

namespace Cert.MergeTile

open Cert.Kernel3Ideal Cert.Kernel3Ideal.Gen Cert.Kernel3Ideal.Value Cert.AttnOps Cert.RowMath
open Idealize.ShloMosaic hiding ix0 ix1 ix2 ix3 ix4 ix5
open Idealize.ShloMosaic.ValueIdx Idealize.ShloMosaic.TcCoe Idealize.SL.Sem

/-- The two branches' products, each times its gate, added. -/
def mixRow (yh od gh gd : Fin 1024 → EReal) (wh wd : Fin 1024 → Fin 1024 → EReal) (k : Fin 1024) : EReal :=
  gh k * (∑ j, yh j * wh j k) + gd k * ∑ j, od j * wd j k

/-- The mixed row through the output product. -/
def outRow (x : Fin 1024 → EReal) (w : Fin 1024 → Fin 1024 → EReal) (e : Fin 1024) : EReal := ∑ k, x k * w k e

/-- The merge of a row: the stream plus the gated, normalised output product. -/
def mergeRow (s yh od gh gd gate g : Fin 1024 → EReal) (wh wd w : Fin 1024 → Fin 1024 → EReal) (e : Fin 1024) : EReal :=
  s e + gate e * (unitRow (outRow (mixRow yh od gh gd wh wd) w) e * g e)

/-- The kernel's output product. -/
theorem pay2_apply (v0 : Vec Ideal S1x512x1024 .bf16) (v2 : Vec Ideal S1024x1024 .bf16) (v5 : Vec Ideal S1x512x1024 .bf16) (v7 : Vec Ideal S1024x1024 .bf16)
    (v10 v14 : Vec Ideal S1x512x1024 .bf16) (v20 : Vec Ideal S1024x1024 .bf16) (r : Fin 512) (e : Fin 1024) :
    k0_pay2 v0 v2 v5 v7 v10 v14 v20 (ix2 r e) = outRow (mixRow (fun k => v0 (ix3 0 r k)) (fun k => v5 (ix3 0 r k)) (fun k => v10 (ix3 0 r k))
      (fun k => v14 (ix3 0 r k)) (fun j k => v2 (ix2 j k)) (fun j k => v7 (ix2 j k))) (fun k e => v20 (ix2 k e)) e := by
  unfold k0_pay2 outRow
  simp only [shapeCast_self]
  refine (matmul_zero _ rfl none _ _ r e).trans ?_
  refine Finset.sum_congr rfl fun k _ => congrArg (fun p : EReal => p * v20 (ix2 k e)) ?_
  have h : ∀ (x : FVec Ideal S1x512x1024 .bf16) (w : FVec Ideal S1024x1024 .bf16), matmul dot_S512x1024_S1024x1024_S512x1024_1_0_0_1_n_n none
      (shapeCast S512x1024 x shapeCasts_S1x512x1024_S512x1024) w (constant S512x1024 .f32 0x00000000#32) (ix2 r k)
        = (∑ j, x (ix3 0 r j) * w (ix2 j k) : EReal) := fun x w => by
    refine (matmul_zero _ rfl none _ _ r k).trans ?_
    simp only [dropUnit_apply]
  unfold mixRow
  rw [truncf_apply, addf_apply, mulf_apply, mulf_apply, extf_apply, extf_apply, dropUnit_apply, dropUnit_apply, h, h]

/-- What the body leaves in the output block: row by row the merge of the rows it reads. -/
theorem out_apply (x0 : Vec Ideal S1x512x1024 .f32) (x1 x2 x3 x4 : Vec Ideal S1x512x1024 .bf16) (x5 : Vec Ideal S1x9x1024 .f32) (x6 : Vec Ideal S6x1024 .f32)
    (x7 x8 x9 : Vec Ideal S1024x1024 .bf16) (r : Fin 512) (e : Fin 1024) :
    out0_10 x0 x1 x2 x3 x4 x5 x6 x7 x8 x9 (ix3 0 r e) = mergeRow (fun k => x0 (ix3 0 r k)) (fun k => x1 (ix3 0 r k)) (fun k => x2 (ix3 0 r k))
      (fun k => x3 (ix3 0 r k)) (fun k => x4 (ix3 0 r k)) (fun k => x5 (ix3 0 5 k)) (fun k => x6 (ix2 3 k)) (fun j k => x7 (ix2 j k))
      (fun j k => x8 (ix2 j k)) (fun j k => x9 (ix2 j k)) e := by
  have hz : (![0, 0, 0] : Fin 3 → ℕ) = fun _ => 0 := by decide
  have hz2 : (![0, 0] : Fin 2 → ℕ) = fun _ => 0 := by decide
  have l0 : ∀ h, View.ld x0 (Rect.unit (s := S1x512x1024) ![0, 0, 0] S1x512x1024.size h) = x0 := fun h => View.ld_unit_zero (S := S1x512x1024) hz h x0
  have l1 : ∀ (x : Vec Ideal S1x512x1024 .bf16) h, View.ld x (Rect.unit (s := S1x512x1024) ![0, 0, 0] S1x512x1024.size h) = x := fun x h =>
    View.ld_unit_zero (S := S1x512x1024) hz h x
  have l2 : ∀ (x : Vec Ideal S1024x1024 .bf16) h, View.ld x (Rect.unit (s := S1024x1024) ![0, 0] S1024x1024.size h) = x := fun x h =>
    View.ld_unit_zero (S := S1024x1024) hz2 h x
  have l5 : View.ld x5 r0_2 (ix3 0 0 e) = x5 (ix3 0 5 e) :=
    View.ld_unit_apply_of x5 _ _ _ _ _ fun a => by
      match a with
      | ⟨0, _⟩ => rfl
      | ⟨1, _⟩ => rfl
      | ⟨2, _⟩ => show e.val = 0 + e.val; omega
  have l6 : View.ld x6 r0_3 (ix2 0 e) = x6 (ix2 3 e) :=
    View.ld_unit_apply_of x6 _ _ _ _ _ fun a => by
      match a with
      | ⟨0, _⟩ => rfl
      | ⟨1, _⟩ => show e.val = 0 + e.val; omega
  unfold out0_10
  rw [show ∀ w, View.canon (Val := Elt Ideal) [⟨r0_0, w⟩] = w from fun w => View.canon_cons_unit_zero (S := S1x512x1024) hz _ w []]
  rw [l0, l1, l1, l1, l1, l2, l2, l2]
  unfold k0_pay1 mergeRow
  rw [addUnit_apply, addf_apply, mulf_apply, mulf_apply, bcastRow_apply, bcastRow_apply]
  unfold k0_pay3 k0_pay4 k0_pay5
  rw [dropUnit_apply, dropUnit_apply, shapeCast_self, l5, l6]
  refine congrArg (fun p : EReal => x0 (ix3 0 r e) + x5 (ix3 0 5 e) * (p * x6 (ix2 3 e))) ?_
  refine (unitRow_apply _ _ _ _ _ _ r e).trans ?_
  congr 1
  exact funext fun e' => pay2_apply _ _ _ _ _ _ _ r e'

end Cert.MergeTile

end
-- ==== Proof.MergeKernel.lean ====
/- The merge kernel's result array, index by index: the merge of the rows of its arguments. -/
module

public import proofs.«01_k».proof.Proof.MergeTile
public import Idealize.ShloMosaic.Lib.Pipeline.ValueKit

@[expose] public section

set_option maxRecDepth 16384

noncomputable section

namespace Cert.MergeKernel

open Cert.Kernel3Ideal Cert.Kernel3Ideal.Gen Cert.Kernel3Ideal.Value Cert.RowMath Cert.MergeTile
open Idealize.ShloMosaic hiding ix0 ix1 ix2 ix3 ix4 ix5
open Idealize.ShloMosaic.ValueIdx Idealize.ShloMosaic.TcCoe Idealize.SL.Sem
open Idealize.ShloMosaic.Pipeline (Dat)

/-- The merge at batch element `b`, position `l` and lane `e`: the merge of the rows, the gates the last two thousand and
    forty-eight columns of `p`, with the modulation's sixth row and the fourth scale row. -/
def mergeAt (s yh od : (⟨3, ![8, 4096, 1024]⟩ : Shape).Idx → EReal) (p : (⟨3, ![8, 4096, 7168]⟩ : Shape).Idx → EReal)
    (md : (⟨3, ![16, 9, 1024]⟩ : Shape).Idx → EReal) (g : (⟨3, ![1, 6, 1024]⟩ : Shape).Idx → EReal)
    (wh wd w : (⟨3, ![1, 1024, 1024]⟩ : Shape).Idx → EReal) (b : Fin 8) (l : Fin 4096) (e : Fin 1024) : EReal :=
  mergeRow (fun k => s (ix3 b l k)) (fun k => yh (ix3 b l k)) (fun k => od (ix3 b l k)) (fun k => p (ix3 b l ⟨5120 + k.val, by omega⟩))
    (fun k => p (ix3 b l ⟨6144 + k.val, by omega⟩)) (fun k => md (ix3 ⟨b.val, by omega⟩ 5 k)) (fun k => g (ix3 0 3 k))
    (fun j k => wh (ix3 0 j k)) (fun j k => wd (ix3 0 j k)) (fun j k => w (ix3 0 j k)) e

variable (m : (ℓ : Loc nD τ sig) → Buf (Elt Ideal) ℓ) (c : Dev nD)

/-! ## The host prefix -/

/-- The scale rows as the kernel is handed them. -/
theorem V_g (i : Fin 6) (k : Fin 1024) : V m c main_v0 (ix2 i k) = m (c, main_arg5) (ix3 0 i k) := by
  have h : V m c main_v0 = shapeCast S6x1024 (m (c, main_arg5)) shapeCasts_S1x6x1024_S6x1024 := by
    show StableHlo.after hostOps0 _ _ = _
    simp only [StableHlo.after_cons, StableHlo.after_nil]
    rfl
  rw [h]
  exact Cert.AttnOps.dropUnit_apply _ _ _ _

/-- The first branch's weights as the kernel is handed them. -/
theorem V_wh (j k : Fin 1024) : V m c main_v2 (ix2 j k) = m (c, main_arg6) (ix3 0 j k) := by
  have h : V m c main_v2 = shapeCast S1024x1024 (m (c, main_arg6)) shapeCasts_S1x1024x1024_S1024x1024 := by
    show StableHlo.after hostOps0 _ _ = _
    simp only [StableHlo.after_cons, StableHlo.after_nil]
    rfl
  rw [h]
  exact Cert.AttnOps.dropUnit_apply _ _ _ _

/-- The second branch's weights as the kernel is handed them. -/
theorem V_wd (j k : Fin 1024) : V m c main_v4 (ix2 j k) = m (c, main_arg7) (ix3 0 j k) := by
  have h : V m c main_v4 = shapeCast S1024x1024 (m (c, main_arg7)) shapeCasts_S1x1024x1024_S1024x1024 := by
    show StableHlo.after hostOps0 _ _ = _
    simp only [StableHlo.after_cons, StableHlo.after_nil]
    rfl
  rw [h]
  exact Cert.AttnOps.dropUnit_apply _ _ _ _

/-- The output weights as the kernel is handed them. -/
theorem V_wo (j k : Fin 1024) : V m c main_v6 (ix2 j k) = m (c, main_arg8) (ix3 0 j k) := by
  have h : V m c main_v6 = shapeCast S1024x1024 (m (c, main_arg8)) shapeCasts_S1x1024x1024_S1024x1024 := by
    show StableHlo.after hostOps0 _ _ = _
    simp only [StableHlo.after_cons, StableHlo.after_nil]
    rfl
  rw [h]
  exact Cert.AttnOps.dropUnit_apply _ _ _ _

/-! ## The windows' blocks -/

theorem i0 : ∀ t : Fin cfg0.N, win0_0.index t = ![t.val / 8, t.val % 8, 0] :=
  (by decide +kernel : ∀ t : Fin grid0.N, win0_0.index t = ![t.val / 8, t.val % 8, 0])
theorem i1 : ∀ t : Fin cfg0.N, win0_1.index t = ![t.val / 8, t.val % 8, 0] :=
  (by decide +kernel : ∀ t : Fin grid0.N, win0_1.index t = ![t.val / 8, t.val % 8, 0])
theorem i2 : ∀ t : Fin cfg0.N, win0_2.index t = ![t.val / 8, t.val % 8, 0] :=
  (by decide +kernel : ∀ t : Fin grid0.N, win0_2.index t = ![t.val / 8, t.val % 8, 0])
theorem i3 : ∀ t : Fin cfg0.N, win0_3.index t = ![t.val / 8, t.val % 8, 5] :=
  (by decide +kernel : ∀ t : Fin grid0.N, win0_3.index t = ![t.val / 8, t.val % 8, 5])
theorem i4 : ∀ t : Fin cfg0.N, win0_4.index t = ![t.val / 8, t.val % 8, 6] :=
  (by decide +kernel : ∀ t : Fin grid0.N, win0_4.index t = ![t.val / 8, t.val % 8, 6])
theorem i5 : ∀ t : Fin cfg0.N, win0_5.index t = ![t.val / 8, 0, 0] :=
  (by decide +kernel : ∀ t : Fin grid0.N, win0_5.index t = ![t.val / 8, 0, 0])
theorem i6 : ∀ t : Fin cfg0.N, win0_6.index t = ![0, 0] :=
  (by decide +kernel : ∀ t : Fin grid0.N, win0_6.index t = ![0, 0])
theorem i7 : ∀ t : Fin cfg0.N, win0_7.index t = ![0, 0] :=
  (by decide +kernel : ∀ t : Fin grid0.N, win0_7.index t = ![0, 0])
theorem i8 : ∀ t : Fin cfg0.N, win0_8.index t = ![0, 0] :=
  (by decide +kernel : ∀ t : Fin grid0.N, win0_8.index t = ![0, 0])
theorem i9 : ∀ t : Fin cfg0.N, win0_9.index t = ![0, 0] :=
  (by decide +kernel : ∀ t : Fin grid0.N, win0_9.index t = ![0, 0])
theorem i10 : ∀ t : Fin cfg0.N, win0_10.index t = ![t.val / 8, t.val % 8, 0] :=
  (by decide +kernel : ∀ t : Fin grid0.N, win0_10.index t = ![t.val / 8, t.val % 8, 0])

/-- The stream's block at point `t`, read in its array. -/
theorem b0 (t : Fin cfg0.N) (y : S1x512x1024.Idx) (i : S8x4096x1024.Idx) (h0 : (i 0).val = t.val / 8)
    (h1 : (i 1).val = 512 * (t.val % 8) + (y 1).val) (h2 : (i 2).val = (y 2).val) : iblk m c 0 t y = m (c, main_arg0) i := by
  rw [show m (c, main_arg0) = V m c main_arg0 from (V_main_arg0 m c).symm]
  blk_simp [iblk]
  congr 1
  blk_ext [i0]

/-- The first branch's block at point `t`, read in its array. -/
theorem b1 (t : Fin cfg0.N) (y : S1x512x1024.Idx) (i : S8x4096x1024.Idx) (h0 : (i 0).val = t.val / 8)
    (h1 : (i 1).val = 512 * (t.val % 8) + (y 1).val) (h2 : (i 2).val = (y 2).val) : iblk m c 1 t y = m (c, main_arg1) i := by
  rw [show m (c, main_arg1) = V m c main_arg1 from (V_main_arg1 m c).symm]
  blk_simp [iblk]
  congr 1
  blk_ext [i1]

/-- The second branch's block at point `t`, read in its array. -/
theorem b2 (t : Fin cfg0.N) (y : S1x512x1024.Idx) (i : S8x4096x1024.Idx) (h0 : (i 0).val = t.val / 8)
    (h1 : (i 1).val = 512 * (t.val % 8) + (y 1).val) (h2 : (i 2).val = (y 2).val) : iblk m c 2 t y = m (c, main_arg2) i := by
  rw [show m (c, main_arg2) = V m c main_arg2 from (V_main_arg2 m c).symm]
  blk_simp [iblk]
  congr 1
  blk_ext [i2]

/-- The first gate's block at point `t`, read in its array. -/
theorem b3 (t : Fin cfg0.N) (y : S1x512x1024.Idx) (i : S8x4096x7168.Idx) (h0 : (i 0).val = t.val / 8)
    (h1 : (i 1).val = 512 * (t.val % 8) + (y 1).val) (h2 : (i 2).val = 5120 + (y 2).val) : iblk m c 3 t y = m (c, main_arg3) i := by
  rw [show m (c, main_arg3) = V m c main_arg3 from (V_main_arg3 m c).symm]
  blk_simp [iblk]
  congr 1
  blk_ext [i3]

/-- The second gate's block at point `t`, read in its array. -/
theorem b4 (t : Fin cfg0.N) (y : S1x512x1024.Idx) (i : S8x4096x7168.Idx) (h0 : (i 0).val = t.val / 8)
    (h1 : (i 1).val = 512 * (t.val % 8) + (y 1).val) (h2 : (i 2).val = 6144 + (y 2).val) : iblk m c 4 t y = m (c, main_arg3) i := by
  rw [show m (c, main_arg3) = V m c main_arg3 from (V_main_arg3 m c).symm]
  blk_simp [iblk]
  congr 1
  blk_ext [i4]

/-- The modulation's block at point `t`, read in its array. -/
theorem b5 (t : Fin cfg0.N) (y : S1x9x1024.Idx) (i : S16x9x1024.Idx) (h0 : (i 0).val = t.val / 8)
    (h1 : (i 1).val = (y 1).val) (h2 : (i 2).val = (y 2).val) : iblk m c 5 t y = m (c, main_arg4) i := by
  rw [show m (c, main_arg4) = V m c main_arg4 from (V_main_arg4 m c).symm]
  blk_simp [iblk]
  congr 1
  blk_ext [i5]

/-- Window 6's block is its whole array. -/
theorem b6 (t : Fin cfg0.N) (y : S6x1024.Idx) : iblk m c 6 t y = V m c main_v0 y := by
  blk_simp [iblk]
  congr 1
  blk_ext [i6]

/-- Window 7's block is its whole array. -/
theorem b7 (t : Fin cfg0.N) (y : S1024x1024.Idx) : iblk m c 7 t y = V m c main_v2 y := by
  blk_simp [iblk]
  congr 1
  blk_ext [i7]

/-- Window 8's block is its whole array. -/
theorem b8 (t : Fin cfg0.N) (y : S1024x1024.Idx) : iblk m c 8 t y = V m c main_v4 y := by
  blk_simp [iblk]
  congr 1
  blk_ext [i8]

/-- Window 9's block is its whole array. -/
theorem b9 (t : Fin cfg0.N) (y : S1024x1024.Idx) : iblk m c 9 t y = V m c main_v6 y := by
  blk_simp [iblk]
  congr 1
  blk_ext [i9]

/-! ## The result array -/

/-- The kernel's result array is the merge of its arguments. -/
theorem result : (dats m 0 c).arrAt 10 cfg0.N = fun i : S8x4096x1024.Idx =>
    mergeAt (m (c, main_arg0)) (m (c, main_arg1)) (m (c, main_arg2)) (m (c, main_arg3)) (m (c, main_arg4)) (m (c, main_arg5)) (m (c, main_arg6)) (m (c, main_arg7)) (m (c, main_arg8)) (i 0) (i 1) (i 2) := by
  refine (dats m 0 c).arrAt_eq_of_covers 10 _ (by decide +kernel) fun t hf y => ?_
  have hN : t.val < 64 := t.isLt
  blk_simp
  rw [after0_10]
  obtain ⟨r, e, rfl⟩ : ∃ (r : Fin 512) (e : Fin 1024), y = ix3 0 r e :=
    ⟨y 1, y 2, funext fun a => by
      match a with
      | ⟨0, _⟩ => exact Fin.ext (by have := (y 0).isLt; show (y 0).val = 0; have h : (y 0).val < 1 := this; omega)
      | ⟨1, _⟩ => rfl
      | ⟨2, _⟩ => rfl⟩
  have hb : t.val / 8 < 8 := by omega
  have hl : 512 * (t.val % 8) + r.val < 4096 := by omega
  rw [out_apply]
  have key : ∀ (i : S8x4096x1024.Idx), (i 0).val = t.val / 8 → (i 1).val = 512 * (t.val % 8) + r.val → (i 2).val = e.val →
      mergeAt (m (c, main_arg0)) (m (c, main_arg1)) (m (c, main_arg2)) (m (c, main_arg3)) (m (c, main_arg4)) (m (c, main_arg5)) (m (c, main_arg6)) (m (c, main_arg7)) (m (c, main_arg8)) ⟨t.val / 8, hb⟩
          ⟨512 * (t.val % 8) + r.val, hl⟩ e
        = mergeAt (m (c, main_arg0)) (m (c, main_arg1)) (m (c, main_arg2)) (m (c, main_arg3)) (m (c, main_arg4)) (m (c, main_arg5)) (m (c, main_arg6)) (m (c, main_arg7)) (m (c, main_arg8)) (i 0) (i 1) (i 2) := fun i h0 h1 h2 => by
    rw [show i 0 = (⟨t.val / 8, hb⟩ : Fin 8) from Fin.ext h0, show i 1 = (⟨512 * (t.val % 8) + r.val, hl⟩ : Fin 4096) from Fin.ext h1,
      show i 2 = e from Fin.ext h2]
  refine Eq.trans ?_ (key _ ?_ ?_ ?_)
  · unfold mergeAt
    congr 1
    · exact funext fun k => b0 m c t _ _ rfl rfl rfl
    · exact funext fun k => b1 m c t _ _ rfl rfl rfl
    · exact funext fun k => b2 m c t _ _ rfl rfl rfl
    · exact funext fun k => b3 m c t _ _ rfl rfl rfl
    · exact funext fun k => b4 m c t _ _ rfl rfl rfl
    · exact funext fun k => b5 m c t _ _ rfl rfl rfl
    · exact funext fun k => (b6 m c t _).trans (V_g m c 3 k)
    · exact funext fun j => funext fun k => (b7 m c t _).trans (V_wh m c j k)
    · exact funext fun j => funext fun k => (b8 m c t _).trans (V_wd m c j k)
    · exact funext fun j => funext fun k => (b9 m c t _).trans (V_wo m c j k)
  · blk_simp [i10]
  · blk_simp [i10]
    show t.val % 8 * 512 + r.val = 512 * (t.val % 8) + r.val
    omega
  · blk_simp [i10]

end Cert.MergeKernel

end
-- ==== Proof.MergeRef.lean ====
/- The merge reference's result, index by index: the same merge of the rows of its arguments. -/
module

public import proofs.«01_k».proof.Proof.MergeKernel
public import proofs.«01_k».proof.Proof.Gen.Reference3Ideal.Read

@[expose] public section

set_option maxRecDepth 16384

noncomputable section

namespace Cert.MergeRef

open Cert.Reference3Ideal Cert.Reference3Ideal.Read Cert.AttnOps Cert.RowMath Cert.MergeTile Cert.MergeKernel
open Idealize.ShloMosaic hiding ix0 ix1 ix2 ix3 ix4 ix5 eq_ix1 eq_ix2 eq_ix3
open Idealize.ShloMosaic.ValueIdx

variable (x0 : (⟨S8x4096x1024, .f32⟩ : BufTy).Contents (Elt Ideal)) (x1 x2 : (⟨S8x4096x1024, .bf16⟩ : BufTy).Contents (Elt Ideal))
variable (x3 : (⟨S8x4096x7168, .bf16⟩ : BufTy).Contents (Elt Ideal)) (x4 : (⟨S16x9x1024, .f32⟩ : BufTy).Contents (Elt Ideal))
variable (x5 : (⟨S1x6x1024, .f32⟩ : BufTy).Contents (Elt Ideal)) (x6 x7 x8 : (⟨S1x1024x1024, .f32⟩ : BufTy).Contents (Elt Ideal))

/-- The first branch's product. -/
theorem dot1 (b : Fin 8) (l : Fin 4096) (k : Fin 1024) :
    val_main_v2 (F := Ideal) x1 x6 (ix3 b l k) = (∑ j, x1 (ix3 b l j) * x6 (ix3 0 j k) : EReal) := by
  rw [val_main_v2_apply]
  refine Finset.sum_congr rfl fun j _ => ?_
  rw [val_main_v0_apply, val_main_v1_apply, at3 x1 _ b l j rfl rfl rfl,
    at3 x6 _ 0 j k rfl (by show (j.val * 1024 + k.val) / 1024 % 1024 = j.val; omega) (by show (j.val * 1024 + k.val) % 1024 = k.val; omega)]
  rfl

/-- The second branch's product. -/
theorem dot2 (b : Fin 8) (l : Fin 4096) (k : Fin 1024) :
    val_main_v5 (F := Ideal) x2 x7 (ix3 b l k) = (∑ j, x2 (ix3 b l j) * x7 (ix3 0 j k) : EReal) := by
  rw [val_main_v5_apply]
  refine Finset.sum_congr rfl fun j _ => ?_
  rw [val_main_v3_apply, val_main_v4_apply, at3 x2 _ b l j rfl rfl rfl,
    at3 x7 _ 0 j k rfl (by show (j.val * 1024 + k.val) / 1024 % 1024 = j.val; omega) (by show (j.val * 1024 + k.val) % 1024 = k.val; omega)]
  rfl

/-- The gated sum of the two branches. -/
theorem mix (b : Fin 8) (l : Fin 4096) (k : Fin 1024) :
    val_main_v12 (F := Ideal) x1 x2 x3 x6 x7 (ix3 b l k) = mixRow (fun k => x1 (ix3 b l k)) (fun k => x2 (ix3 b l k))
      (fun k => x3 (ix3 b l ⟨5120 + k.val, by omega⟩)) (fun k => x3 (ix3 b l ⟨6144 + k.val, by omega⟩)) (fun j k => x6 (ix3 0 j k))
      (fun j k => x7 (ix3 0 j k)) k := by
  rw [val_main_v12_apply, val_main_v10_apply, val_main_v11_apply, dot1, dot2, val_main_v8_apply, val_main_v9_apply, val_main_v7_apply, val_main_v7_apply,
    val_main_v6_apply, val_main_v6_apply]
  rw [at3 x3 (idx_main_v6 (idx_main_v8 _)) b l ⟨5120 + k.val, by omega⟩ rfl rfl rfl,
    at3 x3 (idx_main_v6 (idx_main_v9 _)) b l ⟨6144 + k.val, by omega⟩ rfl rfl (by show 5120 + (1024 + k.val) = 6144 + k.val; omega)]
  rfl

/-- The output product of the row. -/
theorem out (b : Fin 8) (l : Fin 4096) (e : Fin 1024) :
    val_main_v14 (F := Ideal) x1 x2 x3 x6 x7 x8 (ix3 b l e) = outRow (mixRow (fun k => x1 (ix3 b l k)) (fun k => x2 (ix3 b l k))
      (fun k => x3 (ix3 b l ⟨5120 + k.val, by omega⟩)) (fun k => x3 (ix3 b l ⟨6144 + k.val, by omega⟩)) (fun j k => x6 (ix3 0 j k))
      (fun j k => x7 (ix3 0 j k))) (fun k e => x8 (ix3 0 k e)) e := by
  rw [val_main_v14_apply]
  unfold outRow
  refine Finset.sum_congr rfl fun k _ => ?_
  rw [at3 (val_main_v12 (F := Ideal) x1 x2 x3 x6 x7) (lidx_main_v14 (ix3 b l e) k) b l k rfl rfl rfl, mix, val_main_v13_apply,
    at3 x8 _ 0 k e rfl (by show (k.val * 1024 + e.val) / 1024 % 1024 = k.val; omega) (by show (k.val * 1024 + e.val) % 1024 = e.val; omega)]

/-- The output product's row over the root of the mean of its squares. -/
theorem norm (b : Fin 8) (l : Fin 4096) (e : Fin 1024) :
    val_main_v29 (F := Ideal) x1 x2 x3 x6 x7 x8 (ix3 b l e) = unitRow (fun k => val_main_v14 (F := Ideal) x1 x2 x3 x6 x7 x8 (ix3 b l k)) e := by
  rw [val_main_v29_apply, val_main_v28_apply, val_main_v27_apply, val_main_v26_apply, val_main_v24_apply, val_main_v22_apply, val_main_v21_apply]
  have hs : ∀ k : Fin 1024, val_main_v20 (F := Ideal) x1 x2 x3 x6 x7 x8 (idx_main_v21 (idx_main_v22 (idx_main_v28 (ix3 b l e))) k)
      = (val_main_v14 (F := Ideal) x1 x2 x3 x6 x7 x8 (ix3 b l k) * val_main_v14 (F := Ideal) x1 x2 x3 x6 x7 x8 (ix3 b l k) : EReal) := fun k => by
    rw [val_main_v20_apply, at3 (val_main_v14 (F := Ideal) x1 x2 x3 x6 x7 x8) _ b l k rfl rfl rfl]; rfl
  simp only [hs]
  rw [val_main_v23_apply, val_main_v25_apply, val_main_cst_apply, val_main_cst_0_apply, val_main_cst_1_apply]
  show (val_main_v14 (F := Ideal) x1 x2 x3 x6 x7 x8 (ix3 b l e) * Ideal.rsqrt (Ideal.div (Ideal.ofBits .f32 0x00000000#32 + _) (Ideal.ofBits .f32 0x44800000#32)
    + Ideal.ofBits .f32 0x358637BD#32) : EReal) = _
  rw [bits_zero, zero_add]
  rfl

/-- The reference's result is the merge of its arguments. -/
theorem result : val_main_v35 (F := Ideal) x0 x1 x2 x3 x4 x5 x6 x7 x8 = fun i : S8x4096x1024.Idx => mergeAt x0 x1 x2 x3 x4 x5 x6 x7 x8 (i 0) (i 1) (i 2) := by
  funext i
  obtain ⟨b, l, e, rfl⟩ : ∃ (b : Fin 8) (l : Fin 4096) (e : Fin 1024), i = ix3 b l e :=
    ⟨i 0, i 1, i 2, funext fun a => by
      match a with
      | ⟨0, _⟩ => rfl
      | ⟨1, _⟩ => rfl
      | ⟨2, _⟩ => rfl⟩
  show _ = mergeAt x0 x1 x2 x3 x4 x5 x6 x7 x8 b l e
  unfold mergeAt mergeRow
  rw [val_main_v35_apply, val_main_v34_apply, val_main_v33_apply, val_main_v32_apply, val_main_v31_apply, val_main_v30_apply, norm]
  simp only [out]
  rw [val_main_v19_apply, val_main_v18_apply, val_main_v17_apply, val_main_v16_apply, val_main_v15_apply]
  rw [at3 x5 _ 0 3 e rfl rfl (by show e.val % 1024 = e.val; omega),
    at3 x4 (idx_main_v15 _) ⟨b.val, by omega⟩ 5 e (by show (b.val * 1024 + e.val) / 1024 = b.val; omega) rfl (by show (b.val * 1024 + e.val) % 1024 = e.val; omega)]
  rfl

end Cert.MergeRef

end
-- ==== Proof.ProjOps.lean ====
/- The combined projection of one row, and the kernel's operations on its tile: the tile with its halo rows, the width-three
   convolution over the rows, the rotation of lane pairs. -/
module

public import Idealize.ShloMosaic.Lib.KernelVsHost
public import proofs.«01_k».proof.Proof.FfnTile
public import proofs.«01_k».proof.Proof.Gen.Kernel4Ideal.Value

@[expose] public section

set_option maxRecDepth 16384

noncomputable section

namespace Cert.ProjOps

open Cert.Kernel4Ideal Cert.Kernel4Ideal.Gen Cert.Kernel4Ideal.Value Cert.AttnOps Cert.RowMath Cert.FfnTile
open Idealize.ShloMosaic hiding ix0 ix1 ix2 ix3 ix4 ix5 truncf_apply addf_apply mulf_apply
open Idealize.ShloMosaic.ValueIdx Idealize.ShloMosaic.TcCoe Idealize.SL.Sem

/-- A row times column `j` of the weights. -/
def colDot (x : Fin 1024 → EReal) (w : Fin 1024 → Fin 8192 → EReal) (j : Fin 8192) : EReal := ∑ k, x k * w k j

/-- Lane `j` of the width-three convolution over the rows before, at and after. -/
def convLane (p q n : Fin 1024 → EReal) (w : Fin 1024 → Fin 8192 → EReal) (cw : Fin 3 → Fin 3072 → EReal) (cb : Fin 3072 → EReal)
    (j : Fin 3072) : EReal :=
  colDot p w ⟨j.val, by omega⟩ * cw 0 j + colDot q w ⟨j.val, by omega⟩ * cw 1 j + colDot n w ⟨j.val, by omega⟩ * cw 2 j + cb j

/-- Lane `e` of a row of a thousand and twenty-four lanes, each block of a hundred and twenty-eight rotated with its partners
    sixteen lanes before and after. -/
def rotLane (z : Fin 1024 → EReal) (cos sa sb : Fin 128 → EReal) (e : Fin 1024) : EReal :=
  z e * cos ⟨e.val % 128, by omega⟩
    + z ⟨e.val / 128 * 128 + (e.val % 128 + 112) % 128, by omega⟩ * sa ⟨e.val % 128, by omega⟩
    + z ⟨e.val / 128 * 128 + (e.val % 128 + 16) % 128, by omega⟩ * sb ⟨e.val % 128, by omega⟩

/-- The seven lanes of the combined projection of a row: the convolution's gate, the product of its other two thirds, the rotated
    queries and keys, the values and the two gates' logistics. -/
def projRow (p q n : Fin 1024 → EReal) (w : Fin 1024 → Fin 8192 → EReal) (cw : Fin 3 → Fin 3072 → EReal) (cb : Fin 3072 → EReal)
    (cos sa sb : Fin 128 → EReal) (e : Fin 7168) : EReal :=
  if h1 : e.val < 1024 then convLane p q n w cw cb ⟨e.val, by omega⟩
  else if h2 : e.val < 2048 then convLane p q n w cw cb ⟨e.val, by omega⟩ * convLane p q n w cw cb ⟨e.val + 1024, by omega⟩
  else if h3 : e.val < 3072 then rotLane (fun d => colDot q w ⟨3072 + d.val, by omega⟩) cos sa sb ⟨e.val - 2048, by omega⟩
  else if h4 : e.val < 4096 then rotLane (fun d => colDot q w ⟨4096 + d.val, by omega⟩) cos sa sb ⟨e.val - 3072, by omega⟩
  else if h5 : e.val < 5120 then colDot q w ⟨e.val + 1024, by omega⟩
  else Ideal.logistic (colDot q w ⟨e.val + 1024, by omega⟩)

/-! ## The tile and its halo rows -/

/-- The kernel's normalised, scaled and shifted tile. -/
theorem pay3_apply (v0 : Vec Ideal S1x512x1024 .f32) (v2 v4 : Vec Ideal S1x1x1024 .f32) (v6 : Vec Ideal S1x1024 .f32) (r : Fin 512) (k : Fin 1024) :
    k0_pay3 v0 v2 v4 v6 (ix2 r k) = modRow (fun k => v0 (ix3 0 r k)) (fun k => v6 (ix2 0 k)) (fun k => v2 (ix3 0 0 k)) (fun k => v4 (ix3 0 0 k)) k := by
  unfold k0_pay3 modRow
  dsimp only
  rw [truncf_apply, addf_apply, mulf_apply, mulf_apply]
  refine congrArg₂ (fun p q : EReal => p + q) (congrArg₂ (fun p q : EReal => p * q) (congrArg₂ (fun p q : EReal => p * q)
    ((unitRow_apply _ _ _ _ _ _ r k).trans ?_) ?_) ?_) ?_
  · simp only [dropUnit_apply]
  · rw [bcastRow_apply, shapeCast_self]
  · rw [bcastRow_apply, addf_apply, dropUnit_apply]
    rfl
  · rw [bcastRow_apply, dropUnit_apply]

/-- The rows before the tile, scaled by whether there are any. -/
theorem pay7_apply (kp : EReal) (v : Vec Ideal S1x16x1024 .f32) (v2 v4 : Vec Ideal S1x1x1024 .f32) (v6 : Vec Ideal S1x1024 .f32) (r : Fin 16) (k : Fin 1024) :
    k0_pay7 (F := Ideal) kp (k0_pay6 v) v2 v4 v6 (ix2 r k)
      = modRow (fun k => v (ix3 0 r k)) (fun k => v6 (ix2 0 k)) (fun k => v2 (ix3 0 0 k)) (fun k => v4 (ix3 0 0 k)) k * kp := by
  unfold k0_pay7 modRow k0_pay6
  dsimp only
  rw [truncf_apply, mulf_apply, addf_apply, mulf_apply, mulf_apply]
  refine congrArg₂ (fun p q : EReal => p * q) (congrArg₂ (fun p q : EReal => p + q) (congrArg₂ (fun p q : EReal => p * q) (congrArg₂ (fun p q : EReal => p * q)
    ((unitRow_apply _ _ _ _ _ _ r k).trans ?_) ?_) ?_) ?_) rfl
  · simp only [dropUnit_apply]
  · rw [bcastRow_apply, shapeCast_self]
  · rw [bcastRow_apply, addf_apply, dropUnit_apply]
    rfl
  · rw [bcastRow_apply, dropUnit_apply]

/-- The tile with its halo rows, before and after. -/
def extTile (H : FVec Ideal S512x1024 .bf16) (kn : EReal) (P : FVec Ideal S16x1024 .bf16) (v : Vec Ideal S1x16x1024 .f32)
    (v2 v4 : Vec Ideal S1x1x1024 .f32) (v6 : Vec Ideal S1x1024 .f32) : FVec Ideal S544x1024 .bf16 :=
  k0_pay13 (F := Ideal) H kn P (k0_pay8 v) (k0_pay9 v2) (k0_pay10 v4) (k0_pay11 v6) (k0_pay12 v) (Scalar.ofBits .f32 0x44800000#32)

section Ext
variable (H : FVec Ideal S512x1024 .bf16) (kn : EReal) (P : FVec Ideal S16x1024 .bf16) (v : Vec Ideal S1x16x1024 .f32)
  (v2 v4 : Vec Ideal S1x1x1024 .f32) (v6 : Vec Ideal S1x1024 .f32)

theorem ext_before (r : Fin 544) (k : Fin 1024) (i : Fin 16) (hi : i.val = r.val) : extTile H kn P v v2 v4 v6 (ix2 r k) = P (ix2 i k) := by
  unfold extTile k0_pay13
  refine concatenate_apply_piece (t := S544x1024) 0 _ _ _ 0 (by show _ < 3; omega) S16x1024 _ rfl rfl 0 rfl (ix2 i k) (fun b hb => ?_) ?_
  · match b with
    | ⟨0, _⟩ => exact absurd rfl hb
    | ⟨1, _⟩ => rfl
  · show 0 + i.val = r.val
    omega

theorem ext_at (r : Fin 544) (k : Fin 1024) (i : Fin 512) (hi : 16 + i.val = r.val) : extTile H kn P v v2 v4 v6 (ix2 r k) = H (ix2 i k) := by
  unfold extTile k0_pay13
  refine concatenate_apply_piece (t := S544x1024) 0 _ _ _ 1 (by show _ < 3; omega) S512x1024 _ rfl rfl 16 rfl (ix2 i k) (fun b hb => ?_) (by show 16 + i.val = r.val; exact hi)
  match b with
  | ⟨0, _⟩ => exact absurd rfl hb
  | ⟨1, _⟩ => rfl

theorem ext_after (r : Fin 544) (k : Fin 1024) (i : Fin 16) (hi : 528 + i.val = r.val) :
    extTile H kn P v v2 v4 v6 (ix2 r k)
      = modRow (fun k => v (ix3 0 i k)) (fun k => v6 (ix2 0 k)) (fun k => v2 (ix3 0 0 k)) (fun k => v4 (ix3 0 0 k)) k * kn := by
  unfold extTile k0_pay13
  refine (concatenate_apply_piece (t := S544x1024) 0 _ _ _ 2 (by show _ < 3; omega) S16x1024 _ rfl rfl 528 rfl (ix2 i k) (fun b hb => ?_) (by show 528 + i.val = r.val; exact hi)).trans ?_
  · match b with
    | ⟨0, _⟩ => exact absurd rfl hb
    | ⟨1, _⟩ => rfl
  unfold modRow k0_pay8 k0_pay9 k0_pay10 k0_pay11 k0_pay12
  dsimp only
  rw [truncf_apply, mulf_apply, addf_apply, mulf_apply, mulf_apply]
  refine congrArg₂ (fun p q : EReal => p * q) (congrArg₂ (fun p q : EReal => p + q) (congrArg₂ (fun p q : EReal => p * q) (congrArg₂ (fun p q : EReal => p * q)
    ((unitRow_apply _ _ _ _ _ _ i k).trans ?_) ?_) ?_) ?_) rfl
  · simp only [dropUnit_apply]
  · rw [bcastRow_apply, shapeCast_self]
  · rw [bcastRow_apply, addf_apply, dropUnit_apply]
    rfl
  · rw [bcastRow_apply, dropUnit_apply]

end Ext

/-! ## The convolution -/

/-- The tile with its halo rows times a chunk of columns. -/
def extDot (X : FVec Ideal S544x1024 .bf16) (w : Vec Ideal S1024x256 .bf16) : FVec Ideal S544x256 .f32 :=
  matmul (φ₂ := .bf16) dot_S544x1024_S1024x256_S544x256_1_0_0_1_n_n none X (shapeCast S1024x256 w shapeCasts_S1024x256_S1024x256) (constant S544x256 .f32 0x00000000#32)

theorem extDot_apply (X : FVec Ideal S544x1024 .bf16) (w : Vec Ideal S1024x256 .bf16) (r : Fin 544) (j : Fin 256) :
    extDot X w (ix2 r j) = (∑ k, X (ix2 r k) * w (ix2 k j) : EReal) := by
  unfold extDot
  rw [shapeCast_self]
  exact matmul_zero _ rfl none _ _ r j

/-- The kernel's convolution of a product over its rows, without the bias. -/
def convTile (z : FVec Ideal S544x256 .f32) (cw : FVec Ideal S3x256 .f32) : FVec Ideal S512x256 .f32 :=
  extractStridedSlice S512x256 ![16, 0]
    (addf (addf
      (mulf (dynamicRotate 0 1#32 none z rotates_S544x256_d0)
        (broadcastTo S544x256 (extractStridedSlice S1x256 ![0, 0] cw slices_S3x256_o0_0_S1x256) broadcasts_S1x256_S544x256))
      (mulf z (broadcastTo S544x256 (extractStridedSlice S1x256 ![1, 0] cw slices_S3x256_o1_0_S1x256) broadcasts_S1x256_S544x256)))
      (mulf (dynamicRotate 0 543#32 none z rotates_S544x256_d0)
        (broadcastTo S544x256 (extractStridedSlice S1x256 ![2, 0] cw slices_S3x256_o2_0_S1x256) broadcasts_S1x256_S544x256)))
    slices_S544x256_o16_0_S512x256

theorem convTile_apply (z : FVec Ideal S544x256 .f32) (cw : FVec Ideal S3x256 .f32) (r : Fin 512) (j : Fin 256) :
    convTile z cw (ix2 r j) = (z (ix2 (⟨r.val + 15, by omega⟩ : Fin 544) j) * cw (ix2 0 j) + z (ix2 (⟨r.val + 16, by omega⟩ : Fin 544) j) * cw (ix2 1 j)
      + z (ix2 (⟨r.val + 17, by omega⟩ : Fin 544) j) * cw (ix2 2 j) : EReal) := by
  have hw : ∀ (i : Fin 3) (h), extractStridedSlice S1x256 ![i.val, 0] cw h (ix2 0 j) = cw (ix2 i j) := fun i h =>
    extractStridedSlice_apply _ _ _ _ _ fun a => by
      match a with
      | ⟨0, _⟩ => rfl
      | ⟨1, _⟩ => show j.val = 0 + j.val; omega
  unfold convTile
  refine (extractStridedSlice_apply _ _ _ _ (ix2 (⟨r.val + 16, by omega⟩ : Fin 544) j) fun a => ?_).trans ?_
  · match a with
    | ⟨0, _⟩ => show r.val + 16 = 16 + r.val; omega
    | ⟨1, _⟩ => show j.val = 0 + j.val; omega
  rw [addf_apply, addf_apply, mulf_apply, mulf_apply, mulf_apply, bcastRow_apply, bcastRow_apply, bcastRow_apply]
  refine congrArg₂ (fun p q : EReal => p + q) (congrArg₂ (fun p q : EReal => p + q)
    (congrArg₂ (fun p q : EReal => p * q) ?_ (hw 0 _)) (congrArg₂ (fun p q : EReal => p * q) rfl (hw 1 _)))
    (congrArg₂ (fun p q : EReal => p * q) ?_ (hw 2 _))
  · refine dynamicRotate_apply 0 1#32 z rotates_S544x256_d0 _ _ fun b => ?_
    match b with
    | ⟨0, _⟩ => show r.val + 15 = (r.val + 16 + 544 - 1 % 544) % 544; omega
    | ⟨1, _⟩ => rfl
  · refine dynamicRotate_apply 0 543#32 z rotates_S544x256_d0 _ _ fun b => ?_
    match b with
    | ⟨0, _⟩ => show r.val + 17 = (r.val + 16 + 544 - 543 % 544) % 544; omega
    | ⟨1, _⟩ => rfl

/-- The convolution with its bias. -/
def convBias (z : FVec Ideal S544x256 .f32) (cw : Vec Ideal S3x256 .f32) (cb : Vec Ideal S1x256 .f32) : FVec Ideal S512x256 .f32 :=
  addf (convTile z (shapeCast S3x256 cw shapeCasts_S3x256_S3x256))
    (broadcastTo S512x256 (shapeCast S1x256 cb shapeCasts_S1x256_S1x256) broadcasts_S1x256_S512x256)

theorem convBias_apply (z : FVec Ideal S544x256 .f32) (cw : Vec Ideal S3x256 .f32) (cb : Vec Ideal S1x256 .f32) (r : Fin 512) (j : Fin 256) :
    convBias z cw cb (ix2 r j) = (z (ix2 (⟨r.val + 15, by omega⟩ : Fin 544) j) * cw (ix2 0 j) + z (ix2 (⟨r.val + 16, by omega⟩ : Fin 544) j) * cw (ix2 1 j)
      + z (ix2 (⟨r.val + 17, by omega⟩ : Fin 544) j) * cw (ix2 2 j) + cb (ix2 0 j) : EReal) := by
  unfold convBias
  rw [addf_apply, bcastRow_apply, shapeCast_self, shapeCast_self, convTile_apply]

/-! ## The rotation -/

/-- A block of lanes rotated with its partners. -/
def rotBlock (z : FVec Ideal S512x1024 .f32) (c sa sb : FVec Ideal S512x128 .f32) (o : ℕ) (h : S512x1024.Slices ![0, o] S512x128) : FVec Ideal S512x128 .f32 :=
  addf (addf (mulf (extractStridedSlice S512x128 ![0, o] z h) c)
    (mulf (dynamicRotate 1 16#32 none (extractStridedSlice S512x128 ![0, o] z h) rotates_S512x128_d1) sa))
    (mulf (dynamicRotate 1 112#32 none (extractStridedSlice S512x128 ![0, o] z h) rotates_S512x128_d1) sb)

theorem rotBlock_apply (z : FVec Ideal S512x1024 .f32) (c sa sb : FVec Ideal S512x128 .f32) (n : Fin 8) (o : ℕ) (ho : o = n.val * 128) (h) (r : Fin 512) (d : Fin 128) :
    rotBlock z c sa sb o h (ix2 r d) = rotLane (fun d => z (ix2 r d)) (fun d => c (ix2 r d)) (fun d => sa (ix2 r d)) (fun d => sb (ix2 r d))
      ⟨n.val * 128 + d.val, by omega⟩ := by
  have hz : ∀ (d' : Fin 128) (d'' : Fin 1024), d''.val = n.val * 128 + d'.val → extractStridedSlice S512x128 ![0, o] z h (ix2 r d') = z (ix2 r d'') :=
    fun d' d'' hd => extractStridedSlice_apply _ _ _ _ _ fun a => by
      match a with
      | ⟨0, _⟩ => show r.val = 0 + r.val; omega
      | ⟨1, _⟩ => show d''.val = o + d'.val; omega
  have e1 : (n.val * 128 + d.val) % 128 = d.val := by omega
  have e2 : (n.val * 128 + d.val) / 128 = n.val := by omega
  unfold rotBlock rotLane
  rw [addf_apply, addf_apply, mulf_apply, mulf_apply, mulf_apply]
  have hd : (⟨(n.val * 128 + d.val) % 128, by omega⟩ : Fin 128) = d := Fin.ext e1
  simp only [hd]
  refine congrArg₂ (fun p q : EReal => p + q) (congrArg₂ (fun p q : EReal => p + q)
    (congrArg₂ (fun p q : EReal => p * q) (hz _ _ rfl) rfl) (congrArg₂ (fun p q : EReal => p * q) ?_ rfl)) (congrArg₂ (fun p q : EReal => p * q) ?_ rfl)
  · refine (dynamicRotate_apply 1 16#32 _ rotates_S512x128_d1 _ (ix2 r (⟨(d.val + 112) % 128, by omega⟩ : Fin 128)) fun b => ?_).trans (hz _ _ ?_)
    · match b with
      | ⟨0, _⟩ => rfl
      | ⟨1, _⟩ => show (d.val + 112) % 128 = (d.val + 128 - 16 % 128) % 128; omega
    · show (n.val * 128 + d.val) / 128 * 128 + ((n.val * 128 + d.val) % 128 + 112) % 128 = n.val * 128 + (d.val + 112) % 128
      rw [e1, e2]
  · refine (dynamicRotate_apply 1 112#32 _ rotates_S512x128_d1 _ (ix2 r (⟨(d.val + 16) % 128, by omega⟩ : Fin 128)) fun b => ?_).trans (hz _ _ ?_)
    · match b with
      | ⟨0, _⟩ => rfl
      | ⟨1, _⟩ => show (d.val + 16) % 128 = (d.val + 128 - 112 % 128) % 128; omega
    · show (n.val * 128 + d.val) / 128 * 128 + ((n.val * 128 + d.val) % 128 + 16) % 128 = n.val * 128 + (d.val + 16) % 128
      rw [e1, e2]

/-- The eight blocks rotated, side by side. -/
def rotTile (z : FVec Ideal S512x1024 .f32) (c sa sb : FVec Ideal S512x128 .f32) : FVec Ideal S512x1024 .f32 :=
  concatenate S512x1024 1 [⟨S512x128, rotBlock z c sa sb 0 slices_S512x1024_o0_0_S512x128⟩, ⟨S512x128, rotBlock z c sa sb 128 slices_S512x1024_o0_128_S512x128⟩,
    ⟨S512x128, rotBlock z c sa sb 256 slices_S512x1024_o0_256_S512x128⟩, ⟨S512x128, rotBlock z c sa sb 384 slices_S512x1024_o0_384_S512x128⟩,
    ⟨S512x128, rotBlock z c sa sb 512 slices_S512x1024_o0_512_S512x128⟩, ⟨S512x128, rotBlock z c sa sb 640 slices_S512x1024_o0_640_S512x128⟩,
    ⟨S512x128, rotBlock z c sa sb 768 slices_S512x1024_o0_768_S512x128⟩, ⟨S512x128, rotBlock z c sa sb 896 slices_S512x1024_o0_896_S512x128⟩]
    concatenates_S512x128_S512x128_S512x128_S512x128_S512x128_S512x128_S512x128_S512x128_S512x1024_d1

theorem slices_block (n : Fin 8) : S512x1024.Slices ![0, n.val * 128] S512x128 := by
  match n with
  | ⟨0, _⟩ => exact slices_S512x1024_o0_0_S512x128
  | ⟨1, _⟩ => exact slices_S512x1024_o0_128_S512x128
  | ⟨2, _⟩ => exact slices_S512x1024_o0_256_S512x128
  | ⟨3, _⟩ => exact slices_S512x1024_o0_384_S512x128
  | ⟨4, _⟩ => exact slices_S512x1024_o0_512_S512x128
  | ⟨5, _⟩ => exact slices_S512x1024_o0_640_S512x128
  | ⟨6, _⟩ => exact slices_S512x1024_o0_768_S512x128
  | ⟨7, _⟩ => exact slices_S512x1024_o0_896_S512x128

theorem rotTile_apply (z : FVec Ideal S512x1024 .f32) (c sa sb : FVec Ideal S512x128 .f32) (r : Fin 512) (e : Fin 1024) :
    rotTile z c sa sb (ix2 r e) = rotLane (fun d => z (ix2 r d)) (fun d => c (ix2 r d)) (fun d => sa (ix2 r d)) (fun d => sb (ix2 r d)) e := by
  have hn : e.val / 128 < 8 := by omega
  refine (concatenate_ofFn_apply (t := S512x1024) (s₁ := S512x128) 1 (N := 8) (fun n => rotBlock z c sa sb (n.val * 128) (slices_block n))
    concatenates_S512x128_S512x128_S512x128_S512x128_S512x128_S512x128_S512x128_S512x128_S512x1024_d1 rfl 128 rfl (ix2 r e) ⟨e.val / 128, hn⟩ rfl
    (ix2 r (⟨e.val % 128, by omega⟩ : Fin 128)) rfl (fun b hb => ?_)).trans ?_
  · match b with
    | ⟨0, _⟩ => rfl
    | ⟨1, _⟩ => exact absurd rfl hb
  · refine (rotBlock_apply z c sa sb ⟨e.val / 128, hn⟩ _ rfl _ r _).trans (congrArg _ (Fin.ext ?_))
    show e.val / 128 * 128 + e.val % 128 = e.val
    omega

end Cert.ProjOps

end
-- ==== Proof.ProjTile.lean ====
/- What the projection kernel's body leaves in its output block: piece by piece, and so row by row, the combined projection of the row
   with the rows before and after it. -/
module

public import proofs.«01_k».proof.Proof.ProjOps

@[expose] public section

set_option maxRecDepth 16384

noncomputable section

namespace Cert.ProjTile

open Cert.Kernel4Ideal Cert.Kernel4Ideal.Gen Cert.Kernel4Ideal.Value Cert.AttnOps Cert.RowMath Cert.FfnTile Cert.ProjOps
open Idealize.ShloMosaic hiding ix0 ix1 ix2 ix3 ix4 ix5 truncf_apply addf_apply mulf_apply
open Idealize.ShloMosaic.ValueIdx Idealize.ShloMosaic.TcCoe Idealize.SL.Sem Idealize.ShloMosaic.Tactic

/-- The tile times a slice of columns. -/
def plainDot (H : FVec Ideal S512x1024 .bf16) (w : Vec Ideal S1024x1024 .bf16) : FVec Ideal S512x1024 .f32 :=
  matmul (φ₂ := .bf16) dot_S512x1024_S1024x1024_S512x1024_1_0_0_1_n_n none H (shapeCast S1024x1024 w shapeCasts_S1024x1024_S1024x1024)
    (constant S512x1024 .f32 0x00000000#32)

theorem plainDot_apply (H : FVec Ideal S512x1024 .bf16) (w : Vec Ideal S1024x1024 .bf16) (r : Fin 512) (j : Fin 1024) :
    plainDot H w (ix2 r j) = (∑ k, H (ix2 r k) * w (ix2 k j) : EReal) := by
  unfold plainDot
  rw [shapeCast_self]
  exact matmul_zero _ rfl none _ _ r j

/-- The stored gate chunk. -/
def gateTile (X : FVec Ideal S544x1024 .bf16) (w : Vec Ideal S1024x256 .bf16) (cw : Vec Ideal S3x256 .f32) (cb : Vec Ideal S1x256 .f32) :
    FVec Ideal S1x512x256 .bf16 :=
  shapeCast S1x512x256 (truncf .bf16 (convBias (extDot X w) cw cb) bitsLt_bf16_f32) shapeCasts_S512x256_S1x512x256

/-- The stored product chunk. -/
def prodTile (X : FVec Ideal S544x1024 .bf16) (w w' : Vec Ideal S1024x256 .bf16) (cw : Vec Ideal S3x256 .f32) (cb : Vec Ideal S1x256 .f32)
    (cw' : Vec Ideal S3x256 .f32) (cb' : Vec Ideal S1x256 .f32) : FVec Ideal S1x512x256 .bf16 :=
  shapeCast S1x512x256 (truncf .bf16 (mulf (convBias (extDot X w) cw cb) (convBias (extDot X w') cw' cb')) bitsLt_bf16_f32) shapeCasts_S512x256_S1x512x256

/-- The stored rotated slice. -/
def rotOut (H : FVec Ideal S512x1024 .bf16) (w : Vec Ideal S1024x1024 .bf16) (c sa sb : Vec Ideal S512x128 .f32) : FVec Ideal S1x512x1024 .bf16 :=
  shapeCast S1x512x1024 (truncf .bf16 (rotTile (plainDot H w) (shapeCast S512x128 c shapeCasts_S512x128_S512x128)
    (shapeCast S512x128 sa shapeCasts_S512x128_S512x128) (shapeCast S512x128 sb shapeCasts_S512x128_S512x128)) bitsLt_bf16_f32) shapeCasts_S512x1024_S1x512x1024

/-- The stored slice of values. -/
def valTile (H : FVec Ideal S512x1024 .bf16) (w : Vec Ideal S1024x1024 .bf16) : FVec Ideal S1x512x1024 .bf16 :=
  shapeCast S1x512x1024 (truncf .bf16 (plainDot H w) bitsLt_bf16_f32) shapeCasts_S512x1024_S1x512x1024

/-- The stored slice of a gate's logistics. -/
def sigTile (H : FVec Ideal S512x1024 .bf16) (w : Vec Ideal S1024x1024 .bf16) : FVec Ideal S1x512x1024 .bf16 :=
  shapeCast S1x512x1024 (truncf .bf16 (logistic (plainDot H w)) bitsLt_bf16_f32) shapeCasts_S512x1024_S1x512x1024

section Pieces
variable (W : Fin 1024 → Fin 8192 → EReal) (CW : Fin 3 → Fin 3072 → EReal) (CB : Fin 3072 → EReal)

theorem conv_piece (X : FVec Ideal S544x1024 .bf16) (w : Vec Ideal S1024x256 .bf16) (cw : Vec Ideal S3x256 .f32) (cb : Vec Ideal S1x256 .f32)
    (o : ℕ) (ho : o + 256 ≤ 3072) (hw : ∀ k (j : Fin 256), w (ix2 k j) = W k ⟨o + j.val, by omega⟩)
    (hcw : ∀ i (j : Fin 256), cw (ix2 i j) = CW i ⟨o + j.val, by omega⟩) (hcb : ∀ j : Fin 256, cb (ix2 0 j) = CB ⟨o + j.val, by omega⟩)
    (r : Fin 512) (j : Fin 256) :
    convBias (extDot X w) cw cb (ix2 r j) = convLane (fun k => X (ix2 (⟨r.val + 15, by omega⟩ : Fin 544) k))
      (fun k => X (ix2 (⟨r.val + 16, by omega⟩ : Fin 544) k)) (fun k => X (ix2 (⟨r.val + 17, by omega⟩ : Fin 544) k)) W CW CB ⟨o + j.val, by omega⟩ := by
  rw [convBias_apply, extDot_apply, extDot_apply, extDot_apply]
  unfold convLane colDot
  simp only [hw, hcw, hcb]

theorem plain_piece (H : FVec Ideal S512x1024 .bf16) (w : Vec Ideal S1024x1024 .bf16) (o : ℕ) (ho : o + 1024 ≤ 8192)
    (hw : ∀ k (j : Fin 1024), w (ix2 k j) = W k ⟨o + j.val, by omega⟩) (r : Fin 512) (q : Fin 1024 → EReal) (hq : ∀ k, H (ix2 r k) = q k) (j : Fin 1024) :
    plainDot H w (ix2 r j) = colDot q W ⟨o + j.val, by omega⟩ := by
  rw [plainDot_apply]
  unfold colDot
  simp only [hw, hq]

end Pieces

/-- A piece of the output block given entry by entry. -/
theorem piece3 {n : ℕ} (o : ℕ) (ho : o + n ≤ 7168) (h) (T : (⟨3, ![1, 512, n]⟩ : Shape).Idx → EReal) (G : Fin 512 → Fin 7168 → EReal)
    (hT : ∀ (r : Fin 512) (j : Fin n), T (ix3 0 r j) = G r ⟨o + j.val, by omega⟩) (x : (⟨3, ![1, 512, n]⟩ : Shape).Idx) :
    T x = (fun y : S1x512x7168.Idx => G (y 1) (y 2)) ((Rect.unit (s := S1x512x7168) ![0, 0, o] ![1, 512, n] h).emb x) := by
  have hx0 : (x 0).val < 1 := (x 0).isLt
  have hx1 : (x 1).val < 512 := (x 1).isLt
  have hx2 : (x 2).val < n := (x 2).isLt
  have hx : x = ix3 0 (⟨(x 1).val, hx1⟩ : Fin 512) (⟨(x 2).val, hx2⟩ : Fin n) := funext fun a => Fin.ext (by
    match a with
    | ⟨0, _⟩ => show (x 0).val = 0; omega
    | ⟨1, _⟩ => rfl
    | ⟨2, _⟩ => rfl)
  refine (congrArg T hx).trans ((hT _ _).trans (congrArg₂ G (Fin.ext ?_) (Fin.ext ?_)))
  · show (x 1).val = 0 + 1 * (x 1).val
    omega
  · show o + (x 2).val = o + 1 * (x 2).val
    omega

/-- A read of a rectangle of a two-axis buffer, entry by entry. -/
theorem read2 {A B a b : ℕ} {e : EltTy} (arg : Memref sig .tc .vmem ⟨2, ![A, B]⟩ e) (harg : arg.IsWhole) (x : Vec Ideal ⟨2, ![A, B]⟩ e) (o₁ o₂ : ℕ) (h)
    (r : Fin a) (j : Fin b) (r' : Fin A) (j' : Fin B) (h₁ : r'.val = o₁ + r.val) (h₂ : j'.val = o₂ + j.val) :
    View.readAt (Elt Ideal) arg.view (Rect.unit (s := ⟨2, ![A, B]⟩) ![o₁, o₂] ![a, b] h).toLoadRect (harg.unread x) (ix2 r j) = x (ix2 r' j') := by
  rw [View.readAt_eq_ld, harg.read_unread]
  exact View.ld_unit_apply_of x _ _ h _ _ fun d => by
    match d with
    | ⟨0, _⟩ => exact h₁
    | ⟨1, _⟩ => exact h₂

/-- A read of a rectangle of a three-axis buffer with one leading entry, entry by entry. -/
theorem read3 {A B a b : ℕ} {e : EltTy} (arg : Memref sig .tc .vmem ⟨3, ![1, A, B]⟩ e) (harg : arg.IsWhole) (x : Vec Ideal ⟨3, ![1, A, B]⟩ e) (o₁ o₂ : ℕ) (h)
    (r : Fin a) (j : Fin b) (r' : Fin A) (j' : Fin B) (h₁ : r'.val = o₁ + r.val) (h₂ : j'.val = o₂ + j.val) :
    View.readAt (Elt Ideal) arg.view (Rect.unit (s := ⟨3, ![1, A, B]⟩) ![0, o₁, o₂] ![1, a, b] h).toLoadRect (harg.unread x) (ix3 0 r j) = x (ix3 0 r' j') := by
  rw [View.readAt_eq_ld, harg.read_unread]
  exact View.ld_unit_apply_of x _ _ h _ _ fun d => by
    match d with
    | ⟨0, _⟩ => rfl
    | ⟨1, _⟩ => exact h₁
    | ⟨2, _⟩ => exact h₂

/-- The row `r` of the tile with its halo rows: the last row before, the tile's own, the first row after, each normalised, scaled and
    shifted, the halo rows scaled by whether there are any. -/
def rowAt (kp kn : EReal) (x0 : Vec Ideal S1x512x1024 .f32) (x1 : Vec Ideal S1x9x1024 .f32) (x2 : Vec Ideal S6x1024 .f32) (x4 x5 : Vec Ideal S1x16x1024 .f32)
    (r : ℕ) (k : Fin 1024) : EReal :=
  if h : r < 16 then modRow (fun k => x4 (ix3 0 (⟨r, h⟩ : Fin 16) k)) (fun k => x2 (ix2 2 k)) (fun k => x1 (ix3 0 3 k)) (fun k => x1 (ix3 0 4 k)) k * kp
  else if h' : r < 528 then modRow (fun k => x0 (ix3 0 (⟨r - 16, by omega⟩ : Fin 512) k)) (fun k => x2 (ix2 2 k)) (fun k => x1 (ix3 0 3 k)) (fun k => x1 (ix3 0 4 k)) k
  else modRow (fun k => x5 (ix3 0 (⟨(r - 528) % 16, by omega⟩ : Fin 16) k)) (fun k => x2 (ix2 2 k)) (fun k => x1 (ix3 0 3 k)) (fun k => x1 (ix3 0 4 k)) k * kn

/-- What the body leaves in row `r`, lane `e` of the output block. -/
def blockAt (kp kn : EReal) (x0 : Vec Ideal S1x512x1024 .f32) (x1 : Vec Ideal S1x9x1024 .f32) (x2 : Vec Ideal S6x1024 .f32) (x3 : Vec Ideal S1024x8192 .bf16)
    (x4 x5 : Vec Ideal S1x16x1024 .f32) (x6 : Vec Ideal S3x3072 .f32) (x7 : Vec Ideal S1x3072 .f32) (x8 x9 x10 : Vec Ideal S512x128 .f32)
    (r : Fin 512) (e : Fin 7168) : EReal :=
  projRow (rowAt kp kn x0 x1 x2 x4 x5 (r.val + 15)) (rowAt kp kn x0 x1 x2 x4 x5 (r.val + 16)) (rowAt kp kn x0 x1 x2 x4 x5 (r.val + 17))
    (fun k j => x3 (ix2 k j)) (fun i j => x6 (ix2 i j)) (fun j => x7 (ix2 0 j)) (fun d => x8 (ix2 r d)) (fun d => x9 (ix2 r d)) (fun d => x10 (ix2 r d)) e

set_option maxHeartbeats 4000000 in
/-- What the run leaves in the output block. -/
theorem out_eq (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S6x1024 .f32) (harg4 : arg4.IsWhole) (arg5 : Memref sig .tc .vmem S1024x8192 .bf16) (harg5 : arg5.IsWhole) (arg6 : Memref sig .tc .vmem S1x16x1024 .f32) (harg6 : arg6.IsWhole) (arg7 : Memref sig .tc .vmem S1x16x1024 .f32) (harg7 : arg7.IsWhole) (arg8 : Memref sig .tc .vmem S3x3072 .f32) (harg8 : arg8.IsWhole) (arg9 : Memref sig .tc .vmem S1x3072 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S1x512x7168 .bf16) (harg13 : arg13.IsWhole)
    (x0 : Vec Ideal S1x512x1024 .f32) (x1 : Vec Ideal S1x9x1024 .f32) (x2 : Vec Ideal S6x1024 .f32) (x3 : Vec Ideal S1024x8192 .bf16) (x4 : Vec Ideal S1x16x1024 .f32) (x5 : Vec Ideal S1x16x1024 .f32) (x6 : Vec Ideal S3x3072 .f32) (x7 : Vec Ideal S1x3072 .f32) (x8 : Vec Ideal S512x128 .f32) (x9 : Vec Ideal S512x128 .f32) (x10 : Vec Ideal S512x128 .f32) :
    out0_A_11 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10
      = fun y : S1x512x7168.Idx => blockAt (k0_pay4 (F := Ideal) i) (k0_pay5 (F := Ideal) i) x0 x1 x2 x3 x4 x5 x6 x7 x8 x9 x10 (y 1) (y 2) := by
  unfold out0_A_11
  have hc := cover0_A_11 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10
  rw [View.read_writes_eq_canon _ _ _ hc]
  funext y
  refine View.canon_apply_of_pieces (fun y : S1x512x7168.Idx => (blockAt (k0_pay4 (F := Ideal) i) (k0_pay5 (F := Ideal) i) x0 x1 x2 x3 x4 x5 x6 x7 x8 x9 x10 (y 1) (y 2) : EReal))
    _ (fun p hp x => ?_) y (hc y)
  have m1 : ∀ (n : Fin 9) (h) (k : Fin 1024), View.readAt (Elt Ideal) arg3.view (Rect.unit (s := S1x9x1024) ![0, n.val, 0] ![1, 1, 1024] h).toLoadRect (harg3.unread x1) (ix3 0 0 k)
      = x1 (ix3 0 n k) := fun n h k => read3 arg3 harg3 x1 _ _ h 0 k n k rfl (Nat.zero_add _).symm
  have m2 : ∀ (h) (k : Fin 1024), View.readAt (Elt Ideal) arg4.view (Rect.unit (s := S6x1024) ![2, 0] ![1, 1024] h).toLoadRect (harg4.unread x2) (ix2 0 k)
      = x2 (ix2 2 k) := fun h k => read2 arg4 harg4 x2 _ _ h 0 k 2 k rfl (Nat.zero_add _).symm
  have hH : ∀ (r : Fin 512) (k : Fin 1024), kernelRun0_A.sl.r (F := Ideal) c arg2 harg2 arg3 harg3 arg4 harg4 x0 x1 x2 (ix2 r k) = rowAt (k0_pay4 (F := Ideal) i) (k0_pay5 (F := Ideal) i) x0 x1 x2 x4 x5 (r.val + 16) k := fun r k => by
    sl_unfold_words
    rw [ProjOps.pay3_apply]
    unfold rowAt
    rw [dif_neg (by omega), dif_pos (by omega)]
    congr 1
    · funext k
      exact read3 arg2 harg2 x0 _ _ _ r k _ k (by show r.val + 16 - 16 = 0 + r.val; omega) (Nat.zero_add _).symm
    · exact funext fun k => m2 _ k
    · exact funext fun k => m1 3 _ k
    · exact funext fun k => m1 4 _ k
  have hX : ∀ (r : ℕ) (hr : r < 544) (k : Fin 1024), kernelRun0_A.sl.r_8 (F := Ideal) c i arg2 harg2 arg3 harg3 arg4 harg4 arg6 harg6 arg7 harg7 x0 x1 x2 x4 x5 (ix2 (⟨r, hr⟩ : Fin 544) k)
      = rowAt (k0_pay4 (F := Ideal) i) (k0_pay5 (F := Ideal) i) x0 x1 x2 x4 x5 r k := fun r hr k => by
    by_cases h1 : r < 16
    · refine (ext_before _ _ _ _ _ _ _ _ k (⟨r, h1⟩ : Fin 16) rfl).trans ?_
      refine (pay7_apply _ _ _ _ _ _ k).trans ?_
      unfold rowAt
      rw [dif_pos h1]
      congr 2
      · funext k
        exact read3 arg6 harg6 x4 _ _ _ _ k _ k (Nat.zero_add _).symm (Nat.zero_add _).symm
      · exact funext fun k => m2 _ k
      · exact funext fun k => m1 3 _ k
      · exact funext fun k => m1 4 _ k
    by_cases h2 : r < 528
    · refine (ext_at _ _ _ _ _ _ _ _ k (⟨r - 16, by omega⟩ : Fin 512) (by show 16 + (r - 16) = r; omega)).trans ?_
      refine (hH _ k).trans (congrArg (fun r => rowAt (k0_pay4 (F := Ideal) i) (k0_pay5 (F := Ideal) i) x0 x1 x2 x4 x5 r k) (by show r - 16 + 16 = r; omega))
    · refine (ext_after _ _ _ _ _ _ _ _ k (⟨(r - 528) % 16, by omega⟩ : Fin 16) (by show 528 + (r - 528) % 16 = r; omega)).trans ?_
      unfold rowAt
      rw [dif_neg h1, dif_neg h2]
      congr 2
      · funext k
        exact read3 arg7 harg7 x5 _ _ _ _ k _ k (Nat.zero_add _).symm (Nat.zero_add _).symm
      · exact funext fun k => m2 _ k
      · exact funext fun k => m1 3 _ k
      · exact funext fun k => m1 4 _ k
  have hconv : ∀ (o : ℕ) (ho : o + 256 ≤ 3072) (h5) (h8) (h9) (r : Fin 512) (j : Fin 256),
      convBias (extDot (kernelRun0_A.sl.r_8 (F := Ideal) c i arg2 harg2 arg3 harg3 arg4 harg4 arg6 harg6 arg7 harg7 x0 x1 x2 x4 x5)
        (View.readAt (Elt Ideal) arg5.view (Rect.unit (s := S1024x8192) ![0, o] ![1024, 256] h5).toLoadRect (harg5.unread x3)))
        (View.readAt (Elt Ideal) arg8.view (Rect.unit (s := S3x3072) ![0, o] ![3, 256] h8).toLoadRect (harg8.unread x6))
        (View.readAt (Elt Ideal) arg9.view (Rect.unit (s := S1x3072) ![0, o] ![1, 256] h9).toLoadRect (harg9.unread x7)) (ix2 r j)
      = convLane (rowAt (k0_pay4 (F := Ideal) i) (k0_pay5 (F := Ideal) i) x0 x1 x2 x4 x5 (r.val + 15)) (rowAt (k0_pay4 (F := Ideal) i) (k0_pay5 (F := Ideal) i) x0 x1 x2 x4 x5 (r.val + 16))
          (rowAt (k0_pay4 (F := Ideal) i) (k0_pay5 (F := Ideal) i) x0 x1 x2 x4 x5 (r.val + 17)) (fun k j => x3 (ix2 k j)) (fun i j => x6 (ix2 i j)) (fun j => x7 (ix2 0 j)) ⟨o + j.val, by omega⟩ :=
    fun o ho h5 h8 h9 r j => by
      refine (conv_piece (fun k j => x3 (ix2 k j)) (fun i j => x6 (ix2 i j)) (fun j => x7 (ix2 0 j)) _ _ _ _ o ho
        (fun k j => read2 arg5 harg5 x3 _ _ _ k j k _ (Nat.zero_add _).symm rfl)
        (fun n j => read2 arg8 harg8 x6 _ _ _ n j n _ (Nat.zero_add _).symm rfl) (fun j => read2 arg9 harg9 x7 _ _ _ 0 j 0 _ rfl rfl) r j).trans ?_
      congr 1 <;> exact funext fun k => hX _ _ k
  have hplain : ∀ (o : ℕ) (ho : o + 1024 ≤ 8192) (h5) (r : Fin 512) (j : Fin 1024),
      plainDot (kernelRun0_A.sl.r (F := Ideal) c arg2 harg2 arg3 harg3 arg4 harg4 x0 x1 x2)
        (View.readAt (Elt Ideal) arg5.view (Rect.unit (s := S1024x8192) ![0, o] ![1024, 1024] h5).toLoadRect (harg5.unread x3)) (ix2 r j)
      = colDot (rowAt (k0_pay4 (F := Ideal) i) (k0_pay5 (F := Ideal) i) x0 x1 x2 x4 x5 (r.val + 16)) (fun k j => x3 (ix2 k j)) ⟨o + j.val, by omega⟩ := fun o ho h5 r j =>
    plain_piece (fun k j => x3 (ix2 k j)) _ _ o ho (fun k j => read2 arg5 harg5 x3 _ _ _ k j k _ (Nat.zero_add _).symm rfl) r _ (fun k => hH r k) j
  have hrot : ∀ (o : ℕ) (ho : o + 1024 ≤ 8192) (h5) (h8) (h9) (h10) (r : Fin 512) (j : Fin 1024),
      rotOut (kernelRun0_A.sl.r (F := Ideal) c arg2 harg2 arg3 harg3 arg4 harg4 x0 x1 x2)
        (View.readAt (Elt Ideal) arg5.view (Rect.unit (s := S1024x8192) ![0, o] ![1024, 1024] h5).toLoadRect (harg5.unread x3))
        (View.readAt (Elt Ideal) arg10.view (Rect.unit (s := S512x128) ![0, 0] ![512, 128] h8).toLoadRect (harg10.unread x8))
        (View.readAt (Elt Ideal) arg11.view (Rect.unit (s := S512x128) ![0, 0] ![512, 128] h9).toLoadRect (harg11.unread x9))
        (View.readAt (Elt Ideal) arg12.view (Rect.unit (s := S512x128) ![0, 0] ![512, 128] h10).toLoadRect (harg12.unread x10)) (ix3 0 r j)
      = rotLane (fun d => colDot (rowAt (k0_pay4 (F := Ideal) i) (k0_pay5 (F := Ideal) i) x0 x1 x2 x4 x5 (r.val + 16)) (fun k j => x3 (ix2 k j)) ⟨o + d.val, by omega⟩)
          (fun d => x8 (ix2 r d)) (fun d => x9 (ix2 r d)) (fun d => x10 (ix2 r d)) j := fun o ho h5 h8 h9 h10 r j => by
    unfold rotOut
    rw [addUnit_apply, truncf_apply, rotTile_apply, shapeCast_self, shapeCast_self, shapeCast_self]
    congr 1
    · exact funext fun d => hplain o ho _ r d
    · exact funext fun d => read2 arg10 harg10 x8 _ _ _ r d r d (Nat.zero_add _).symm (Nat.zero_add _).symm
    · exact funext fun d => read2 arg11 harg11 x9 _ _ _ r d r d (Nat.zero_add _).symm (Nat.zero_add _).symm
    · exact funext fun d => read2 arg12 harg12 x10 _ _ _ r d r d (Nat.zero_add _).symm (Nat.zero_add _).symm
  unfold kernelRun0_A at hp
  dsimp only at hp
  simp only [List.mem_cons, List.not_mem_nil, or_false] at hp
  rcases hp with rfl | rfl | rfl | rfl | rfl | rfl | rfl | rfl | rfl | rfl | rfl | rfl | rfl
  · refine piece3 6144 (by omega) inb_S1x512x7168_S1x512x1024_0_0_6144 (sigTile (kernelRun0_A.sl.r (F := Ideal) c arg2 harg2 arg3 harg3 arg4 harg4 x0 x1 x2) (View.readAt (Elt Ideal) arg5.view (Rect.unit (s := S1024x8192) ![0, 7168] ![1024, 1024] inb_S1024x8192_S1024x1024_0_7168).toLoadRect (harg5.unread x3)))
      (blockAt (k0_pay4 (F := Ideal) i) (k0_pay5 (F := Ideal) i) x0 x1 x2 x3 x4 x5 x6 x7 x8 x9 x10) (fun r j => ?_) x
    unfold sigTile blockAt projRow
    rw [addUnit_apply, truncf_apply, dif_neg (show ¬ 6144 + j.val < 1024 by omega), dif_neg (show ¬ 6144 + j.val < 2048 by omega), dif_neg (show ¬ 6144 + j.val < 3072 by omega), dif_neg (show ¬ 6144 + j.val < 4096 by omega), dif_neg (show ¬ 6144 + j.val < 5120 by omega)]
    refine congrArg Ideal.logistic ((hplain 7168 (by omega) _ r j).trans (congrArg _ (Fin.ext ?_)))
    show 7168 + j.val = 6144 + j.val + 1024
    omega
  · refine piece3 5120 (by omega) inb_S1x512x7168_S1x512x1024_0_0_5120 (sigTile (kernelRun0_A.sl.r (F := Ideal) c arg2 harg2 arg3 harg3 arg4 harg4 x0 x1 x2) (View.readAt (Elt Ideal) arg5.view (Rect.unit (s := S1024x8192) ![0, 6144] ![1024, 1024] inb_S1024x8192_S1024x1024_0_6144).toLoadRect (harg5.unread x3)))
      (blockAt (k0_pay4 (F := Ideal) i) (k0_pay5 (F := Ideal) i) x0 x1 x2 x3 x4 x5 x6 x7 x8 x9 x10) (fun r j => ?_) x
    unfold sigTile blockAt projRow
    rw [addUnit_apply, truncf_apply, dif_neg (show ¬ 5120 + j.val < 1024 by omega), dif_neg (show ¬ 5120 + j.val < 2048 by omega), dif_neg (show ¬ 5120 + j.val < 3072 by omega), dif_neg (show ¬ 5120 + j.val < 4096 by omega), dif_neg (show ¬ 5120 + j.val < 5120 by omega)]
    refine congrArg Ideal.logistic ((hplain 6144 (by omega) _ r j).trans (congrArg _ (Fin.ext ?_)))
    show 6144 + j.val = 5120 + j.val + 1024
    omega
  · refine piece3 1792 (by omega) inb_S1x512x7168_S1x512x256_0_0_1792 (prodTile (kernelRun0_A.sl.r_8 (F := Ideal) c i arg2 harg2 arg3 harg3 arg4 harg4 arg6 harg6 arg7 harg7 x0 x1 x2 x4 x5) (View.readAt (Elt Ideal) arg5.view (Rect.unit (s := S1024x8192) ![0, 1792] ![1024, 256] inb_S1024x8192_S1024x256_0_1792).toLoadRect (harg5.unread x3)) (View.readAt (Elt Ideal) arg5.view (Rect.unit (s := S1024x8192) ![0, 2816] ![1024, 256] inb_S1024x8192_S1024x256_0_2816).toLoadRect (harg5.unread x3)) (View.readAt (Elt Ideal) arg8.view (Rect.unit (s := S3x3072) ![0, 1792] ![3, 256] inb_S3x3072_S3x256_0_1792).toLoadRect (harg8.unread x6)) (View.readAt (Elt Ideal) arg9.view (Rect.unit (s := S1x3072) ![0, 1792] ![1, 256] inb_S1x3072_S1x256_0_1792).toLoadRect (harg9.unread x7)) (View.readAt (Elt Ideal) arg8.view (Rect.unit (s := S3x3072) ![0, 2816] ![3, 256] inb_S3x3072_S3x256_0_2816).toLoadRect (harg8.unread x6)) (View.readAt (Elt Ideal) arg9.view (Rect.unit (s := S1x3072) ![0, 2816] ![1, 256] inb_S1x3072_S1x256_0_2816).toLoadRect (harg9.unread x7)))
      (blockAt (k0_pay4 (F := Ideal) i) (k0_pay5 (F := Ideal) i) x0 x1 x2 x3 x4 x5 x6 x7 x8 x9 x10) (fun r j => ?_) x
    unfold prodTile blockAt projRow
    rw [addUnit_apply, truncf_apply, mulf_apply, dif_neg (show ¬ 1792 + j.val < 1024 by omega), dif_pos (show 1792 + j.val < 2048 by omega)]
    refine congrArg₂ (fun p q : EReal => p * q) (hconv 1792 (by omega) _ _ _ r j) ((hconv 2816 (by omega) _ _ _ r j).trans (congrArg _ (Fin.ext ?_)))
    show 2816 + j.val = 1792 + j.val + 1024
    omega
  · refine piece3 768 (by omega) inb_S1x512x7168_S1x512x256_0_0_768 (gateTile (kernelRun0_A.sl.r_8 (F := Ideal) c i arg2 harg2 arg3 harg3 arg4 harg4 arg6 harg6 arg7 harg7 x0 x1 x2 x4 x5) (View.readAt (Elt Ideal) arg5.view (Rect.unit (s := S1024x8192) ![0, 768] ![1024, 256] inb_S1024x8192_S1024x256_0_768).toLoadRect (harg5.unread x3)) (View.readAt (Elt Ideal) arg8.view (Rect.unit (s := S3x3072) ![0, 768] ![3, 256] inb_S3x3072_S3x256_0_768).toLoadRect (harg8.unread x6)) (View.readAt (Elt Ideal) arg9.view (Rect.unit (s := S1x3072) ![0, 768] ![1, 256] inb_S1x3072_S1x256_0_768).toLoadRect (harg9.unread x7)))
      (blockAt (k0_pay4 (F := Ideal) i) (k0_pay5 (F := Ideal) i) x0 x1 x2 x3 x4 x5 x6 x7 x8 x9 x10) (fun r j => ?_) x
    unfold gateTile blockAt projRow
    rw [addUnit_apply, truncf_apply, dif_pos (show 768 + j.val < 1024 by omega)]
    exact hconv 768 (by omega) _ _ _ r j
  · refine piece3 4096 (by omega) inb_S1x512x7168_S1x512x1024_0_0_4096 (valTile (kernelRun0_A.sl.r (F := Ideal) c arg2 harg2 arg3 harg3 arg4 harg4 x0 x1 x2) (View.readAt (Elt Ideal) arg5.view (Rect.unit (s := S1024x8192) ![0, 5120] ![1024, 1024] inb_S1024x8192_S1024x1024_0_5120).toLoadRect (harg5.unread x3)))
      (blockAt (k0_pay4 (F := Ideal) i) (k0_pay5 (F := Ideal) i) x0 x1 x2 x3 x4 x5 x6 x7 x8 x9 x10) (fun r j => ?_) x
    unfold valTile blockAt projRow
    rw [addUnit_apply, truncf_apply, dif_neg (show ¬ 4096 + j.val < 1024 by omega), dif_neg (show ¬ 4096 + j.val < 2048 by omega), dif_neg (show ¬ 4096 + j.val < 3072 by omega), dif_neg (show ¬ 4096 + j.val < 4096 by omega), dif_pos (show 4096 + j.val < 5120 by omega)]
    refine (hplain 5120 (by omega) _ r j).trans (congrArg _ (Fin.ext ?_))
    show 5120 + j.val = 4096 + j.val + 1024
    omega
  · refine piece3 1536 (by omega) inb_S1x512x7168_S1x512x256_0_0_1536 (prodTile (kernelRun0_A.sl.r_8 (F := Ideal) c i arg2 harg2 arg3 harg3 arg4 harg4 arg6 harg6 arg7 harg7 x0 x1 x2 x4 x5) (View.readAt (Elt Ideal) arg5.view (Rect.unit (s := S1024x8192) ![0, 1536] ![1024, 256] inb_S1024x8192_S1024x256_0_1536).toLoadRect (harg5.unread x3)) (View.readAt (Elt Ideal) arg5.view (Rect.unit (s := S1024x8192) ![0, 2560] ![1024, 256] inb_S1024x8192_S1024x256_0_2560).toLoadRect (harg5.unread x3)) (View.readAt (Elt Ideal) arg8.view (Rect.unit (s := S3x3072) ![0, 1536] ![3, 256] inb_S3x3072_S3x256_0_1536).toLoadRect (harg8.unread x6)) (View.readAt (Elt Ideal) arg9.view (Rect.unit (s := S1x3072) ![0, 1536] ![1, 256] inb_S1x3072_S1x256_0_1536).toLoadRect (harg9.unread x7)) (View.readAt (Elt Ideal) arg8.view (Rect.unit (s := S3x3072) ![0, 2560] ![3, 256] inb_S3x3072_S3x256_0_2560).toLoadRect (harg8.unread x6)) (View.readAt (Elt Ideal) arg9.view (Rect.unit (s := S1x3072) ![0, 2560] ![1, 256] inb_S1x3072_S1x256_0_2560).toLoadRect (harg9.unread x7)))
      (blockAt (k0_pay4 (F := Ideal) i) (k0_pay5 (F := Ideal) i) x0 x1 x2 x3 x4 x5 x6 x7 x8 x9 x10) (fun r j => ?_) x
    unfold prodTile blockAt projRow
    rw [addUnit_apply, truncf_apply, mulf_apply, dif_neg (show ¬ 1536 + j.val < 1024 by omega), dif_pos (show 1536 + j.val < 2048 by omega)]
    refine congrArg₂ (fun p q : EReal => p * q) (hconv 1536 (by omega) _ _ _ r j) ((hconv 2560 (by omega) _ _ _ r j).trans (congrArg _ (Fin.ext ?_)))
    show 2560 + j.val = 1536 + j.val + 1024
    omega
  · refine piece3 512 (by omega) inb_S1x512x7168_S1x512x256_0_0_512 (gateTile (kernelRun0_A.sl.r_8 (F := Ideal) c i arg2 harg2 arg3 harg3 arg4 harg4 arg6 harg6 arg7 harg7 x0 x1 x2 x4 x5) (View.readAt (Elt Ideal) arg5.view (Rect.unit (s := S1024x8192) ![0, 512] ![1024, 256] inb_S1024x8192_S1024x256_0_512).toLoadRect (harg5.unread x3)) (View.readAt (Elt Ideal) arg8.view (Rect.unit (s := S3x3072) ![0, 512] ![3, 256] inb_S3x3072_S3x256_0_512).toLoadRect (harg8.unread x6)) (View.readAt (Elt Ideal) arg9.view (Rect.unit (s := S1x3072) ![0, 512] ![1, 256] inb_S1x3072_S1x256_0_512).toLoadRect (harg9.unread x7)))
      (blockAt (k0_pay4 (F := Ideal) i) (k0_pay5 (F := Ideal) i) x0 x1 x2 x3 x4 x5 x6 x7 x8 x9 x10) (fun r j => ?_) x
    unfold gateTile blockAt projRow
    rw [addUnit_apply, truncf_apply, dif_pos (show 512 + j.val < 1024 by omega)]
    exact hconv 512 (by omega) _ _ _ r j
  · refine piece3 3072 (by omega) inb_S1x512x7168_S1x512x1024_0_0_3072 (rotOut (kernelRun0_A.sl.r (F := Ideal) c arg2 harg2 arg3 harg3 arg4 harg4 x0 x1 x2) (View.readAt (Elt Ideal) arg5.view (Rect.unit (s := S1024x8192) ![0, 4096] ![1024, 1024] inb_S1024x8192_S1024x1024_0_4096).toLoadRect (harg5.unread x3)) (View.readAt (Elt Ideal) arg10.view (Rect.unit (s := S512x128) ![0, 0] ![512, 128] inb_S512x128_S512x128_0_0).toLoadRect (harg10.unread x8)) (View.readAt (Elt Ideal) arg11.view (Rect.unit (s := S512x128) ![0, 0] ![512, 128] inb_S512x128_S512x128_0_0).toLoadRect (harg11.unread x9)) (View.readAt (Elt Ideal) arg12.view (Rect.unit (s := S512x128) ![0, 0] ![512, 128] inb_S512x128_S512x128_0_0).toLoadRect (harg12.unread x10)))
      (blockAt (k0_pay4 (F := Ideal) i) (k0_pay5 (F := Ideal) i) x0 x1 x2 x3 x4 x5 x6 x7 x8 x9 x10) (fun r j => ?_) x
    unfold blockAt projRow
    rw [dif_neg (show ¬ 3072 + j.val < 1024 by omega), dif_neg (show ¬ 3072 + j.val < 2048 by omega), dif_neg (show ¬ 3072 + j.val < 3072 by omega), dif_pos (show 3072 + j.val < 4096 by omega)]
    refine (hrot 4096 (by omega) _ _ _ _ r j).trans (congrArg _ (Fin.ext ?_))
    show j.val = 3072 + j.val - 3072
    omega
  · refine piece3 1280 (by omega) inb_S1x512x7168_S1x512x256_0_0_1280 (prodTile (kernelRun0_A.sl.r_8 (F := Ideal) c i arg2 harg2 arg3 harg3 arg4 harg4 arg6 harg6 arg7 harg7 x0 x1 x2 x4 x5) (View.readAt (Elt Ideal) arg5.view (Rect.unit (s := S1024x8192) ![0, 1280] ![1024, 256] inb_S1024x8192_S1024x256_0_1280).toLoadRect (harg5.unread x3)) (View.readAt (Elt Ideal) arg5.view (Rect.unit (s := S1024x8192) ![0, 2304] ![1024, 256] inb_S1024x8192_S1024x256_0_2304).toLoadRect (harg5.unread x3)) (View.readAt (Elt Ideal) arg8.view (Rect.unit (s := S3x3072) ![0, 1280] ![3, 256] inb_S3x3072_S3x256_0_1280).toLoadRect (harg8.unread x6)) (View.readAt (Elt Ideal) arg9.view (Rect.unit (s := S1x3072) ![0, 1280] ![1, 256] inb_S1x3072_S1x256_0_1280).toLoadRect (harg9.unread x7)) (View.readAt (Elt Ideal) arg8.view (Rect.unit (s := S3x3072) ![0, 2304] ![3, 256] inb_S3x3072_S3x256_0_2304).toLoadRect (harg8.unread x6)) (View.readAt (Elt Ideal) arg9.view (Rect.unit (s := S1x3072) ![0, 2304] ![1, 256] inb_S1x3072_S1x256_0_2304).toLoadRect (harg9.unread x7)))
      (blockAt (k0_pay4 (F := Ideal) i) (k0_pay5 (F := Ideal) i) x0 x1 x2 x3 x4 x5 x6 x7 x8 x9 x10) (fun r j => ?_) x
    unfold prodTile blockAt projRow
    rw [addUnit_apply, truncf_apply, mulf_apply, dif_neg (show ¬ 1280 + j.val < 1024 by omega), dif_pos (show 1280 + j.val < 2048 by omega)]
    refine congrArg₂ (fun p q : EReal => p * q) (hconv 1280 (by omega) _ _ _ r j) ((hconv 2304 (by omega) _ _ _ r j).trans (congrArg _ (Fin.ext ?_)))
    show 2304 + j.val = 1280 + j.val + 1024
    omega
  · refine piece3 256 (by omega) inb_S1x512x7168_S1x512x256_0_0_256 (gateTile (kernelRun0_A.sl.r_8 (F := Ideal) c i arg2 harg2 arg3 harg3 arg4 harg4 arg6 harg6 arg7 harg7 x0 x1 x2 x4 x5) (View.readAt (Elt Ideal) arg5.view (Rect.unit (s := S1024x8192) ![0, 256] ![1024, 256] inb_S1024x8192_S1024x256_0_256).toLoadRect (harg5.unread x3)) (View.readAt (Elt Ideal) arg8.view (Rect.unit (s := S3x3072) ![0, 256] ![3, 256] inb_S3x3072_S3x256_0_256).toLoadRect (harg8.unread x6)) (View.readAt (Elt Ideal) arg9.view (Rect.unit (s := S1x3072) ![0, 256] ![1, 256] inb_S1x3072_S1x256_0_256).toLoadRect (harg9.unread x7)))
      (blockAt (k0_pay4 (F := Ideal) i) (k0_pay5 (F := Ideal) i) x0 x1 x2 x3 x4 x5 x6 x7 x8 x9 x10) (fun r j => ?_) x
    unfold gateTile blockAt projRow
    rw [addUnit_apply, truncf_apply, dif_pos (show 256 + j.val < 1024 by omega)]
    exact hconv 256 (by omega) _ _ _ r j
  · refine piece3 2048 (by omega) inb_S1x512x7168_S1x512x1024_0_0_2048 (rotOut (kernelRun0_A.sl.r (F := Ideal) c arg2 harg2 arg3 harg3 arg4 harg4 x0 x1 x2) (View.readAt (Elt Ideal) arg5.view (Rect.unit (s := S1024x8192) ![0, 3072] ![1024, 1024] inb_S1024x8192_S1024x1024_0_3072).toLoadRect (harg5.unread x3)) (View.readAt (Elt Ideal) arg10.view (Rect.unit (s := S512x128) ![0, 0] ![512, 128] inb_S512x128_S512x128_0_0).toLoadRect (harg10.unread x8)) (View.readAt (Elt Ideal) arg11.view (Rect.unit (s := S512x128) ![0, 0] ![512, 128] inb_S512x128_S512x128_0_0).toLoadRect (harg11.unread x9)) (View.readAt (Elt Ideal) arg12.view (Rect.unit (s := S512x128) ![0, 0] ![512, 128] inb_S512x128_S512x128_0_0).toLoadRect (harg12.unread x10)))
      (blockAt (k0_pay4 (F := Ideal) i) (k0_pay5 (F := Ideal) i) x0 x1 x2 x3 x4 x5 x6 x7 x8 x9 x10) (fun r j => ?_) x
    unfold blockAt projRow
    rw [dif_neg (show ¬ 2048 + j.val < 1024 by omega), dif_neg (show ¬ 2048 + j.val < 2048 by omega), dif_pos (show 2048 + j.val < 3072 by omega)]
    refine (hrot 3072 (by omega) _ _ _ _ r j).trans (congrArg _ (Fin.ext ?_))
    show j.val = 2048 + j.val - 2048
    omega
  · refine piece3 1024 (by omega) inb_S1x512x7168_S1x512x256_0_0_1024 (prodTile (kernelRun0_A.sl.r_8 (F := Ideal) c i arg2 harg2 arg3 harg3 arg4 harg4 arg6 harg6 arg7 harg7 x0 x1 x2 x4 x5) (View.readAt (Elt Ideal) arg5.view (Rect.unit (s := S1024x8192) ![0, 1024] ![1024, 256] inb_S1024x8192_S1024x256_0_1024).toLoadRect (harg5.unread x3)) (View.readAt (Elt Ideal) arg5.view (Rect.unit (s := S1024x8192) ![0, 2048] ![1024, 256] inb_S1024x8192_S1024x256_0_2048).toLoadRect (harg5.unread x3)) (View.readAt (Elt Ideal) arg8.view (Rect.unit (s := S3x3072) ![0, 1024] ![3, 256] inb_S3x3072_S3x256_0_1024).toLoadRect (harg8.unread x6)) (View.readAt (Elt Ideal) arg9.view (Rect.unit (s := S1x3072) ![0, 1024] ![1, 256] inb_S1x3072_S1x256_0_1024).toLoadRect (harg9.unread x7)) (View.readAt (Elt Ideal) arg8.view (Rect.unit (s := S3x3072) ![0, 2048] ![3, 256] inb_S3x3072_S3x256_0_2048).toLoadRect (harg8.unread x6)) (View.readAt (Elt Ideal) arg9.view (Rect.unit (s := S1x3072) ![0, 2048] ![1, 256] inb_S1x3072_S1x256_0_2048).toLoadRect (harg9.unread x7)))
      (blockAt (k0_pay4 (F := Ideal) i) (k0_pay5 (F := Ideal) i) x0 x1 x2 x3 x4 x5 x6 x7 x8 x9 x10) (fun r j => ?_) x
    unfold prodTile blockAt projRow
    rw [addUnit_apply, truncf_apply, mulf_apply, dif_neg (show ¬ 1024 + j.val < 1024 by omega), dif_pos (show 1024 + j.val < 2048 by omega)]
    refine congrArg₂ (fun p q : EReal => p * q) (hconv 1024 (by omega) _ _ _ r j) ((hconv 2048 (by omega) _ _ _ r j).trans (congrArg _ (Fin.ext ?_)))
    show 2048 + j.val = 1024 + j.val + 1024
    omega
  · refine piece3 0 (by omega) inb_S1x512x7168_S1x512x256_0_0_0 (gateTile (kernelRun0_A.sl.r_8 (F := Ideal) c i arg2 harg2 arg3 harg3 arg4 harg4 arg6 harg6 arg7 harg7 x0 x1 x2 x4 x5) (View.readAt (Elt Ideal) arg5.view (Rect.unit (s := S1024x8192) ![0, 0] ![1024, 256] inb_S1024x8192_S1024x256_0_0).toLoadRect (harg5.unread x3)) (View.readAt (Elt Ideal) arg8.view (Rect.unit (s := S3x3072) ![0, 0] ![3, 256] inb_S3x3072_S3x256_0_0).toLoadRect (harg8.unread x6)) (View.readAt (Elt Ideal) arg9.view (Rect.unit (s := S1x3072) ![0, 0] ![1, 256] inb_S1x3072_S1x256_0_0).toLoadRect (harg9.unread x7)))
      (blockAt (k0_pay4 (F := Ideal) i) (k0_pay5 (F := Ideal) i) x0 x1 x2 x3 x4 x5 x6 x7 x8 x9 x10) (fun r j => ?_) x
    unfold gateTile blockAt projRow
    rw [addUnit_apply, truncf_apply, dif_pos (show 0 + j.val < 1024 by omega)]
    exact hconv 0 (by omega) _ _ _ r j

end Cert.ProjTile

end
-- ==== Proof.ProjTables.lean ====
/- The projection's rotary tables as the kernel is handed them, lane by lane, and the projection's value index by index. -/
module

public import proofs.«01_k».proof.Proof.ProjTile
public import proofs.«01_k».proof.Proof.Gen.Kernel4Ideal.Value
public import Idealize.ShloMosaic.Lib.Pipeline.ValueKit

@[expose] public section

set_option maxRecDepth 16384

noncomputable section

namespace Cert.ProjTables

open Cert.Kernel4Ideal Cert.Kernel4Ideal.Gen Cert.Kernel4Ideal.Value Cert.RowMath Cert.FfnTile Cert.ProjOps
open Idealize.ShloMosaic hiding ix0 ix1 ix2 ix3 ix4 ix5
open Idealize.ShloMosaic.ValueIdx Idealize.ShloMosaic.TcCoe Idealize.SL.Sem

/-- The table at position `l` that lane `d` of a head uses: lanes go by map, axis, half and frequency. -/
def tabLane (t : (⟨3, ![4096, 2, 16]⟩ : Shape).Idx → EReal) (l : Fin 4096) (d : Fin 128) : EReal :=
  t (ix3 l ⟨d.val % 64 / 32, by omega⟩ ⟨d.val % 16, by omega⟩)

/-- What multiplies the lane sixteen before: the table on the second halves, nothing on the first. -/
def afterLane (t : (⟨3, ![4096, 2, 16]⟩ : Shape).Idx → EReal) (l : Fin 4096) (d : Fin 128) : EReal :=
  if d.val / 16 % 2 = 0 then 0 else tabLane t l d

/-- What multiplies the lane sixteen after: the negated table on the first halves, nothing on the second. -/
def beforeLane (t : (⟨3, ![4096, 2, 16]⟩ : Shape).Idx → EReal) (l : Fin 4096) (d : Fin 128) : EReal :=
  if d.val / 16 % 2 = 0 then -tabLane t l d else 0

/-- The modulated row of the stream at batch element `b` and position `l`. -/
def rowOf (s : (⟨3, ![8, 4096, 1024]⟩ : Shape).Idx → EReal) (md : (⟨3, ![16, 9, 1024]⟩ : Shape).Idx → EReal)
    (g : (⟨3, ![1, 6, 1024]⟩ : Shape).Idx → EReal) (b : Fin 8) (l : Fin 4096) : Fin 1024 → EReal :=
  modRow (fun k => s (ix3 b l k)) (fun k => g (ix3 0 2 k)) (fun k => md (ix3 ⟨b.val, by omega⟩ 3 k)) (fun k => md (ix3 ⟨b.val, by omega⟩ 4 k))

/-- The row before position `l`, zero before the first. -/
def rowBefore (s : (⟨3, ![8, 4096, 1024]⟩ : Shape).Idx → EReal) (md : (⟨3, ![16, 9, 1024]⟩ : Shape).Idx → EReal)
    (g : (⟨3, ![1, 6, 1024]⟩ : Shape).Idx → EReal) (b : Fin 8) (l : Fin 4096) (k : Fin 1024) : EReal :=
  if l.val = 0 then 0 else rowOf s md g b ⟨l.val - 1, by omega⟩ k

/-- The row after position `l`, zero after the last. -/
def rowAfter (s : (⟨3, ![8, 4096, 1024]⟩ : Shape).Idx → EReal) (md : (⟨3, ![16, 9, 1024]⟩ : Shape).Idx → EReal)
    (g : (⟨3, ![1, 6, 1024]⟩ : Shape).Idx → EReal) (b : Fin 8) (l : Fin 4096) (k : Fin 1024) : EReal :=
  if h : l.val = 4095 then 0 else rowOf s md g b ⟨l.val + 1, by omega⟩ k

/-- The projection of the stream at batch element `b`, position `l` and lane `e`. -/
def projAt (s : (⟨3, ![8, 4096, 1024]⟩ : Shape).Idx → EReal) (md : (⟨3, ![16, 9, 1024]⟩ : Shape).Idx → EReal)
    (g : (⟨3, ![1, 6, 1024]⟩ : Shape).Idx → EReal) (w : (⟨3, ![1, 1024, 8192]⟩ : Shape).Idx → EReal)
    (cw : (⟨3, ![1, 3, 3072]⟩ : Shape).Idx → EReal) (cb : (⟨2, ![1, 3072]⟩ : Shape).Idx → EReal)
    (cos sin : (⟨3, ![4096, 2, 16]⟩ : Shape).Idx → EReal) (b : Fin 8) (l : Fin 4096) (e : Fin 7168) : EReal :=
  projRow (rowBefore s md g b l) (rowOf s md g b l) (rowAfter s md g b l) (fun k j => w (ix3 0 k j)) (fun i j => cw (ix3 0 i j))
    (fun j => cb (ix2 0 j)) (tabLane cos l) (afterLane sin l) (beforeLane sin l) e

/-- One axis of a table. -/
def axisTab (t : Vec Ideal S4096x2x16 .f32) (a : Fin 2) (h : S4096x2x16.Slices ![0, a.val, 0] S4096x1x16) : Vec Ideal S4096x16 .f32 :=
  shapeCast S4096x16 (extractStridedSlice S4096x1x16 ![0, a.val, 0] t h) shapeCasts_S4096x1x16_S4096x16

theorem axisTab_apply (t : Vec Ideal S4096x2x16 .f32) (a : Fin 2) (h) (l : Fin 4096) (f : Fin 16) : axisTab t a h (ix2 l f) = t (ix3 l a f) := by
  refine (shapeCast_apply _ _ _ (ix3 l 0 f) (by
    rw [Shape.rowMajor_val_three, Shape.rowMajor_val_two]; show (l.val * 1 + 0) * 16 + f.val = l.val * 16 + f.val; omega)).trans ?_
  refine extractStridedSlice_apply _ _ _ _ _ fun b => ?_
  match b with
  | ⟨0, _⟩ => show l.val = 0 + l.val; omega
  | ⟨1, _⟩ => show a.val = a.val + 0; omega
  | ⟨2, _⟩ => show f.val = 0 + f.val; omega

/-- Four pieces of sixteen lanes side by side, twice. -/
def laneTab (p : Fin 4 → Vec Ideal S4096x16 .f32) : Vec Ideal S4096x128 .f32 :=
  shapeCast S4096x128 (broadcastInDim S1x4096x2x64 ![0, 1, 2, 3] bcast_S1x4096x1x64_S1x4096x2x64_0_1_2_3
    (shapeCast S1x4096x1x64 (concatenate S4096x64 1 [⟨S4096x16, p 0⟩, ⟨S4096x16, p 1⟩, ⟨S4096x16, p 2⟩, ⟨S4096x16, p 3⟩]
      concatenates_S4096x16_S4096x16_S4096x16_S4096x16_S4096x64_d1) shapeCasts_S4096x64_S1x4096x1x64)) shapeCasts_S1x4096x2x64_S4096x128

theorem laneTab_apply (p : Fin 4 → Vec Ideal S4096x16 .f32) (l : Fin 4096) (d : Fin 128) :
    laneTab p (ix2 l d) = p ⟨d.val % 64 / 16, by omega⟩ (ix2 l ⟨d.val % 16, by omega⟩) := by
  unfold laneTab
  refine (shapeCast_apply _ _ _ (ix4 0 l ⟨d.val / 64, by omega⟩ ⟨d.val % 64, by omega⟩) (by
    rw [Shape.rowMajor_val_four, Shape.rowMajor_val_two]
    show ((0 * 4096 + l.val) * 2 + d.val / 64) * 64 + d.val % 64 = l.val * 128 + d.val; omega)).trans ?_
  refine (broadcastInDim_apply _ _ _ _ (ix4 0 l 0 ⟨d.val % 64, by omega⟩) fun a => ?_).trans ?_
  · match a with
    | ⟨0, _⟩ => rfl
    | ⟨1, _⟩ => rfl
    | ⟨2, _⟩ => rfl
    | ⟨3, _⟩ => rfl
  refine (shapeCast_apply _ _ _ (ix2 l ⟨d.val % 64, by omega⟩) (by
    rw [Shape.rowMajor_val_four, Shape.rowMajor_val_two]
    show l.val * 64 + d.val % 64 = ((0 * 4096 + l.val) * 1 + 0) * 64 + d.val % 64; omega)).trans ?_
  refine concatenate_ofFn_apply (t := S4096x64) (s₁ := S4096x16) 1 (fun n : Fin 4 => p n) _ rfl 16 rfl _ ⟨d.val % 64 / 16, by omega⟩ rfl _ ?_ fun b hb => ?_
  · show d.val % 16 = d.val % 64 % 16; omega
  · match b with
    | ⟨0, _⟩ => rfl
    | ⟨1, _⟩ => exact absurd rfl hb

/-- The zero table. -/
def zeroTab : Vec Ideal S4096x16 .f32 := broadcastInDim S4096x16 ![] bcast_S_S4096x16 (constant (F := Ideal) S_ .f32 0x00000000#32)

theorem zeroTab_apply (i : S4096x16.Idx) : zeroTab i = (0 : EReal) := by
  show Ideal.ofBits .f32 0x00000000#32 = 0
  exact Cert.AttnOps.bits_zero

/-- A row through its two reshapes. -/
theorem biasRow (x : Vec Ideal S1x3072 .f32) (j : Fin 3072) :
    shapeCast S1x3072 (shapeCast S3072 x shapeCasts_S1x3072_S3072) shapeCasts_S3072_S1x3072 (ix2 0 j) = x (ix2 0 j) := by
  refine (shapeCast_apply _ _ _ (ix1 j) (by rw [Shape.rowMajor_val_two, Shape.rowMajor_val_one]; show j.val = 0 * 3072 + j.val; omega)).trans ?_
  exact shapeCast_apply _ _ _ _ (by rw [Shape.rowMajor_val_two, Shape.rowMajor_val_one]; show 0 * 3072 + j.val = j.val; omega)

variable (m : (ℓ : Loc nD τ sig) → Buf (Elt Ideal) ℓ) (c : Dev nD)

/-- The cosine lanes as the kernel is handed them. -/
theorem V_cos (l : Fin 4096) (d : Fin 128) : V m c main_v14 (ix2 l d) = tabLane (m (c, main_arg6)) l d := by
  have h : V m c main_v14 = laneTab ![axisTab (m (c, main_arg6)) 0 slices_S4096x2x16_S4096x1x16_0_0_0, axisTab (m (c, main_arg6)) 0 slices_S4096x2x16_S4096x1x16_0_0_0,
      axisTab (m (c, main_arg6)) 1 slices_S4096x2x16_S4096x1x16_0_1_0, axisTab (m (c, main_arg6)) 1 slices_S4096x2x16_S4096x1x16_0_1_0] := by
    show StableHlo.after hostOps0 _ _ = _
    simp only [StableHlo.after_cons, StableHlo.after_nil]
    rfl
  rw [h, laneTab_apply]
  unfold tabLane
  obtain h | h | h | h : d.val % 64 / 16 = 0 ∨ d.val % 64 / 16 = 1 ∨ d.val % 64 / 16 = 2 ∨ d.val % 64 / 16 = 3 := by omega
  · rw [show (⟨d.val % 64 / 16, by omega⟩ : Fin 4) = 0 from Fin.ext h, show (⟨d.val % 64 / 32, by omega⟩ : Fin 2) = 0 from Fin.ext (by show d.val % 64 / 32 = 0; omega)]
    exact axisTab_apply (m (c, main_arg6)) 0 slices_S4096x2x16_S4096x1x16_0_0_0 l _
  · rw [show (⟨d.val % 64 / 16, by omega⟩ : Fin 4) = 1 from Fin.ext h, show (⟨d.val % 64 / 32, by omega⟩ : Fin 2) = 0 from Fin.ext (by show d.val % 64 / 32 = 0; omega)]
    exact axisTab_apply (m (c, main_arg6)) 0 slices_S4096x2x16_S4096x1x16_0_0_0 l _
  · rw [show (⟨d.val % 64 / 16, by omega⟩ : Fin 4) = 2 from Fin.ext h, show (⟨d.val % 64 / 32, by omega⟩ : Fin 2) = 1 from Fin.ext (by show d.val % 64 / 32 = 1; omega)]
    exact axisTab_apply (m (c, main_arg6)) 1 slices_S4096x2x16_S4096x1x16_0_1_0 l _
  · rw [show (⟨d.val % 64 / 16, by omega⟩ : Fin 4) = 3 from Fin.ext h, show (⟨d.val % 64 / 32, by omega⟩ : Fin 2) = 1 from Fin.ext (by show d.val % 64 / 32 = 1; omega)]
    exact axisTab_apply (m (c, main_arg6)) 1 slices_S4096x2x16_S4096x1x16_0_1_0 l _

/-- The sine lanes of the second halves as the kernel is handed them. -/
theorem V_after (l : Fin 4096) (d : Fin 128) : V m c main_v18 (ix2 l d) = afterLane (m (c, main_arg7)) l d := by
  have h : V m c main_v18 = laneTab ![zeroTab, axisTab (m (c, main_arg7)) 0 slices_S4096x2x16_S4096x1x16_0_0_0,
      zeroTab, axisTab (m (c, main_arg7)) 1 slices_S4096x2x16_S4096x1x16_0_1_0] := by
    show StableHlo.after hostOps0 _ _ = _
    simp only [StableHlo.after_cons, StableHlo.after_nil]
    rfl
  rw [h, laneTab_apply]
  unfold afterLane tabLane
  obtain h | h | h | h : d.val % 64 / 16 = 0 ∨ d.val % 64 / 16 = 1 ∨ d.val % 64 / 16 = 2 ∨ d.val % 64 / 16 = 3 := by omega
  · rw [show (⟨d.val % 64 / 16, by omega⟩ : Fin 4) = 0 from Fin.ext h, if_pos (by omega)]
    exact zeroTab_apply (ix2 l ⟨d.val % 16, by omega⟩)
  · rw [show (⟨d.val % 64 / 16, by omega⟩ : Fin 4) = 1 from Fin.ext h, if_neg (by omega), show (⟨d.val % 64 / 32, by omega⟩ : Fin 2) = 0 from Fin.ext (by show d.val % 64 / 32 = 0; omega)]
    exact axisTab_apply (m (c, main_arg7)) 0 slices_S4096x2x16_S4096x1x16_0_0_0 l _
  · rw [show (⟨d.val % 64 / 16, by omega⟩ : Fin 4) = 2 from Fin.ext h, if_pos (by omega)]
    exact zeroTab_apply (ix2 l ⟨d.val % 16, by omega⟩)
  · rw [show (⟨d.val % 64 / 16, by omega⟩ : Fin 4) = 3 from Fin.ext h, if_neg (by omega), show (⟨d.val % 64 / 32, by omega⟩ : Fin 2) = 1 from Fin.ext (by show d.val % 64 / 32 = 1; omega)]
    exact axisTab_apply (m (c, main_arg7)) 1 slices_S4096x2x16_S4096x1x16_0_1_0 l _

/-- The negated sine lanes of the first halves as the kernel is handed them. -/
theorem V_before (l : Fin 4096) (d : Fin 128) : V m c main_v22 (ix2 l d) = beforeLane (m (c, main_arg7)) l d := by
  have h : V m c main_v22 = laneTab ![Host.negf (F := Ideal) (φ := .f32) (axisTab (m (c, main_arg7)) 0 slices_S4096x2x16_S4096x1x16_0_0_0), zeroTab,
      Host.negf (F := Ideal) (φ := .f32) (axisTab (m (c, main_arg7)) 1 slices_S4096x2x16_S4096x1x16_0_1_0), zeroTab] := by
    show StableHlo.after hostOps0 _ _ = _
    simp only [StableHlo.after_cons, StableHlo.after_nil]
    rfl
  rw [h, laneTab_apply]
  unfold beforeLane tabLane
  obtain h | h | h | h : d.val % 64 / 16 = 0 ∨ d.val % 64 / 16 = 1 ∨ d.val % 64 / 16 = 2 ∨ d.val % 64 / 16 = 3 := by omega
  · rw [show (⟨d.val % 64 / 16, by omega⟩ : Fin 4) = 0 from Fin.ext h, if_pos (by omega), show (⟨d.val % 64 / 32, by omega⟩ : Fin 2) = 0 from Fin.ext (by show d.val % 64 / 32 = 0; omega)]
    exact congrArg (fun z : EReal => -z) (axisTab_apply (m (c, main_arg7)) 0 slices_S4096x2x16_S4096x1x16_0_0_0 l _)
  · rw [show (⟨d.val % 64 / 16, by omega⟩ : Fin 4) = 1 from Fin.ext h, if_neg (by omega)]
    exact zeroTab_apply (ix2 l ⟨d.val % 16, by omega⟩)
  · rw [show (⟨d.val % 64 / 16, by omega⟩ : Fin 4) = 2 from Fin.ext h, if_pos (by omega), show (⟨d.val % 64 / 32, by omega⟩ : Fin 2) = 1 from Fin.ext (by show d.val % 64 / 32 = 1; omega)]
    exact congrArg (fun z : EReal => -z) (axisTab_apply (m (c, main_arg7)) 1 slices_S4096x2x16_S4096x1x16_0_1_0 l _)
  · rw [show (⟨d.val % 64 / 16, by omega⟩ : Fin 4) = 3 from Fin.ext h, if_neg (by omega)]
    exact zeroTab_apply (ix2 l ⟨d.val % 16, by omega⟩)

/-! ## The other operands -/

theorem V_g (i : Fin 6) (k : Fin 1024) : V m c main_v23 (ix2 i k) = m (c, main_arg2) (ix3 0 i k) := by
  have h : V m c main_v23 = shapeCast S6x1024 (m (c, main_arg2)) shapeCasts_S1x6x1024_S6x1024 := by
    show StableHlo.after hostOps0 _ _ = _
    simp only [StableHlo.after_cons, StableHlo.after_nil]
    rfl
  rw [h]
  exact Cert.AttnOps.dropUnit_apply _ _ _ _

theorem V_w (k : Fin 1024) (j : Fin 8192) : V m c main_v25 (ix2 k j) = m (c, main_arg3) (ix3 0 k j) := by
  have h : V m c main_v25 = shapeCast S1024x8192 (m (c, main_arg3)) shapeCasts_S1x1024x8192_S1024x8192 := by
    show StableHlo.after hostOps0 _ _ = _
    simp only [StableHlo.after_cons, StableHlo.after_nil]
    rfl
  rw [h]
  exact Cert.AttnOps.dropUnit_apply _ _ _ _

theorem V_cw (i : Fin 3) (j : Fin 3072) : V m c main_v26 (ix2 i j) = m (c, main_arg4) (ix3 0 i j) := by
  have h : V m c main_v26 = shapeCast S3x3072 (m (c, main_arg4)) shapeCasts_S1x3x3072_S3x3072 := by
    show StableHlo.after hostOps0 _ _ = _
    simp only [StableHlo.after_cons, StableHlo.after_nil]
    rfl
  rw [h]
  exact Cert.AttnOps.dropUnit_apply _ _ _ _

theorem V_cb (j : Fin 3072) : V m c main_v28 (ix2 0 j) = m (c, main_arg5) (ix2 0 j) := by
  have h : V m c main_v28 = shapeCast S1x3072 (shapeCast S3072 (m (c, main_arg5)) shapeCasts_S1x3072_S3072) shapeCasts_S3072_S1x3072 := by
    show StableHlo.after hostOps0 _ _ = _
    simp only [StableHlo.after_cons, StableHlo.after_nil]
    rfl
  rw [h]
  exact biasRow _ j

end Cert.ProjTables

end
-- ==== Proof.ProjKernel.lean ====
/- The projection kernel's result array, index by index. -/
module

public import proofs.«01_k».proof.Proof.ProjTables

@[expose] public section

set_option maxRecDepth 16384

noncomputable section

namespace Cert.ProjKernel

open Cert.Kernel4Ideal Cert.Kernel4Ideal.Gen Cert.Kernel4Ideal.Value Cert.RowMath Cert.FfnTile Cert.ProjOps Cert.ProjTile Cert.ProjTables
open Idealize.ShloMosaic hiding ix0 ix1 ix2 ix3 ix4 ix5
open Idealize.ShloMosaic.ValueIdx Idealize.ShloMosaic.TcCoe Idealize.SL.Sem
open Idealize.ShloMosaic.Pipeline (Dat)

variable (m : (ℓ : Loc nD τ sig) → Buf (Elt Ideal) ℓ) (c : Dev nD)

/-! ## The windows' blocks -/

theorem i0 : ∀ t : Fin cfg0.N, win0_0.index t = ![t.val / 8, t.val % 8, 0] :=
  (by decide +kernel : ∀ t : Fin grid0.N, win0_0.index t = ![t.val / 8, t.val % 8, 0])
theorem i1 : ∀ t : Fin cfg0.N, win0_1.index t = ![t.val / 8, 0, 0] :=
  (by decide +kernel : ∀ t : Fin grid0.N, win0_1.index t = ![t.val / 8, 0, 0])
theorem i2 : ∀ t : Fin cfg0.N, win0_2.index t = ![0, 0] :=
  (by decide +kernel : ∀ t : Fin grid0.N, win0_2.index t = ![0, 0])
theorem i3 : ∀ t : Fin cfg0.N, win0_3.index t = ![0, 0] :=
  (by decide +kernel : ∀ t : Fin grid0.N, win0_3.index t = ![0, 0])
theorem i4 : ∀ t : Fin cfg0.N, win0_4.index t = ![t.val / 8, 32 * (t.val % 8) - 1, 0] :=
  (by decide +kernel : ∀ t : Fin grid0.N, win0_4.index t = ![t.val / 8, 32 * (t.val % 8) - 1, 0])
theorem i5 : ∀ t : Fin cfg0.N, win0_5.index t = ![t.val / 8, min (32 * (t.val % 8) + 32) 255, 0] :=
  (by decide +kernel : ∀ t : Fin grid0.N, win0_5.index t = ![t.val / 8, min (32 * (t.val % 8) + 32) 255, 0])
theorem i6 : ∀ t : Fin cfg0.N, win0_6.index t = ![0, 0] :=
  (by decide +kernel : ∀ t : Fin grid0.N, win0_6.index t = ![0, 0])
theorem i7 : ∀ t : Fin cfg0.N, win0_7.index t = ![0, 0] :=
  (by decide +kernel : ∀ t : Fin grid0.N, win0_7.index t = ![0, 0])
theorem i8 : ∀ t : Fin cfg0.N, win0_8.index t = ![t.val % 8, 0] :=
  (by decide +kernel : ∀ t : Fin grid0.N, win0_8.index t = ![t.val % 8, 0])
theorem i9 : ∀ t : Fin cfg0.N, win0_9.index t = ![t.val % 8, 0] :=
  (by decide +kernel : ∀ t : Fin grid0.N, win0_9.index t = ![t.val % 8, 0])
theorem i10 : ∀ t : Fin cfg0.N, win0_10.index t = ![t.val % 8, 0] :=
  (by decide +kernel : ∀ t : Fin grid0.N, win0_10.index t = ![t.val % 8, 0])
theorem i11 : ∀ t : Fin cfg0.N, win0_11.index t = ![t.val / 8, t.val % 8, 0] :=
  (by decide +kernel : ∀ t : Fin grid0.N, win0_11.index t = ![t.val / 8, t.val % 8, 0])

/-- The stream's block at point `t`, read in its array. -/
theorem b0 (t : Fin cfg0.N) (y : S1x512x1024.Idx) (i : S8x4096x1024.Idx) (h0 : (i 0).val = t.val / 8)
    (h1 : (i 1).val = 512 * (t.val % 8) + (y 1).val) (h2 : (i 2).val = (y 2).val) : iblk m c 0 t y = m (c, main_arg0) i := by
  rw [show m (c, main_arg0) = V m c main_arg0 from (V_main_arg0 m c).symm]
  blk_simp [iblk]
  congr 1
  blk_ext [i0]

/-- The modulation's block at point `t`, read in its array. -/
theorem b1 (t : Fin cfg0.N) (y : S1x9x1024.Idx) (i : S16x9x1024.Idx) (h0 : (i 0).val = t.val / 8)
    (h1 : (i 1).val = (y 1).val) (h2 : (i 2).val = (y 2).val) : iblk m c 1 t y = m (c, main_arg1) i := by
  rw [show m (c, main_arg1) = V m c main_arg1 from (V_main_arg1 m c).symm]
  blk_simp [iblk]
  congr 1
  blk_ext [i1]

/-- Window 2's block is its whole array. -/
theorem b2 (t : Fin cfg0.N) (y : S6x1024.Idx) : iblk m c 2 t y = V m c main_v23 y := by
  blk_simp [iblk]
  congr 1
  blk_ext [i2]

/-- Window 3's block is its whole array. -/
theorem b3 (t : Fin cfg0.N) (y : S1024x8192.Idx) : iblk m c 3 t y = V m c main_v25 y := by
  blk_simp [iblk]
  congr 1
  blk_ext [i3]

/-- The rows before the stream's block at point `t`, read in its array. -/
theorem b4 (t : Fin cfg0.N) (y : S1x16x1024.Idx) (i : S8x4096x1024.Idx) (h0 : (i 0).val = t.val / 8)
    (h1 : (i 1).val = 16 * (32 * (t.val % 8) - 1) + (y 1).val) (h2 : (i 2).val = (y 2).val) : iblk m c 4 t y = m (c, main_arg0) i := by
  rw [show m (c, main_arg0) = V m c main_arg0 from (V_main_arg0 m c).symm]
  blk_simp [iblk]
  congr 1
  blk_ext [i4]

/-- The rows after the stream's block at point `t`, read in its array. -/
theorem b5 (t : Fin cfg0.N) (y : S1x16x1024.Idx) (i : S8x4096x1024.Idx) (h0 : (i 0).val = t.val / 8)
    (h1 : (i 1).val = 16 * min (32 * (t.val % 8) + 32) 255 + (y 1).val) (h2 : (i 2).val = (y 2).val) : iblk m c 5 t y = m (c, main_arg0) i := by
  rw [show m (c, main_arg0) = V m c main_arg0 from (V_main_arg0 m c).symm]
  blk_simp [iblk]
  congr 1
  blk_ext [i5]

/-- Window 6's block is its whole array. -/
theorem b6 (t : Fin cfg0.N) (y : S3x3072.Idx) : iblk m c 6 t y = V m c main_v26 y := by
  blk_simp [iblk]
  congr 1
  blk_ext [i6]

/-- Window 7's block is its whole array. -/
theorem b7 (t : Fin cfg0.N) (y : S1x3072.Idx) : iblk m c 7 t y = V m c main_v28 y := by
  blk_simp [iblk]
  congr 1
  blk_ext [i7]

/-- The cosine lanes' block at point `t`, read in its array. -/
theorem b8 (t : Fin cfg0.N) (y : S512x128.Idx) (i : S4096x128.Idx) (h0 : (i 0).val = 512 * (t.val % 8) + (y 0).val)
    (h1 : (i 1).val = (y 1).val) : iblk m c 8 t y = V m c main_v14 i := by
  blk_simp [iblk]
  congr 1
  blk_ext [i8]

/-- The second halves' sine lanes' block at point `t`, read in its array. -/
theorem b9 (t : Fin cfg0.N) (y : S512x128.Idx) (i : S4096x128.Idx) (h0 : (i 0).val = 512 * (t.val % 8) + (y 0).val)
    (h1 : (i 1).val = (y 1).val) : iblk m c 9 t y = V m c main_v18 i := by
  blk_simp [iblk]
  congr 1
  blk_ext [i9]

/-- The first halves' sine lanes' block at point `t`, read in its array. -/
theorem b10 (t : Fin cfg0.N) (y : S512x128.Idx) (i : S4096x128.Idx) (h0 : (i 0).val = 512 * (t.val % 8) + (y 0).val)
    (h1 : (i 1).val = (y 1).val) : iblk m c 10 t y = V m c main_v22 i := by
  blk_simp [iblk]
  congr 1
  blk_ext [i10]

/-! ## The halo's factors -/

theorem coord1 : ∀ t : Fin grid0.N, (grid0.coords t 1).val = t.val % 8 := by decide +kernel

theorem keep_before (t : Fin grid0.N) : k0_pay4 (F := Ideal) (grid0.coords t) = if t.val % 8 = 0 then (0 : EReal) else 1 := by
  have h : ∀ n : Fin 8, (Scalar.extui (Scalar.cmpi .sgt (BitVec.ofNat 32 n.val) 0#32) : BitVec 32).toInt = if n.val = 0 then 0 else 1 := by decide
  have e := h ⟨t.val % 8, by omega⟩
  show (((Scalar.extui (Scalar.cmpi .sgt (BitVec.ofNat 32 (grid0.coords t 1).val) 0#32) : BitVec 32).toInt : ℝ) : EReal) = _
  rw [coord1, e]
  by_cases h0 : t.val % 8 = 0
  · rw [if_pos h0, if_pos h0]; norm_num
  · rw [if_neg h0, if_neg h0]; norm_num

theorem keep_after (t : Fin grid0.N) : k0_pay5 (F := Ideal) (grid0.coords t) = if t.val % 8 = 7 then (0 : EReal) else 1 := by
  have h : ∀ n : Fin 8, (Scalar.extui (Scalar.cmpi .slt (BitVec.ofNat 32 n.val) 7#32) : BitVec 32).toInt = if n.val = 7 then 0 else 1 := by decide
  have e := h ⟨t.val % 8, by omega⟩
  show (((Scalar.extui (Scalar.cmpi .slt (BitVec.ofNat 32 (grid0.coords t 1).val) 7#32) : BitVec 32).toInt : ℝ) : EReal) = _
  rw [coord1, e]
  by_cases h0 : t.val % 8 = 7
  · rw [if_pos h0, if_pos h0]; norm_num
  · rw [if_neg h0, if_neg h0]; norm_num

/-! ## The rows of the extended block -/

/-- A row read in a block is the row of the stream it holds. -/
theorem row_block (t : Fin cfg0.N) (hb : t.val / 8 < 8) (l : Fin 4096) (v : Fin 1024 → EReal)
    (hv : ∀ k, v k = m (c, main_arg0) (ix3 ⟨t.val / 8, hb⟩ l k)) :
    modRow v (fun k => iblk m c 2 t (ix2 2 k)) (fun k => iblk m c 1 t (ix3 0 3 k)) (fun k => iblk m c 1 t (ix3 0 4 k))
      = rowOf (m (c, main_arg0)) (m (c, main_arg1)) (m (c, main_arg2)) ⟨t.val / 8, hb⟩ l := by
  unfold rowOf
  congr 1
  · exact funext hv
  · exact funext fun k => (b2 m c t _).trans (V_g m c 2 k)
  · exact funext fun k => b1 m c t _ _ rfl rfl rfl
  · exact funext fun k => b1 m c t _ _ rfl rfl rfl

/-- The row at a position of the block. -/
theorem row_at (t : Fin cfg0.N) (hb : t.val / 8 < 8) (kp kn : EReal) (r : ℕ) (hr : 16 ≤ r) (hr' : r < 528) (l : Fin 4096) (hl : l.val + 16 = 512 * (t.val % 8) + r) :
    rowAt kp kn (iblk m c 0 t) (iblk m c 1 t) (iblk m c 2 t) (iblk m c 4 t) (iblk m c 5 t) r
      = rowOf (m (c, main_arg0)) (m (c, main_arg1)) (m (c, main_arg2)) ⟨t.val / 8, hb⟩ l := by
  funext k
  unfold rowAt
  rw [dif_neg (by omega), dif_pos hr']
  exact congrFun (row_block m c t hb l _ fun k => b0 m c t _ _ rfl (by show l.val = 512 * (t.val % 8) + (r - 16); omega) rfl) k

/-- The row before a position of the block. -/
theorem row_before (t : Fin cfg0.N) (hb : t.val / 8 < 8) (kn : EReal) (r : Fin 512) (l : Fin 4096) (hl : l.val = 512 * (t.val % 8) + r.val) :
    rowAt (k0_pay4 (F := Ideal) (grid0.coords t)) kn (iblk m c 0 t) (iblk m c 1 t) (iblk m c 2 t) (iblk m c 4 t) (iblk m c 5 t) (r.val + 15)
      = rowBefore (m (c, main_arg0)) (m (c, main_arg1)) (m (c, main_arg2)) ⟨t.val / 8, hb⟩ l := by
  funext k
  unfold rowBefore
  by_cases hr : r.val = 0
  · unfold rowAt
    rw [dif_pos (by omega), keep_before]
    by_cases h0 : t.val % 8 = 0
    · rw [if_pos h0, if_pos (by omega), mul_zero]
    · rw [if_neg h0, if_neg (by omega), mul_one]
      exact congrFun (row_block m c t hb _ _ fun k => b4 m c t _ _ rfl (by show l.val - 1 = 16 * (32 * (t.val % 8) - 1) + (r.val + 15); omega) rfl) k
  · rw [if_neg (by omega)]
    exact congrFun (row_at m c t hb _ _ _ (by omega) (by omega) ⟨l.val - 1, by omega⟩ (by show l.val - 1 + 16 = _; omega)) k

/-- The row after a position of the block. -/
theorem row_after (t : Fin cfg0.N) (hb : t.val / 8 < 8) (kp : EReal) (r : Fin 512) (l : Fin 4096) (hl : l.val = 512 * (t.val % 8) + r.val) :
    rowAt kp (k0_pay5 (F := Ideal) (grid0.coords t)) (iblk m c 0 t) (iblk m c 1 t) (iblk m c 2 t) (iblk m c 4 t) (iblk m c 5 t) (r.val + 17)
      = rowAfter (m (c, main_arg0)) (m (c, main_arg1)) (m (c, main_arg2)) ⟨t.val / 8, hb⟩ l := by
  funext k
  unfold rowAfter
  by_cases hr : r.val = 511
  · unfold rowAt
    rw [dif_neg (by omega), dif_neg (by omega), keep_after]
    by_cases h0 : t.val % 8 = 7
    · rw [if_pos h0, dif_pos (by omega), mul_zero]
    · rw [if_neg h0, dif_neg (by omega), mul_one]
      exact congrFun (row_block m c t hb _ _ fun k => b5 m c t _ _ rfl
        (by show l.val + 1 = 16 * min (32 * (t.val % 8) + 32) 255 + (r.val + 17 - 528) % 16; omega) rfl) k
  · rw [dif_neg (by omega)]
    exact congrFun (row_at m c t hb _ _ _ (by omega) (by omega) ⟨l.val + 1, by omega⟩ (by show l.val + 1 + 16 = _; omega)) k

/-! ## The result array -/

/-- The kernel's result array is the projection of its arguments. -/
theorem result : (dats m 0 c).arrAt 11 cfg0.N = fun i : S8x4096x7168.Idx =>
    projAt (m (c, main_arg0)) (m (c, main_arg1)) (m (c, main_arg2)) (m (c, main_arg3)) (m (c, main_arg4)) (m (c, main_arg5)) (m (c, main_arg6)) (m (c, main_arg7))
      (i 0) (i 1) (i 2) := by
  refine (dats m 0 c).arrAt_eq_of_covers 11 _ (by decide +kernel) fun t hf y => ?_
  have hN : t.val < 64 := t.isLt
  blk_simp
  rw [after0_11]
  unfold outsAt0
  rw [out_eq]
  obtain ⟨r, e, rfl⟩ : ∃ (r : Fin 512) (e : Fin 7168), y = ix3 0 r e :=
    ⟨y 1, y 2, funext fun a => by
      match a with
      | ⟨0, _⟩ => exact Fin.ext (by have := (y 0).isLt; show (y 0).val = 0; have h : (y 0).val < 1 := this; omega)
      | ⟨1, _⟩ => rfl
      | ⟨2, _⟩ => rfl⟩
  have hb : t.val / 8 < 8 := by omega
  have hl : 512 * (t.val % 8) + r.val < 4096 := by omega
  have key : ∀ (i : S8x4096x7168.Idx), (i 0).val = t.val / 8 → (i 1).val = 512 * (t.val % 8) + r.val → (i 2).val = e.val →
      projAt (m (c, main_arg0)) (m (c, main_arg1)) (m (c, main_arg2)) (m (c, main_arg3)) (m (c, main_arg4)) (m (c, main_arg5)) (m (c, main_arg6)) (m (c, main_arg7))
          ⟨t.val / 8, hb⟩ ⟨512 * (t.val % 8) + r.val, hl⟩ e
        = projAt (m (c, main_arg0)) (m (c, main_arg1)) (m (c, main_arg2)) (m (c, main_arg3)) (m (c, main_arg4)) (m (c, main_arg5)) (m (c, main_arg6)) (m (c, main_arg7))
          (i 0) (i 1) (i 2) := fun i h0 h1 h2 => by
    rw [show i 0 = (⟨t.val / 8, hb⟩ : Fin 8) from Fin.ext h0, show i 1 = (⟨512 * (t.val % 8) + r.val, hl⟩ : Fin 4096) from Fin.ext h1,
      show i 2 = e from Fin.ext h2]
  refine Eq.trans ?_ (key _ ?_ ?_ ?_)
  · show blockAt (k0_pay4 (F := Ideal) (grid0.coords t)) (k0_pay5 (F := Ideal) (grid0.coords t)) (iblk m c 0 t) (iblk m c 1 t) (iblk m c 2 t) (iblk m c 3 t)
      (iblk m c 4 t) (iblk m c 5 t) (iblk m c 6 t) (iblk m c 7 t) (iblk m c 8 t) (iblk m c 9 t) (iblk m c 10 t) r e = _
    unfold blockAt projAt
    congr 1
    · exact row_before m c t hb _ r _ rfl
    · exact row_at m c t hb _ _ _ (by omega) (by omega) _ (by show 512 * (t.val % 8) + r.val + 16 = _; omega)
    · exact row_after m c t hb _ r _ rfl
    · exact funext fun k => funext fun j => (b3 m c t _).trans (V_w m c k j)
    · exact funext fun i => funext fun j => (b6 m c t _).trans (V_cw m c i j)
    · exact funext fun j => (b7 m c t _).trans (V_cb m c j)
    · exact funext fun d => (b8 m c t _ (ix2 ⟨512 * (t.val % 8) + r.val, hl⟩ d) rfl rfl).trans (V_cos m c _ d)
    · exact funext fun d => (b9 m c t _ (ix2 ⟨512 * (t.val % 8) + r.val, hl⟩ d) rfl rfl).trans (V_after m c _ d)
    · exact funext fun d => (b10 m c t _ (ix2 ⟨512 * (t.val % 8) + r.val, hl⟩ d) rfl rfl).trans (V_before m c _ d)
  · blk_simp [i11]
  · blk_simp [i11]
    show t.val % 8 * 512 + r.val = 512 * (t.val % 8) + r.val
    omega
  · blk_simp [i11]

end Cert.ProjKernel

end
-- ==== Proof.ProjRope.lean ====
/- The reference's rotary embedding, index by index: the same lane-by-lane sum as the kernel's. -/
module

public import proofs.«01_k».proof.Proof.ProjTables
public import proofs.«01_k».proof.Proof.Gen.Reference4Ideal.Read
public import Idealize.ShloMosaic.Lib.ValueIdxRank6
public import Idealize.ShloMosaic.Lib.Pointwise.Index

@[expose] public section

set_option maxRecDepth 16384

noncomputable section

namespace Cert.ProjRope

open Cert.Reference4Ideal Cert.Reference4Ideal.Gen Cert.ProjOps Cert.ProjTables
open Idealize.ShloMosaic hiding ix0 ix1 ix2 ix3 ix4 ix5 eq_ix1 eq_ix2 eq_ix3
open Idealize.ShloMosaic.ValueIdx hiding ix6 eq_ix6

/-- The row-major position of a rank-7 index. -/
theorem pos7 {d : Fin 7 → ℕ} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6 + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-- The lanes split by head, map, axis, half and frequency. -/
def lanes (z : Vec Ideal S8x4096x1024 .f32) : Vec Ideal S8x4096x8x2x2x2x16 .f32 :=
  shapeCast S8x4096x8x2x2x2x16 z shapeCasts_S8x4096x1024_S8x4096x8x2x2x2x16

theorem lanes_apply (z : Vec Ideal S8x4096x1024 .f32) (b : Fin 8) (l : Fin 4096) (h : Fin 8) (i j a : Fin 2) (f : Fin 16) :
    lanes z (ix7 b l h i j a f) = z (ix3 b l ⟨h.val * 128 + i.val * 64 + j.val * 32 + a.val * 16 + f.val, by omega⟩) := by
  refine shapeCast_apply _ _ _ _ ?_
  rw [pos7, Shape.rowMajor_val_three]
  show (b.val * 4096 + l.val) * 1024 + (h.val * 128 + i.val * 64 + j.val * 32 + a.val * 16 + f.val)
    = (((((b.val * 4096 + l.val) * 8 + h.val) * 2 + i.val) * 2 + j.val) * 2 + a.val) * 16 + f.val
  omega

/-- A half of the lanes. -/
def halfOf (z : Vec Ideal S8x4096x1024 .f32) (a : Fin 2) (h : S8x4096x8x2x2x2x16.Slices ![0, 0, 0, 0, 0, a.val, 0] S8x4096x8x2x2x1x16) :
    Vec Ideal S8x4096x8x2x2x16 .f32 :=
  shapeCast S8x4096x8x2x2x16 (extractStridedSlice S8x4096x8x2x2x1x16 ![0, 0, 0, 0, 0, a.val, 0] (lanes z) h) shapeCasts_S8x4096x8x2x2x1x16_S8x4096x8x2x2x16

theorem halfOf_apply (z : Vec Ideal S8x4096x1024 .f32) (a : Fin 2) (hs) (b : Fin 8) (l : Fin 4096) (h : Fin 8) (i j : Fin 2) (f : Fin 16) :
    halfOf z a hs (ix6 b l h i j f) = z (ix3 b l ⟨h.val * 128 + i.val * 64 + j.val * 32 + a.val * 16 + f.val, by omega⟩) := by
  refine (shapeCast_apply _ _ _ (ix7 b l h i j 0 f) ?_).trans ?_
  · rw [pos7, Shape.rowMajor_val_six]
    show (((((b.val * 4096 + l.val) * 8 + h.val) * 2 + i.val) * 2 + j.val) * 1 + 0) * 16 + f.val
      = ((((b.val * 4096 + l.val) * 8 + h.val) * 2 + i.val) * 2 + j.val) * 16 + f.val
    omega
  · refine (extractStridedSlice_apply _ _ _ _ (ix7 b l h i j a f) fun d => ?_).trans (lanes_apply z b l h i j a f)
    match d with
    | ⟨0, _⟩ => show b.val = 0 + b.val; omega
    | ⟨1, _⟩ => show l.val = 0 + l.val; omega
    | ⟨2, _⟩ => show h.val = 0 + h.val; omega
    | ⟨3, _⟩ => show i.val = 0 + i.val; omega
    | ⟨4, _⟩ => show j.val = 0 + j.val; omega
    | ⟨5, _⟩ => show a.val = a.val + 0; omega
    | ⟨6, _⟩ => show f.val = 0 + f.val; omega

/-- A table over every batch element, head and map. -/
def spread (t : Vec Ideal S4096x2x16 .f32) : Vec Ideal S8x4096x8x2x2x16 .f32 :=
  broadcastInDim S8x4096x8x2x2x16 ![0, 1, 2, 3, 4, 5] bcast_S1x4096x1x1x2x16_S8x4096x8x2x2x16_0_1_2_3_4_5
    (broadcastInDim S1x4096x1x1x2x16 ![1, 4, 5] bcast_S4096x2x16_S1x4096x1x1x2x16_1_4_5 t)

theorem spread_apply (t : Vec Ideal S4096x2x16 .f32) (b : Fin 8) (l : Fin 4096) (h : Fin 8) (i j : Fin 2) (f : Fin 16) :
    spread t (ix6 b l h i j f) = t (ix3 l j f) := by
  refine (broadcastInDim_apply _ _ _ _ (ix6 0 l 0 0 j f) fun d => ?_).trans (broadcastInDim_apply _ _ _ _ (ix3 l j f) fun d => ?_)
  · match d with
    | ⟨0, _⟩ => rfl
    | ⟨1, _⟩ => rfl
    | ⟨2, _⟩ => rfl
    | ⟨3, _⟩ => rfl
    | ⟨4, _⟩ => rfl
    | ⟨5, _⟩ => rfl
  · match d with
    | ⟨0, _⟩ => rfl
    | ⟨1, _⟩ => rfl
    | ⟨2, _⟩ => rfl

/-- The two turned halves put back together. -/
def joinHalves (p q : Vec Ideal S8x4096x8x2x2x16 .f32) : Vec Ideal S8x4096x1024 .f32 :=
  shapeCast S8x4096x1024 (concatenate S8x4096x8x2x2x2x16 5
    [⟨S8x4096x8x2x2x1x16, broadcastInDim S8x4096x8x2x2x1x16 ![0, 1, 2, 3, 4, 6] bcast_S8x4096x8x2x2x16_S8x4096x8x2x2x1x16_0_1_2_3_4_6 p⟩,
     ⟨S8x4096x8x2x2x1x16, broadcastInDim S8x4096x8x2x2x1x16 ![0, 1, 2, 3, 4, 6] bcast_S8x4096x8x2x2x16_S8x4096x8x2x2x1x16_0_1_2_3_4_6 q⟩]
    concatenates_S8x4096x8x2x2x1x16_S8x4096x8x2x2x1x16_S8x4096x8x2x2x2x16_d5) shapeCasts_S8x4096x8x2x2x2x16_S8x4096x1024

theorem unit_apply (p : Vec Ideal S8x4096x8x2x2x16 .f32) (b : Fin 8) (l : Fin 4096) (h : Fin 8) (i j : Fin 2) (f : Fin 16) :
    broadcastInDim S8x4096x8x2x2x1x16 ![0, 1, 2, 3, 4, 6] bcast_S8x4096x8x2x2x16_S8x4096x8x2x2x1x16_0_1_2_3_4_6 p (ix7 b l h i j 0 f) = p (ix6 b l h i j f) := by
  refine broadcastInDim_apply _ _ _ _ _ fun d => ?_
  match d with
  | ⟨0, _⟩ => rfl
  | ⟨1, _⟩ => rfl
  | ⟨2, _⟩ => rfl
  | ⟨3, _⟩ => rfl
  | ⟨4, _⟩ => rfl
  | ⟨5, _⟩ => rfl

theorem joinHalves_apply (p q : Vec Ideal S8x4096x8x2x2x16 .f32) (b : Fin 8) (l : Fin 4096) (h : Fin 8) (i j a : Fin 2) (f : Fin 16) (e : Fin 1024)
    (he : e.val = h.val * 128 + i.val * 64 + j.val * 32 + a.val * 16 + f.val) :
    joinHalves p q (ix3 b l e) = (if a.val = 0 then p else q) (ix6 b l h i j f) := by
  refine (shapeCast_apply _ _ _ (ix7 b l h i j a f) ?_).trans ?_
  · rw [pos7, Shape.rowMajor_val_three]
    show (((((b.val * 4096 + l.val) * 8 + h.val) * 2 + i.val) * 2 + j.val) * 2 + a.val) * 16 + f.val = (b.val * 4096 + l.val) * 1024 + e.val
    omega
  obtain h0 | h0 : a.val = 0 ∨ a.val = 1 := by omega
  · rw [if_pos h0]
    refine (concatenate_apply_piece (t := S8x4096x8x2x2x2x16) 5 _ _ _ 0 (by show _ < 2; omega) S8x4096x8x2x2x1x16 _ rfl rfl 0 rfl (ix7 b l h i j 0 f) (fun d hd => ?_)
      (by show 0 + 0 = a.val; omega)).trans (unit_apply p b l h i j f)
    match d with
    | ⟨0, _⟩ => rfl
    | ⟨1, _⟩ => rfl
    | ⟨2, _⟩ => rfl
    | ⟨3, _⟩ => rfl
    | ⟨4, _⟩ => rfl
    | ⟨5, _⟩ => exact absurd rfl hd
    | ⟨6, _⟩ => rfl
  · rw [if_neg (by omega)]
    refine (concatenate_apply_piece (t := S8x4096x8x2x2x2x16) 5 _ _ _ 1 (by show _ < 2; omega) S8x4096x8x2x2x1x16 _ rfl rfl 1 rfl (ix7 b l h i j 0 f) (fun d hd => ?_)
      (by show 1 + 0 = a.val; omega)).trans (unit_apply q b l h i j f)
    match d with
    | ⟨0, _⟩ => rfl
    | ⟨1, _⟩ => rfl
    | ⟨2, _⟩ => rfl
    | ⟨3, _⟩ => rfl
    | ⟨4, _⟩ => rfl
    | ⟨5, _⟩ => exact absurd rfl hd
    | ⟨6, _⟩ => rfl

/-- The rotary embedding as the reference computes it. -/
def rope (z : Vec Ideal S8x4096x1024 .f32) (cos sin : Vec Ideal S4096x2x16 .f32) : Vec Ideal S8x4096x1024 .f32 :=
  joinHalves
    (subf (F := Ideal) (φ := .f32)
      (mulf (F := Ideal) (φ := .f32) (halfOf z 0 slices_S8x4096x8x2x2x2x16_S8x4096x8x2x2x1x16_0_0_0_0_0_0_0) (spread cos))
      (mulf (F := Ideal) (φ := .f32) (halfOf z 1 slices_S8x4096x8x2x2x2x16_S8x4096x8x2x2x1x16_0_0_0_0_0_1_0) (spread sin)))
    (addf (F := Ideal) (φ := .f32)
      (mulf (F := Ideal) (φ := .f32) (halfOf z 0 slices_S8x4096x8x2x2x2x16_S8x4096x8x2x2x1x16_0_0_0_0_0_0_0) (spread sin))
      (mulf (F := Ideal) (φ := .f32) (halfOf z 1 slices_S8x4096x8x2x2x2x16_S8x4096x8x2x2x1x16_0_0_0_0_0_1_0) (spread cos)))

/-- The rotary embedding, lane by lane. -/
theorem rope_apply (z : Vec Ideal S8x4096x1024 .f32) (cos sin : Vec Ideal S4096x2x16 .f32) (b : Fin 8) (l : Fin 4096) (e : Fin 1024) :
    rope z cos sin (ix3 b l e) = rotLane (fun d => z (ix3 b l d)) (tabLane cos l) (afterLane sin l) (beforeLane sin l) e := by
  unfold rope
  rw [joinHalves_apply _ _ b l ⟨e.val / 128, by omega⟩ ⟨e.val % 128 / 64, by omega⟩ ⟨e.val % 64 / 32, by omega⟩ ⟨e.val % 32 / 16, by omega⟩ ⟨e.val % 16, by omega⟩ e
    (by show e.val = e.val / 128 * 128 + e.val % 128 / 64 * 64 + e.val % 64 / 32 * 32 + e.val % 32 / 16 * 16 + e.val % 16; omega)]
  have ht : ∀ t : Vec Ideal S4096x2x16 .f32, tabLane t l ⟨e.val % 128, by omega⟩ = t (ix3 l ⟨e.val % 64 / 32, by omega⟩ ⟨e.val % 16, by omega⟩) := fun t => by
    unfold tabLane
    congr 1
    rw [show (⟨(⟨e.val % 128, by omega⟩ : Fin 128).val % 64 / 32, by omega⟩ : Fin 2) = ⟨e.val % 64 / 32, by omega⟩ from Fin.ext (by show e.val % 128 % 64 / 32 = e.val % 64 / 32; omega),
      show (⟨(⟨e.val % 128, by omega⟩ : Fin 128).val % 16, by omega⟩ : Fin 16) = ⟨e.val % 16, by omega⟩ from Fin.ext (by show e.val % 128 % 16 = e.val % 16; omega)]
  have hz : ∀ u v : Fin 1024, u.val = v.val → z (ix3 b l u) = z (ix3 b l v) := fun u v h => by rw [Fin.ext h]
  unfold rotLane afterLane beforeLane
  rw [ht, ht]
  obtain h0 | h0 : e.val % 32 / 16 = 0 ∨ e.val % 32 / 16 = 1 := by omega
  · rw [if_pos h0, if_pos (show e.val % 128 / 16 % 2 = 0 by omega), if_pos (show e.val % 128 / 16 % 2 = 0 by omega)]
    show (halfOf z 0 _ _ * spread cos _ - halfOf z 1 _ _ * spread sin _ : EReal) = _
    rw [halfOf_apply, halfOf_apply, spread_apply, spread_apply, mul_zero, add_zero, mul_neg, ← sub_eq_add_neg]
    refine congrArg₂ (fun p q : EReal => p - q) (congrArg (fun p : EReal => p * _) (hz _ _ ?_)) (congrArg (fun p : EReal => p * _) (hz _ _ ?_))
    · show e.val / 128 * 128 + e.val % 128 / 64 * 64 + e.val % 64 / 32 * 32 + 0 * 16 + e.val % 16 = e.val
      omega
    · show e.val / 128 * 128 + e.val % 128 / 64 * 64 + e.val % 64 / 32 * 32 + 1 * 16 + e.val % 16 = e.val / 128 * 128 + (e.val % 128 + 16) % 128
      omega
  · rw [if_neg (by show ¬ e.val % 32 / 16 = 0; omega), if_neg (show ¬ e.val % 128 / 16 % 2 = 0 by omega), if_neg (show ¬ e.val % 128 / 16 % 2 = 0 by omega)]
    show (halfOf z 0 _ _ * spread sin _ + halfOf z 1 _ _ * spread cos _ : EReal) = _
    rw [halfOf_apply, halfOf_apply, spread_apply, spread_apply, mul_zero, add_zero, add_comm]
    refine congrArg₂ (fun p q : EReal => p + q) (congrArg (fun p : EReal => p * _) (hz _ _ ?_)) (congrArg (fun p : EReal => p * _) (hz _ _ ?_))
    · show e.val / 128 * 128 + e.val % 128 / 64 * 64 + e.val % 64 / 32 * 32 + 1 * 16 + e.val % 16 = e.val
      omega
    · show e.val / 128 * 128 + e.val % 128 / 64 * 64 + e.val % 64 / 32 * 32 + 0 * 16 + e.val % 16 = e.val / 128 * 128 + (e.val % 128 + 112) % 128
      omega

end Cert.ProjRope

end
-- ==== Proof.ProjRef.lean ====
/- The projection reference's result, index by index: the same projection of the stream. -/
module

public import proofs.«01_k».proof.Proof.ProjRope
public import Idealize.ShloMosaic.Lib.KernelVsHost

@[expose] public section

set_option maxRecDepth 16384

noncomputable section

namespace Cert.ProjRef

open Cert.Reference4Ideal Cert.Reference4Ideal.Gen Cert.Reference4Ideal.Read Cert.AttnOps Cert.RowMath Cert.FfnTile Cert.ProjOps Cert.ProjTables Cert.ProjRope
open Idealize.ShloMosaic hiding ix0 ix1 ix2 ix3 ix4 ix5 eq_ix1 eq_ix2 eq_ix3
open Idealize.ShloMosaic.ValueIdx hiding ix6 eq_ix6

variable (x0 : (⟨S8x4096x1024, .f32⟩ : BufTy).Contents (Elt Ideal)) (x1 : (⟨S16x9x1024, .f32⟩ : BufTy).Contents (Elt Ideal))
variable (x2 : (⟨S1x6x1024, .f32⟩ : BufTy).Contents (Elt Ideal)) (x3 : (⟨S1x1024x8192, .f32⟩ : BufTy).Contents (Elt Ideal))
variable (x4 : (⟨S1x3x3072, .f32⟩ : BufTy).Contents (Elt Ideal)) (x5 : (⟨S1x3072, .f32⟩ : BufTy).Contents (Elt Ideal))
variable (x6 x7 : (⟨S4096x2x16, .f32⟩ : BufTy).Contents (Elt Ideal))

/-- A row of the stream over the root of the mean of its squares. -/
theorem norm1 (b : Fin 8) (l : Fin 4096) (e : Fin 1024) :
    val_main_v17 (F := Ideal) x0 (ix3 b l e) = unitRow (fun k => x0 (ix3 b l k)) e := by
  rw [val_main_v17_apply, val_main_v16_apply, val_main_v15_apply, val_main_v14_apply, val_main_v12_apply, val_main_v10_apply, val_main_v9_apply]
  have hs : ∀ k : Fin 1024, val_main_v8 (F := Ideal) x0 (idx_main_v9 (idx_main_v10 (idx_main_v16 (ix3 b l e))) k)
      = (x0 (ix3 b l k) * x0 (ix3 b l k) : EReal) := fun k => by
    rw [val_main_v8_apply, at3 x0 _ b l k rfl rfl rfl]; rfl
  simp only [hs]
  rw [val_main_v11_apply, val_main_v13_apply, val_main_cst_apply, val_main_cst_0_apply, val_main_cst_1_apply]
  show (x0 (ix3 b l e) * Ideal.rsqrt (Ideal.div (Ideal.ofBits .f32 0x00000000#32 + _) (Ideal.ofBits .f32 0x44800000#32) + Ideal.ofBits .f32 0x358637BD#32) : EReal) = _
  rw [bits_zero, zero_add]
  rfl

/-- The modulated row. -/
theorem mod1 (b : Fin 8) (l : Fin 4096) (k : Fin 1024) :
    val_main_v26 (F := Ideal) x0 x1 x2 (ix3 b l k) = rowOf x0 x1 x2 b l k := by
  rw [val_main_v26_apply, val_main_v25_apply, val_main_v24_apply, val_main_v23_apply, val_main_v22_apply, val_main_v21_apply, val_main_v20_apply,
    val_main_v19_apply, val_main_v18_apply, norm1]
  rw [val_main_v7_apply, val_main_v6_apply, val_main_v5_apply, val_main_v4_apply, val_main_v3_apply, val_main_v2_apply, val_main_v1_apply, val_main_v0_apply]
  rw [at3 x2 _ 0 2 k rfl rfl (by show k.val % 1024 = k.val; omega),
    at3 x1 (idx_main_v3 _) ⟨b.val, by omega⟩ 4 k (by show (b.val * 1024 + k.val) / 1024 = b.val; omega) rfl (by show (b.val * 1024 + k.val) % 1024 = k.val; omega),
    at3 x1 (idx_main_v0 _) ⟨b.val, by omega⟩ 3 k (by show (b.val * 1024 + k.val) / 1024 = b.val; omega) rfl (by show (b.val * 1024 + k.val) % 1024 = k.val; omega)]
  rw [val_main_cst_2_apply]
  rfl

/-- The product with the weights. -/
theorem dot (b : Fin 8) (l : Fin 4096) (j : Fin 8192) :
    val_main_v28 (F := Ideal) x0 x1 x2 x3 (ix3 b l j) = colDot (rowOf x0 x1 x2 b l) (fun k j => x3 (ix3 0 k j)) j := by
  rw [val_main_v28_apply]
  unfold colDot
  refine Finset.sum_congr rfl fun k _ => ?_
  rw [at3 (val_main_v26 (F := Ideal) x0 x1 x2) (lidx_main_v28 (ix3 b l j) k) b l k rfl rfl rfl, mod1, val_main_v27_apply]
  rw [at3 x3 (idx_main_v27 (ridx_main_v28 (ix3 b l j) k)) 0 k j rfl (by show (k.val * 8192 + j.val) / 8192 % 1024 = k.val; omega)
    (by show (k.val * 8192 + j.val) % 8192 = j.val; omega)]

/-- A zero row times the weights is zero. -/
theorem colDot_zero (w : Fin 1024 → Fin 8192 → EReal) (j : Fin 8192) : colDot (fun _ => 0) w j = 0 :=
  Finset.sum_eq_zero fun k _ => zero_mul _

/-- The padded product at a position of the stream. -/
theorem pad_at (b : Fin 8) (p : Fin 4098) (j : Fin 3072) (l : Fin 4096) (hp : p.val = l.val + 1) :
    val_main_v36 (F := Ideal) x0 x1 x2 x3 (ix3 b p j) = colDot (rowOf x0 x1 x2 b l) (fun k j => x3 (ix3 0 k j)) ⟨j.val, by omega⟩ := by
  unfold val_main_v36
  refine (pad_apply_of_inside (s := S8x4096x3072) (t := S8x4098x3072) _ _ _ _ _ _ _ _ (ix3 b l j) fun a => ?_).trans ?_
  · match a with
    | ⟨0, _⟩ => show b.val = 0 + b.val * 1; omega
    | ⟨1, _⟩ => show p.val = 1 + l.val * 1; omega
    | ⟨2, _⟩ => show j.val = 0 + j.val * 1; omega
  · rw [val_main_v29_apply, at3 (val_main_v28 (F := Ideal) x0 x1 x2 x3) _ b l ⟨j.val, by omega⟩ rfl rfl rfl, dot]

/-- The padded product outside the stream. -/
theorem pad_out (b : Fin 8) (p : Fin 4098) (j : Fin 3072) (hp : p.val = 0 ∨ p.val = 4097) :
    val_main_v36 (F := Ideal) x0 x1 x2 x3 (ix3 b p j) = (0 : EReal) := by
  unfold val_main_v36
  refine (pad_apply_of_not_inside (s := S8x4096x3072) (t := S8x4098x3072) _ _ _ _ _ _ _ _ 1 ?_).trans ?_
  · show ¬(1 ≤ p.val ∧ (p.val - 1) % 1 = 0 ∧ (p.val - 1) / 1 < 4096)
    omega
  · show (((0#32 : BitVec 32).toInt : ℝ) : EReal) = 0
    norm_num

/-- The padded product before a position. -/
theorem pad_before (b : Fin 8) (l : Fin 4096) (j : Fin 3072) :
    val_main_v36 (F := Ideal) x0 x1 x2 x3 (ix3 b ⟨l.val, by omega⟩ j) = colDot (rowBefore x0 x1 x2 b l) (fun k j => x3 (ix3 0 k j)) ⟨j.val, by omega⟩ := by
  by_cases h : l.val = 0
  · rw [pad_out x0 x1 x2 x3 b _ j (.inl h), show rowBefore x0 x1 x2 b l = fun _ => 0 from funext fun k => if_pos h, colDot_zero]
  · rw [pad_at x0 x1 x2 x3 b _ j ⟨l.val - 1, by omega⟩ (by show l.val = l.val - 1 + 1; omega),
      show rowBefore x0 x1 x2 b l = rowOf x0 x1 x2 b ⟨l.val - 1, by omega⟩ from funext fun k => if_neg h]

/-- The padded product after a position. -/
theorem pad_after (b : Fin 8) (l : Fin 4096) (j : Fin 3072) :
    val_main_v36 (F := Ideal) x0 x1 x2 x3 (ix3 b ⟨2 + l.val, by omega⟩ j) = colDot (rowAfter x0 x1 x2 b l) (fun k j => x3 (ix3 0 k j)) ⟨j.val, by omega⟩ := by
  by_cases h : l.val = 4095
  · rw [pad_out x0 x1 x2 x3 b _ j (.inr (by show 2 + l.val = 4097; omega)), show rowAfter x0 x1 x2 b l = fun _ => 0 from funext fun k => dif_pos h, colDot_zero]
  · rw [pad_at x0 x1 x2 x3 b _ j ⟨l.val + 1, by omega⟩ (by show 2 + l.val = l.val + 1 + 1; omega),
      show rowAfter x0 x1 x2 b l = rowOf x0 x1 x2 b ⟨l.val + 1, by omega⟩ from funext fun k => dif_neg h]

/-- A row of the three taps. -/
theorem tap (j : Fin 3072) (n : Fin 3) : val_main_v34 (F := Ideal) x4 (ix2 n j) = x4 (ix3 0 n j) := by
  unfold val_main_v34
  exact dropUnit_apply _ _ _ _

/-- The short convolution. -/
theorem conv (b : Fin 8) (l : Fin 4096) (j : Fin 3072) :
    val_main_v59 (F := Ideal) x0 x1 x2 x3 x4 x5 (ix3 b l j) = convLane (rowBefore x0 x1 x2 b l) (rowOf x0 x1 x2 b l) (rowAfter x0 x1 x2 b l)
      (fun k j => x3 (ix3 0 k j)) (fun i j => x4 (ix3 0 i j)) (fun j => x5 (ix2 0 j)) j := by
  have ht : ∀ (i : S3x3072.Idx) (n : Fin 3), (i 0).val = n.val → (i 1).val = j.val → val_main_v34 (F := Ideal) x4 i = x4 (ix3 0 n j) := fun i n h0 h1 =>
    (congrArg (val_main_v34 (F := Ideal) x4) (show i = ix2 n j from funext fun a => by
      match a with
      | ⟨0, _⟩ => exact Fin.ext h0
      | ⟨1, _⟩ => exact Fin.ext h1)).trans (tap x4 j n)
  have hj : j.val % 3072 = j.val := Nat.mod_eq_of_lt j.isLt
  have e0 : val_main_v41 (F := Ideal) x4 (ix3 b l j) = x4 (ix3 0 0 j) := by
    rw [val_main_v41_apply, val_main_v40_apply, val_main_v39_apply, val_main_v38_apply]
    exact ht _ 0 rfl hj
  have e1 : val_main_v47 (F := Ideal) x4 (ix3 b l j) = x4 (ix3 0 1 j) := by
    rw [val_main_v47_apply, val_main_v46_apply, val_main_v45_apply, val_main_v44_apply]
    exact ht _ 1 rfl hj
  have e2 : val_main_v54 (F := Ideal) x4 (ix3 b l j) = x4 (ix3 0 2 j) := by
    rw [val_main_v54_apply, val_main_v53_apply, val_main_v52_apply, val_main_v51_apply]
    exact ht _ 2 rfl hj
  have e3 : val_main_v58 (F := Ideal) x5 (ix3 b l j) = x5 (ix2 0 j) := by
    rw [val_main_v58_apply, val_main_v57_apply, val_main_v35_apply]
    refine congrArg x5 (funext fun a => ?_)
    match a with
    | ⟨0, _⟩ => rfl
    | ⟨1, _⟩ => exact Fin.ext hj
  rw [val_main_v59_apply, val_main_v56_apply, val_main_v49_apply, val_main_v42_apply, val_main_v48_apply, val_main_v55_apply, e0, e1, e2, e3,
    val_main_v37_apply, val_main_v43_apply, val_main_v50_apply,
    at3 (val_main_v36 (F := Ideal) x0 x1 x2 x3) (idx_main_v37 (ix3 b l j)) b ⟨l.val, by omega⟩ j rfl rfl rfl,
    at3 (val_main_v36 (F := Ideal) x0 x1 x2 x3) (idx_main_v43 (ix3 b l j)) b ⟨1 + l.val, by omega⟩ j rfl rfl rfl,
    at3 (val_main_v36 (F := Ideal) x0 x1 x2 x3) (idx_main_v50 (ix3 b l j)) b ⟨2 + l.val, by omega⟩ j rfl rfl rfl,
    pad_before, pad_at x0 x1 x2 x3 b ⟨1 + l.val, by omega⟩ j l (Nat.add_comm _ _), pad_after]
  rfl

/-- The rotated queries. -/
theorem rotq : val_main_v84 (F := Ideal) x0 x1 x2 x3 x6 x7 = rope (val_main_v30 (F := Ideal) x0 x1 x2 x3) x6 x7 := rfl

/-- The rotated keys. -/
theorem rotk : val_main_v105 (F := Ideal) x0 x1 x2 x3 x6 x7 = rope (val_main_v31 (F := Ideal) x0 x1 x2 x3) x6 x7 := rfl

/-- The gates. -/
theorem gate (b : Fin 8) (l : Fin 4096) (j : Fin 2048) :
    val_main_v111 (F := Ideal) x0 x1 x2 x3 (ix3 b l j)
      = Ideal.logistic (colDot (rowOf x0 x1 x2 b l) (fun k j => x3 (ix3 0 k j)) ⟨6144 + j.val, by omega⟩) := by
  rw [val_main_v111_apply, val_main_v110_apply, val_main_v109_apply, val_main_v108_apply, val_main_v107_apply, val_main_v106_apply, val_main_v33_apply,
    val_main_cst_3_apply, val_main_cst_4_apply, at3 (val_main_v28 (F := Ideal) x0 x1 x2 x3) _ b l ⟨6144 + j.val, by omega⟩ rfl rfl rfl, dot]
  unfold Ideal.logistic
  rw [← bits_one]
  rfl

/-- The reference's result is the projection of its arguments. -/
theorem result : val_main_v113 (F := Ideal) x0 x1 x2 x3 x4 x5 x6 x7
    = fun i : S8x4096x7168.Idx => projAt x0 x1 x2 x3 x4 x5 x6 x7 (i 0) (i 1) (i 2) := by
  funext i
  obtain ⟨b, l, e, rfl⟩ : ∃ (b : Fin 8) (l : Fin 4096) (e : Fin 7168), i = ix3 b l e := ⟨i 0, i 1, i 2, eq_ix3 i⟩
  show val_main_v112 (F := Ideal) x0 x1 x2 x3 x4 x5 x6 x7 (ix3 b l e) = projAt x0 x1 x2 x3 x4 x5 x6 x7 b l e
  unfold val_main_v112 projAt projRow
  have hu : ∀ (n : ℕ) (j : Fin n) (d : Fin 3) (hr : (3 : ℕ) = 3), d ≠ 2 → ((ix3 b l j : (⟨3, ![8, 4096, n]⟩ : Shape).Idx) d).val = ((ix3 b l e : S8x4096x7168.Idx) d).val := fun n j d _ hd => by
    match d with
    | ⟨0, _⟩ => rfl
    | ⟨1, _⟩ => rfl
    | ⟨2, _⟩ => exact absurd rfl hd
  by_cases h1 : e.val < 1024
  · rw [dif_pos h1]
    refine (concatenate_apply_piece (t := S8x4096x7168) 2 _ _ _ 0 (by show _ < 6; omega) S8x4096x1024 _ rfl rfl 0 rfl (ix3 b l ⟨e.val, h1⟩) (fun d hd => hu _ _ d rfl hd)
      (by show 0 + e.val = e.val; omega)).trans ?_
    rw [val_main_v60_apply, at3 (val_main_v59 (F := Ideal) x0 x1 x2 x3 x4 x5) _ b l ⟨e.val, by omega⟩ rfl rfl rfl, conv]
  rw [dif_neg h1]
  by_cases h2 : e.val < 2048
  · rw [dif_pos h2]
    refine (concatenate_apply_piece (t := S8x4096x7168) 2 _ _ _ 1 (by show _ < 6; omega) S8x4096x1024 _ rfl rfl 1024 rfl (ix3 b l ⟨e.val - 1024, by omega⟩) (fun d hd => hu _ _ d rfl hd)
      (by show 1024 + (e.val - 1024) = e.val; omega)).trans ?_
    rw [val_main_v63_apply, val_main_v62_apply, val_main_v61_apply,
      at3 (val_main_v59 (F := Ideal) x0 x1 x2 x3 x4 x5) (idx_main_v62 _) b l ⟨e.val + 1024, by omega⟩ rfl rfl (by show 2048 + (e.val - 1024) = e.val + 1024; omega),
      at3 (val_main_v59 (F := Ideal) x0 x1 x2 x3 x4 x5) (idx_main_v61 _) b l ⟨e.val, by omega⟩ rfl rfl (by show 1024 + (e.val - 1024) = e.val; omega), conv, conv]
    exact mul_comm (G := EReal) _ _
  rw [dif_neg h2]
  by_cases h3 : e.val < 3072
  · rw [dif_pos h3]
    refine (concatenate_apply_piece (t := S8x4096x7168) 2 _ _ _ 2 (by show _ < 6; omega) S8x4096x1024 _ rfl rfl 2048 rfl (ix3 b l ⟨e.val - 2048, by omega⟩) (fun d hd => hu _ _ d rfl hd)
      (by show 2048 + (e.val - 2048) = e.val; omega)).trans ?_
    rw [rotq]
    refine (rope_apply _ _ _ b l _).trans ?_
    congr 1
    funext d
    rw [val_main_v30_apply, at3 (val_main_v28 (F := Ideal) x0 x1 x2 x3) _ b l ⟨3072 + d.val, by omega⟩ rfl rfl rfl, dot]
  rw [dif_neg h3]
  by_cases h4 : e.val < 4096
  · rw [dif_pos h4]
    refine (concatenate_apply_piece (t := S8x4096x7168) 2 _ _ _ 3 (by show _ < 6; omega) S8x4096x1024 _ rfl rfl 3072 rfl (ix3 b l ⟨e.val - 3072, by omega⟩) (fun d hd => hu _ _ d rfl hd)
      (by show 3072 + (e.val - 3072) = e.val; omega)).trans ?_
    rw [rotk]
    refine (rope_apply _ _ _ b l _).trans ?_
    congr 1
    funext d
    rw [val_main_v31_apply, at3 (val_main_v28 (F := Ideal) x0 x1 x2 x3) _ b l ⟨4096 + d.val, by omega⟩ rfl rfl rfl, dot]
  rw [dif_neg h4]
  by_cases h5 : e.val < 5120
  · rw [dif_pos h5]
    refine (concatenate_apply_piece (t := S8x4096x7168) 2 _ _ _ 4 (by show _ < 6; omega) S8x4096x1024 _ rfl rfl 4096 rfl (ix3 b l ⟨e.val - 4096, by omega⟩) (fun d hd => hu _ _ d rfl hd)
      (by show 4096 + (e.val - 4096) = e.val; omega)).trans ?_
    rw [val_main_v32_apply, at3 (val_main_v28 (F := Ideal) x0 x1 x2 x3) _ b l ⟨e.val + 1024, by omega⟩ rfl rfl (by show 5120 + (e.val - 4096) = e.val + 1024; omega), dot]
  rw [dif_neg h5]
  refine (concatenate_apply_piece (t := S8x4096x7168) 2 _ _ _ 5 (by show _ < 6; omega) S8x4096x2048 _ rfl rfl 5120 rfl (ix3 b l ⟨e.val - 5120, by omega⟩) (fun d hd => hu _ _ d rfl hd)
    (by show 5120 + (e.val - 5120) = e.val; omega)).trans ?_
  rw [gate]
  refine congrArg (fun j => Ideal.logistic (colDot _ _ j)) (Fin.ext ?_)
  show 6144 + (e.val - 5120) = e.val + 1024
  omega

end Cert.ProjRef

end
-- ==== Proof.lean ====
module

public import proofs.«01_k».proof.Proof.Gen.Kernel4Ideal.Value
public import proofs.«01_k».proof.Proof.Gen.Reference4Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.KernelIdeal.Value
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2Ideal.Value
public import proofs.«01_k».proof.Proof.Gen.Reference2Ideal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3Ideal.Value
public import proofs.«01_k».proof.Proof.Gen.Reference3Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.AttnKernel
public import proofs.«01_k».proof.Proof.AttnRef
public import proofs.«01_k».proof.Proof.AttnPre
public import proofs.«01_k».proof.Proof.FfnRef
public import proofs.«01_k».proof.Proof.MergeRef
public import proofs.«01_k».proof.Proof.ProjKernel
public import proofs.«01_k».proof.Proof.ProjRef
public import Idealize.ShloMosaic.Adequacy
public import Idealize.ShloMosaic.Init

@[expose] public section

noncomputable section

namespace Cert.Proof

open Idealize.ShloMosaic Idealize.SL.Sem

/-- The reference runs, leaves its arguments as they were, and declares no semaphore. -/
theorem frame_ref : Cert.quiescent_ReferenceIdeal := by
  intro m g _
  exact (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- On finite arguments the attention kernel and its reference end with the same result. -/
theorem attention : Cert.algebraic_KernelIdeal_ReferenceIdeal_pre_finite := by
  intro m g m' g' hpre hagree
  have hp := fun (c : Dev Cert.KernelIdeal.nD) => AttnPre.real0 _ _ _ _ _ _ _ (hpre c).1
  have hpc := fun (c : Dev Cert.KernelIdeal.nD) => AttnPre.real1 _ _ _ _ _ _ _ (hpre c).2.1
  have hlam := fun (c : Dev Cert.KernelIdeal.nD) => AttnPre.lam_real
    (fun j => m ((c.tc : Thread Cert.KernelIdeal.nD Cert.KernelIdeal.τ).loc Cert.KernelIdeal.main_arg2) (ValueIdx.ix2 0 j)) (fun j => m ((c.tc : Thread Cert.KernelIdeal.nD Cert.KernelIdeal.τ).loc Cert.KernelIdeal.main_arg3) (ValueIdx.ix2 0 j))
    (fun j => m ((c.tc : Thread Cert.KernelIdeal.nD Cert.KernelIdeal.τ).loc Cert.KernelIdeal.main_arg4) (ValueIdx.ix2 0 j)) (fun j => m ((c.tc : Thread Cert.KernelIdeal.nD Cert.KernelIdeal.τ).loc Cert.KernelIdeal.main_arg5) (ValueIdx.ix2 0 j))
    (fun j => AttnPre.real2 _ _ _ _ _ _ _ (hpre c).2.2.1 _) (fun j => AttnPre.real3 _ _ _ _ _ _ _ (hpre c).2.2.2.1 _)
    (fun j => AttnPre.real4 _ _ _ _ _ _ _ (hpre c).2.2.2.2.1 _) (fun j => AttnPre.real5 _ _ _ _ _ _ _ (hpre c).2.2.2.2.2 _)
  choose lam hlam using hlam
  refine ⟨fun c => AttnKernel.attnOut (lam c)
      (fun b l k => EReal.toReal (m ((c.tc : Thread Cert.KernelIdeal.nD Cert.KernelIdeal.τ).loc Cert.KernelIdeal.main_arg0) (ValueIdx.ix3 b l k)))
      (fun b l k => EReal.toReal (m ((c.tc : Thread Cert.KernelIdeal.nD Cert.KernelIdeal.τ).loc Cert.KernelIdeal.main_arg1) (ValueIdx.ix3 b l k)))
      (fun e => m ((c.tc : Thread Cert.KernelIdeal.nD Cert.KernelIdeal.τ).loc Cert.KernelIdeal.main_arg6) (ValueIdx.ix2 0 e)),
    (θ_run Cert.KernelIdeal.defs _ _).mono (fun r h c => ⟨(h c).1.trans ?_, (h c).2⟩) (Cert.KernelIdeal.Value.run_blocks (F := Ideal) m g),
    (θ_run Cert.ReferenceIdeal.defs _ _).mono (fun r h c => ⟨(h c).1.trans ?_, (h c).2⟩) (Cert.ReferenceIdeal.Value.run (F := Ideal) m' g')⟩
  · exact AttnKernel.final m c (lam c) _ _ (fun b l k h1 h2 => hp c b l k h1 h2) (fun b l k => hpc c _) (hlam c)
  · obtain ⟨e0, e1, e2, e3, e4, e5, e6⟩ := hagree c
    refine (Cert.ReferenceIdeal.Read.val_main_v67_eq m' c).trans ?_
    rw [e0, e1, e2, e3, e4, e5, e6]
    exact AttnRef.result_eq _ _ _ _ _ _ _ (lam c) _ _ (fun b l k h1 h2 => hp c b l k h1 h2) (fun b l k => hpc c _) (hlam c)

/-- The feed-forward reference runs, leaves its arguments as they were, and declares no semaphore. -/
theorem frame_ref2 : Cert.quiescent_Reference2Ideal := by
  intro m g _
  exact (θ_run Cert.Reference2Ideal.defs _ _).mono
    (fun r h => ⟨fun c => (h c).2, Idealize.ShloMosaic.sem_eq_zero_of_no_sems (by decide) r.2⟩)
    (Cert.Reference2Ideal.Value.run (F := Ideal) m g)

/-- On any arguments the feed-forward kernel and its reference end with the same result. -/
theorem ffn : Cert.algebraic_Kernel2Ideal_Reference2Ideal := by
  intro m g m' g' _ hagree
  refine ⟨fun c => (fun i : Cert.Kernel2Ideal.S8x4096x1024.Idx => FfnKernel.ffnAt
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4)) (i 0) (i 1) (i 2)),
    (θ_run Cert.Kernel2Ideal.defs _ _).mono (fun r h c => ⟨(h c).1.trans ?_, (h c).2⟩) (Cert.Kernel2Ideal.Value.run_blocks (F := Ideal) m g),
    (θ_run Cert.Reference2Ideal.defs _ _).mono (fun r h c => ⟨(h c).1.trans ?_, (h c).2⟩) (Cert.Reference2Ideal.Value.run (F := Ideal) m' g')⟩
  · exact FfnKernel.result m c
  · obtain ⟨e0, e1, e2, e3, e4⟩ := hagree c
    refine (Cert.Reference2Ideal.Read.val_main_v59_eq m' c).trans ?_
    rw [e0, e1, e2, e3, e4]
    exact FfnRef.result _ _ _ _ _

/-- The merge reference runs, leaves its arguments as they were, and declares no semaphore. -/
theorem frame_ref3 : Cert.quiescent_Reference3Ideal := by
  intro m g _
  exact (θ_run Cert.Reference3Ideal.defs _ _).mono
    (fun r h => ⟨fun c => (h c).2, Idealize.ShloMosaic.sem_eq_zero_of_no_sems (by decide) r.2⟩)
    (Cert.Reference3Ideal.Value.run (F := Ideal) m g)

/-- On any arguments the merge kernel and its reference end with the same result. -/
theorem merge : Cert.algebraic_Kernel3Ideal_Reference3Ideal := by
  intro m g m' g' _ hagree
  refine ⟨fun c => (fun i : Cert.Kernel3Ideal.S8x4096x1024.Idx => MergeKernel.mergeAt
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5))
      (m ((c.tc : Thread Cert.Kernel3Ideal.nD Cert.Kernel3Ideal.τ).loc Cert.Kernel3Ideal.main_arg6))
      (m ((c.tc : Thread Cert.Kernel3Ideal.nD Cert.Kernel3Ideal.τ).loc Cert.Kernel3Ideal.main_arg7))
      (m ((c.tc : Thread Cert.Kernel3Ideal.nD Cert.Kernel3Ideal.τ).loc Cert.Kernel3Ideal.main_arg8)) (i 0) (i 1) (i 2)),
    (θ_run Cert.Kernel3Ideal.defs _ _).mono (fun r h c => ⟨(h c).1.trans ?_, (h c).2⟩) (Cert.Kernel3Ideal.Value.run_blocks (F := Ideal) m g),
    (θ_run Cert.Reference3Ideal.defs _ _).mono (fun r h c => ⟨(h c).1.trans ?_, (h c).2⟩) (Cert.Reference3Ideal.Value.run (F := Ideal) m' g')⟩
  · exact MergeKernel.result m c
  · obtain ⟨e0, e1, e2, e3, e4, e5, e6, e7, e8⟩ := hagree c
    refine (Cert.Reference3Ideal.Read.val_main_v35_eq m' c).trans ?_
    rw [e0, e1, e2, e3, e4, e5, e6, e7, e8]
    exact MergeRef.result _ _ _ _ _ _ _ _ _

/-- The projection's reference runs, leaves its arguments as they were, and declares no semaphore. -/
theorem frame_ref4 : Cert.quiescent_Reference4Ideal := by
  intro m g _
  exact (θ_run Cert.Reference4Ideal.defs _ _).mono
    (fun r h => ⟨fun c => (h c).2, Idealize.ShloMosaic.sem_eq_zero_of_no_sems (by decide) r.2⟩)
    (Cert.Reference4Ideal.Value.run (F := Ideal) m g)

/-- On any arguments the projection kernel and its reference end with the same result. -/
theorem proj : Cert.algebraic_Kernel4Ideal_Reference4Ideal := by
  intro m g m' g' _ hagree
  refine ⟨fun c => (fun i : Cert.Kernel4Ideal.S8x4096x7168.Idx => ProjTables.projAt
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4))
      (m ((c.tc : Thread Cert.Kernel4Ideal.nD Cert.Kernel4Ideal.τ).loc Cert.Kernel4Ideal.main_arg5))
      (m ((c.tc : Thread Cert.Kernel4Ideal.nD Cert.Kernel4Ideal.τ).loc Cert.Kernel4Ideal.main_arg6))
      (m ((c.tc : Thread Cert.Kernel4Ideal.nD Cert.Kernel4Ideal.τ).loc Cert.Kernel4Ideal.main_arg7)) (i 0) (i 1) (i 2)),
    (θ_run Cert.Kernel4Ideal.defs _ _).mono (fun r h c => ⟨(h c).1.trans ?_, (h c).2⟩) (Cert.Kernel4Ideal.Value.run_blocks (F := Ideal) m g),
    (θ_run Cert.Reference4Ideal.defs _ _).mono (fun r h c => ⟨(h c).1.trans ?_, (h c).2⟩) (Cert.Reference4Ideal.Value.run (F := Ideal) m' g')⟩
  · exact ProjKernel.result m c
  · obtain ⟨e0, e1, e2, e3, e4, e5, e6, e7⟩ := hagree c
    refine (Cert.Reference4Ideal.Read.val_main_v113_eq m' c).trans ?_
    rw [e0, e1, e2, e3, e4, e5, e6, e7]
    exact ProjRef.result _ _ _ _ _ _ _ _

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.AttnPre.facts,
  fun m g _ => Cert.Kernel.Gen.frame m g, fun m g _ => Cert.KernelIdeal.Gen.frame m g, fun m g _ => Cert.KernelIdeal.Gen.frame m g,
  frame_ref, fun m g _ => frame_ref m g trivial,
  fun m g _ => Cert.Kernel2.Gen.frame m g, fun m g _ => Cert.Kernel2Ideal.Gen.frame m g, frame_ref2,
  fun m g _ => Cert.Kernel3.Gen.frame m g, fun m g _ => Cert.Kernel3Ideal.Gen.frame m g, frame_ref3,
  fun m g _ => Cert.Kernel4.Gen.frame m g, fun m g _ => Cert.Kernel4Ideal.Gen.frame m g, frame_ref4,
  IdealRules.named_const.statement Cert.KernelIdeal.κ "q_scale" .f32 0x3E38AA3B#32 ((8⁻¹ * (Real.log 2)⁻¹ : ℝ) : EReal) rfl,
  attention, trivial, ffn, trivial, merge, trivial, proj⟩

end Cert.Proof

end
